-- ==== Defs.lean ====
def Pre_Topk (m : (ℓ : Loc Cert.Topk.nD Cert.Topk.τ Cert.Topk.sig) → Buf (Elt Bits) ℓ) : Prop :=
  True

def Pre_TopkIdeal (m : (ℓ : Loc Cert.TopkIdeal.nD Cert.TopkIdeal.τ Cert.TopkIdeal.sig) → Buf (Elt Ideal) ℓ) : Prop :=
  True

def Pre_Gather [hPre_rows_in_range : Cert.Pre_rows_in_range.Facts] (m : (ℓ : Loc Cert.Gather.nD Cert.Gather.τ Cert.Gather.sig) → Buf (Elt Bits) ℓ) : Prop :=
  ∀ c : Dev Cert.Gather.nD,
    (Cert.Pre_rows_in_range.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_rows_in_range : Cert.Pre_rows_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_rows_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_rows_in_range [hPre_rows_in_range : Cert.Pre_rows_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_rows_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1)) (m ((c.tc : Thread Cert.GatherReferenceIdeal.nD Cert.GatherReferenceIdeal.τ).loc Cert.GatherReferenceIdeal.main_arg2))) = (fun _ => 1#1)

def Pre_KernelIdeal [hPre_finite_without_zero_columns : Cert.Pre_finite_without_zero_columns.Facts] (m : (ℓ : Loc Cert.KernelIdeal.nD Cert.KernelIdeal.τ Cert.KernelIdeal.sig) → Buf (Elt Ideal) ℓ) : Prop :=
  ∀ c : Dev Cert.KernelIdeal.nD,
    (Cert.Pre_finite_without_zero_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_without_zero_columns [hPre_finite_without_zero_columns : Cert.Pre_finite_without_zero_columns.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_without_zero_columns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Topk [hTopk : Cert.Topk.Facts] : Prop :=
  ∀ (m : (ℓ : Loc Cert.Topk.nD Cert.Topk.τ Cert.Topk.sig) → Buf (Elt Bits) ℓ) (g : Dev Cert.Topk.nD → PrngReg), Pre_Topk m →
    θ_run (Cert.Topk.defs (F := Bits)) (onTc (τ := Cert.Topk.τ) (Cert.Topk.main (F := Bits))) ⟨m, fun _ => 0, g⟩ (fun r => (∀ c : Dev Cert.Topk.nD,
      r.2.mem ((c.tc : Thread Cert.Topk.nD Cert.Topk.τ).loc Cert.Topk.main_arg0) = m ((c.tc : Thread Cert.Topk.nD Cert.Topk.τ).loc Cert.Topk.main_arg0)
      ∧ r.2.mem ((c.tc : Thread Cert.Topk.nD Cert.Topk.τ).loc Cert.Topk.main_arg1) = m ((c.tc : Thread Cert.Topk.nD Cert.Topk.τ).loc Cert.Topk.main_arg1)
      ∧ r.2.mem ((c.tc : Thread Cert.Topk.nD Cert.Topk.τ).loc Cert.Topk.main_arg2) = m ((c.tc : Thread Cert.Topk.nD Cert.Topk.τ).loc Cert.Topk.main_arg2))
      ∧ r.2.sem = fun _ => 0)

def quiescent_TopkIdeal [hTopkIdeal : Cert.TopkIdeal.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1)
      ∧ r.2.mem ((c.tc : Thread Cert.TopkIdeal.nD Cert.TopkIdeal.τ).loc Cert.TopkIdeal.main_arg2) = m ((c.tc : Thread Cert.TopkIdeal.nD Cert.TopkIdeal.τ).loc Cert.TopkIdeal.main_arg2))
      ∧ r.2.sem = fun _ => 0)

def quiescent_Gather [hGather : Cert.Gather.Facts] [hPre_rows_in_range : Cert.Pre_rows_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_rows_in_range : Cert.Pre_rows_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2))
      ∧ r.2.sem = fun _ => 0)

def quiescent_GatherReferenceIdeal_pre_rows_in_range [hGatherReferenceIdeal : Cert.GatherReferenceIdeal.Facts] [hPre_rows_in_range : Cert.Pre_rows_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_rows_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2))
      ∧ r.2.sem = fun _ => 0)

def quiescent_KernelIdeal [hKernelIdeal : Cert.KernelIdeal.Facts] [hPre_finite_without_zero_columns : Cert.Pre_finite_without_zero_columns.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_without_zero_columns [hReferenceIdeal : Cert.ReferenceIdeal.Facts] [hPre_finite_without_zero_columns : Cert.Pre_finite_without_zero_columns.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_without_zero_columns m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Topk_TopkIdeal : Prop :=
  True

def preserves_Gather_GatherIdeal : Prop :=
  True

def algebraic_GatherIdeal_GatherReferenceIdeal [hGatherIdeal : Cert.GatherIdeal.Facts] [hGatherReferenceIdeal : Cert.GatherReferenceIdeal.Facts] [hPre_rows_in_range : Cert.Pre_rows_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)
      ∧ m' ((c.tc : Thread Cert.GatherReferenceIdeal.nD Cert.GatherReferenceIdeal.τ).loc Cert.GatherReferenceIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v5)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v5) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v16) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1)
          ∧ r.2.mem ((c.tc : Thread Cert.GatherReferenceIdeal.nD Cert.GatherReferenceIdeal.τ).loc Cert.GatherReferenceIdeal.main_arg2) = m' ((c.tc : Thread Cert.GatherReferenceIdeal.nD Cert.GatherReferenceIdeal.τ).loc Cert.GatherReferenceIdeal.main_arg2))

def algebraic_KernelIdeal_ReferenceIdeal [hKernelIdeal : Cert.KernelIdeal.Facts] [hReferenceIdeal : Cert.ReferenceIdeal.Facts] [hPre_finite_without_zero_columns : Cert.Pre_finite_without_zero_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hTopk : Cert.Topk.Facts) (hTopkIdeal : Cert.TopkIdeal.Facts) (hGather : Cert.Gather.Facts) (hGatherIdeal : Cert.GatherIdeal.Facts) (hGatherReferenceIdeal : Cert.GatherReferenceIdeal.Facts) (hKernelIdeal : Cert.KernelIdeal.Facts) (hReferenceIdeal : Cert.ReferenceIdeal.Facts) (hPre_rows_in_range : Cert.Pre_rows_in_range.Facts) (hPre_finite_without_zero_columns : Cert.Pre_finite_without_zero_columns.Facts),
    quiescent_Topk (hTopk := hTopk)
    ∧ quiescent_TopkIdeal (hTopkIdeal := hTopkIdeal)
    ∧ quiescent_Gather (hGather := hGather) (hPre_rows_in_range := hPre_rows_in_range)
    ∧ quiescent_GatherIdeal (hGatherIdeal := hGatherIdeal) (hPre_rows_in_range := hPre_rows_in_range)
    ∧ quiescent_GatherReferenceIdeal (hGatherReferenceIdeal := hGatherReferenceIdeal)
    ∧ quiescent_GatherReferenceIdeal_pre_rows_in_range (hGatherReferenceIdeal := hGatherReferenceIdeal) (hPre_rows_in_range := hPre_rows_in_range)
    ∧ quiescent_KernelIdeal (hKernelIdeal := hKernelIdeal) (hPre_finite_without_zero_columns := hPre_finite_without_zero_columns)
    ∧ quiescent_ReferenceIdeal (hReferenceIdeal := hReferenceIdeal)
    ∧ quiescent_ReferenceIdeal_pre_finite_without_zero_columns (hReferenceIdeal := hReferenceIdeal) (hPre_finite_without_zero_columns := hPre_finite_without_zero_columns)
    ∧ preserves_Topk_TopkIdeal
    ∧ preserves_Gather_GatherIdeal
    ∧ algebraic_GatherIdeal_GatherReferenceIdeal (hGatherIdeal := hGatherIdeal) (hGatherReferenceIdeal := hGatherReferenceIdeal) (hPre_rows_in_range := hPre_rows_in_range)
    ∧ algebraic_KernelIdeal_ReferenceIdeal (hKernelIdeal := hKernelIdeal) (hReferenceIdeal := hReferenceIdeal) (hPre_finite_without_zero_columns := hPre_finite_without_zero_columns)
-- ==== Pre_finite_without_zero_columns.lean ====
abbrev S4x768x256 : Shape := ⟨3, ![4, 768, 256]⟩
abbrev S4x768x8192 : Shape := ⟨3, ![4, 768, 8192]⟩
abbrev S96x768 : Shape := ⟨2, ![96, 768]⟩
abbrev S96 : Shape := ⟨1, ![96]⟩
abbrev S_ : Shape := ⟨0, ![]⟩
abbrev S4x256 : Shape := ⟨2, ![4, 256]⟩
abbrev S4x8192 : Shape := ⟨2, ![4, 8192]⟩

class Facts : Prop where
  bcast_S_S4x768x256 : S_.BroadcastsInDim S4x768x256 (![] : Fin 0 → Fin S4x768x256.rank)
  reducesTo_S4x768x256_S4x256_d1 : S4x768x256.ReducesTo [1] S4x256
  h_S_ : 0 < S_.numel
  reducesTo_S4x256_S_d0_1 : S4x256.ReducesTo [0, 1] S_
  bcast_S_S4x768x8192 : S_.BroadcastsInDim S4x768x8192 (![] : Fin 0 → Fin S4x768x8192.rank)
  reducesTo_S4x768x8192_S4x8192_d1 : S4x768x8192.ReducesTo [1] S4x8192
  reducesTo_S4x8192_S_d0_1 : S4x8192.ReducesTo [0, 1] S_
  reducesTo_S4x768x8192_S_d0_1_2 : S4x768x8192.ReducesTo [0, 1, 2] S_
  bcast_S_S96x768 : S_.BroadcastsInDim S96x768 (![] : Fin 0 → Fin S96x768.rank)
  reducesTo_S96x768_S_d0_1 : S96x768.ReducesTo [0, 1] S_

variable [Facts]

def fn_part1 {F : FTy → Type} [FloatOps F] (main_v13 : IVec S_ 1) (main_v14 : FVec F S96x768 .f32) (main_cst_6 : FVec F S_ .f32) : IVec S_ 1 :=
  let main_v15 : FVec F S96x768 .f32 := broadcastInDim S96x768 ![] bcast_S_S96x768 main_cst_6
  let main_v16 : IVec S96x768 1 := cmpf .olt main_v14 main_v15
  let main_c_7 : IVec S_ 1 := constantI S_ 1 1#1
  let main_v17 : IVec S_ 1 := (fun x v => Host.reduce IntOp.andi x v reducesTo_S96x768_S_d0_1 h_S_) main_v16 main_c_7
  let main_v18 : IVec S_ 1 := andi main_v13 main_v17
  main_v18

def fn {F : FTy → Type} [FloatOps F] (main_arg0 : FVec F S4x768x256 .f32) (main_arg1 : FVec F S4x768x8192 .f32) (main_arg2 : FVec F S96x768 .f32) (main_arg3 : FVec F S96 .f32) : IVec S_ 1 :=
  let main_cst : FVec F S_ .f32 := constant S_ .f32 0x00000000#32
  let main_v0 : FVec F S4x768x256 .f32 := broadcastInDim S4x768x256 ![] bcast_S_S4x768x256 main_cst
  let main_v1 : IVec S4x768x256 1 := cmpf .une main_arg0 main_v0
  let main_c : IVec S_ 1 := constantI S_ 1 0#1
  let main_v2 : IVec S4x256 1 := (fun x v => Host.reduce IntOp.ori x v reducesTo_S4x768x256_S4x256_d1 h_S_) main_v1 main_c
  let main_c_0 : IVec S_ 1 := constantI S_ 1 1#1
  let main_v3 : IVec S_ 1 := (fun x v => Host.reduce IntOp.andi x v reducesTo_S4x256_S_d0_1 h_S_) main_v2 main_c_0
  let main_cst_1 : FVec F S_ .f32 := constant S_ .f32 0x00000000#32
  let main_v4 : FVec F S4x768x8192 .f32 := broadcastInDim S4x768x8192 ![] bcast_S_S4x768x8192 main_cst_1
  let main_v5 : IVec S4x768x8192 1 := cmpf .une main_arg1 main_v4
  let main_c_2 : IVec S_ 1 := constantI S_ 1 0#1
  let main_v6 : IVec S4x8192 1 := (fun x v => Host.reduce IntOp.ori x v reducesTo_S4x768x8192_S4x8192_d1 h_S_) main_v5 main_c_2
  let main_c_3 : IVec S_ 1 := constantI S_ 1 1#1
  let main_v7 : IVec S_ 1 := (fun x v => Host.reduce IntOp.andi x v reducesTo_S4x8192_S_d0_1 h_S_) main_v6 main_c_3
  let main_v8 : IVec S_ 1 := andi main_v3 main_v7
  let main_v9 : FVec F S4x768x8192 .f32 := Host.absf main_arg1
  let main_cst_4 : FVec F S_ .f32 := constant S_ .f32 0x7F800000#32
  let main_v10 : FVec F S4x768x8192 .f32 := broadcastInDim S4x768x8192 ![] bcast_S_S4x768x8192 main_cst_4
  let main_v11 : IVec S4x768x8192 1 := cmpf .olt main_v9 main_v10
  let main_c_5 : IVec S_ 1 := constantI S_ 1 1#1
  let main_v12 : IVec S_ 1 := (fun x v => Host.reduce IntOp.andi x v reducesTo_S4x768x8192_S_d0_1_2 h_S_) main_v11 main_c_5
  let main_v13 : IVec S_ 1 := andi main_v8 main_v12
  let main_v14 : FVec F S96x768 .f32 := Host.absf main_arg2
  let main_cst_6 : FVec F S_ .f32 := constant S_ .f32 0x7F800000#32
  fn_part1 (F := F) main_v13 main_v14 main_cst_6
-- ==== Pre_rows_in_range.lean ====
abbrev S4x8192x128 : Shape := ⟨3, ![4, 8192, 128]⟩
abbrev S4x4x256 : Shape := ⟨3, ![4, 4, 256]⟩
abbrev S96 : Shape := ⟨1, ![96]⟩
abbrev S_ : Shape := ⟨0, ![]⟩

class Facts : Prop where
  bcast_S_S4x4x256 : S_.BroadcastsInDim S4x4x256 (![] : Fin 0 → Fin S4x4x256.rank)

variable [Facts]

def fn {F : FTy → Type} [FloatOps F] (main_arg0 : FVec F S4x8192x128 .f32) (main_arg1 : IVec S4x4x256 32) (main_arg2 : FVec F S96 .f32) : IVec S4x4x256 1 :=
  let main_c : IVec S_ 32 := constantI S_ 32 0#32
  let main_v0 : IVec S4x4x256 32 := broadcastInDim S4x4x256 ![] bcast_S_S4x4x256 main_c
  let main_v1 : IVec S4x4x256 1 := cmpi .sge main_arg1 main_v0
  let main_c_0 : IVec S_ 32 := constantI S_ 32 32768#32
  let main_v2 : IVec S4x4x256 32 := broadcastInDim S4x4x256 ![] bcast_S_S4x4x256 main_c_0
  let main_v3 : IVec S4x4x256 1 := cmpi .slt main_arg1 main_v2
  let main_v4 : IVec S4x4x256 1 := andi main_v1 main_v3
  main_v4
-- ==== Topk.lean ====
abbrev S4x768x256 : Shape := ⟨3, ![4, 768, 256]⟩
abbrev S4x768x8192 : Shape := ⟨3, ![4, 768, 8192]⟩
abbrev S96x768 : Shape := ⟨2, ![96, 768]⟩
abbrev S768x96 : Shape := ⟨2, ![768, 96]⟩
abbrev S_ : Shape := ⟨0, ![]⟩
abbrev S768x128 : Shape := ⟨2, ![768, 128]⟩
abbrev S4096 : Shape := ⟨1, ![4096]⟩
abbrev S4096x1 : Shape := ⟨2, ![4096, 1]⟩
abbrev S4096x256 : Shape := ⟨2, ![4096, 256]⟩
abbrev S4x8192x128 : Shape := ⟨3, ![4, 8192, 128]⟩
abbrev S4x4x256 : Shape := ⟨3, ![4, 4, 256]⟩
abbrev S1x768x256 : Shape := ⟨3, ![1, 768, 256]⟩
abbrev S1x768x4096 : Shape := ⟨3, ![1, 768, 4096]⟩
abbrev S1x4096x128 : Shape := ⟨3, ![1, 4096, 128]⟩
abbrev S1x4x256 : Shape := ⟨3, ![1, 4, 256]⟩
abbrev S8x256 : Shape := ⟨2, ![8, 256]⟩
abbrev S768x256 : Shape := ⟨2, ![768, 256]⟩
abbrev S768x4096 : Shape := ⟨2, ![768, 4096]⟩
abbrev S4096x128 : Shape := ⟨2, ![4096, 128]⟩
abbrev S1x4096 : Shape := ⟨2, ![1, 4096]⟩
abbrev S256 : Shape := ⟨1, ![256]⟩
abbrev S1x256 : Shape := ⟨2, ![1, 256]⟩
abbrev S4x256 : Shape := ⟨2, ![4, 256]⟩

abbrev nBuf : Space → Nat
  | .hbm => 12
  | .vmem => 13
  | .smem => 0
  | _ => 0

abbrev bufTy : (tb : Table) → Fin (tcTables nBuf tb) → BufTy
  | .hbm, ⟨0, _⟩ => ⟨S4x768x256, .f32⟩
  | .hbm, ⟨1, _⟩ => ⟨S4x768x8192, .f32⟩
  | .hbm, ⟨2, _⟩ => ⟨S96x768, .f32⟩
  | .hbm, ⟨3, _⟩ => ⟨S768x96, .f32⟩
  | .hbm, ⟨4, _⟩ => ⟨S_, .i32⟩
  | .hbm, ⟨5, _⟩ => ⟨S_, .f32⟩
  | .hbm, ⟨6, _⟩ => ⟨S768x128, .f32⟩
  | .hbm, ⟨7, _⟩ => ⟨S4096, .i32⟩
  | .hbm, ⟨8, _⟩ => ⟨S4096x1, .i32⟩
  | .hbm, ⟨9, _⟩ => ⟨S4096x256, .i32⟩
  | .hbm, ⟨10, _⟩ => ⟨S4x8192x128, .f32⟩
  | .hbm, ⟨11, _⟩ => ⟨S4x4x256, .i32⟩
  | .local _ .vmem, ⟨0, _⟩ => ⟨S1x768x256, .f32⟩
  | .local _ .vmem, ⟨1, _⟩ => ⟨S1x768x256, .f32⟩
  | .local _ .vmem, ⟨2, _⟩ => ⟨S1x768x4096, .f32⟩
  | .local _ .vmem, ⟨3, _⟩ => ⟨S1x768x4096, .f32⟩
  | .local _ .vmem, ⟨4, _⟩ => ⟨S768x128, .f32⟩
  | .local _ .vmem, ⟨5, _⟩ => ⟨S4096x256, .i32⟩
  | .local _ .vmem, ⟨6, _⟩ => ⟨S1x4096x128, .f32⟩
  | .local _ .vmem, ⟨7, _⟩ => ⟨S1x4096x128, .f32⟩
  | .local _ .vmem, ⟨8, _⟩ => ⟨S1x4x256, .i32⟩
  | .local _ .vmem, ⟨9, _⟩ => ⟨S1x4x256, .i32⟩
  | .local _ .vmem, ⟨10, _⟩ => ⟨S4096x256, .f32⟩
  | .local _ .vmem, ⟨11, _⟩ => ⟨S8x256, .f32⟩
  | .local _ .vmem, ⟨12, _⟩ => ⟨S8x256, .i32⟩
  | _, _ => ⟨S4x768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Gather.lean ====
abbrev S4x8192x128 : Shape := ⟨3, ![4, 8192, 128]⟩
abbrev S4x4x256 : Shape := ⟨3, ![4, 4, 256]⟩
abbrev S96 : Shape := ⟨1, ![96]⟩
abbrev S4x256x4 : Shape := ⟨3, ![4, 256, 4]⟩
abbrev S32768x128 : Shape := ⟨2, ![32768, 128]⟩
abbrev S4096 : Shape := ⟨1, ![4096]⟩
abbrev S1024x96 : Shape := ⟨2, ![1024, 96]⟩
abbrev S128 : Shape := ⟨1, ![128]⟩
abbrev S128x128 : Shape := ⟨2, ![128, 128]⟩
abbrev S32x96 : Shape := ⟨2, ![32, 96]⟩
abbrev S_ : Shape := ⟨0, ![]⟩
abbrev S1x16 : Shape := ⟨2, ![1, 16]⟩
abbrev S16 : Shape := ⟨1, ![16]⟩
abbrev S4x256x96 : Shape := ⟨3, ![4, 256, 96]⟩
abbrev S4x96x256 : Shape := ⟨3, ![4, 96, 256]⟩

abbrev nBuf : Table → Nat
  | .hbm => 9
  | .local .scVector .vmem => 4
  | _ => 0

abbrev bufTy : (tb : Table) → Fin (nBuf tb) → BufTy
  | .hbm, ⟨0, _⟩ => ⟨S4x8192x128, .f32⟩
  | .hbm, ⟨1, _⟩ => ⟨S4x4x256, .i32⟩
  | .hbm, ⟨2, _⟩ => ⟨S96, .f32⟩
  | .hbm, ⟨3, _⟩ => ⟨S4x256x4, .i32⟩
  | .hbm, ⟨4, _⟩ => ⟨S32768x128, .f32⟩
  | .hbm, ⟨5, _⟩ => ⟨S4096, .i32⟩
  | .hbm, ⟨6, _⟩ => ⟨S1024x96, .f32⟩
  | .hbm, ⟨7, _⟩ => ⟨S4x256x96, .f32⟩
  | .hbm, ⟨8, _⟩ => ⟨S4x96x256, .f32⟩
  | .local .scVector .vmem, ⟨0, _⟩ => ⟨S128, .i32⟩
  | .local .scVector .vmem, ⟨1, _⟩ => ⟨S128x128, .f32⟩
  | .local .scVector .vmem, ⟨2, _⟩ => ⟨S96, .f32⟩
  | .local .scVector .vmem, ⟨3, _⟩ => ⟨S32x96, .f32⟩
  | _, _ => ⟨S4x8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v2_scv : Ref sig .scVector := ⟨.hbm, 5, rfl⟩
abbrev main_v1_scv : Ref sig .scVector := ⟨.hbm, 4, rfl⟩
abbrev main_arg2_scv : Ref sig .scVector := ⟨.hbm, 2, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32_4 : BitVec 32 := 0#32
  let c32_i32 : BitVec 32 := 32#32
  let v5 : BitVec 32 := Scalar.addi c0_i32_4 c32_i32
  let c1_i32 : BitVec 32 := 1#32
  ⟨c0_i32_4, v5, c1_i32⟩
def k0_off2 (k0_t1 : Fin k0_t1_loop.trips) : Fin 2 → Nat :=
  let c4_i32 : BitVec 32 := 4#32
  let c0_i32_4 : BitVec 32 := 0#32
  let c1_i32 : BitVec 32 := 1#32
  let arg11 : BitVec 32 := Scf.iv c0_i32_4 c1_i32 k0_t1
  let v7 : BitVec 32 := Scalar.muli c4_i32 arg11
  let v8 : Index := Scalar.indexCast v7
  let c0 : Index := 0#32
  ![v8.toNat, 0]
def k0_off3 (k0_t1 : Fin k0_t1_loop.trips) (c1_i32_8 : BitVec 32) : Fin 2 → Nat :=
  let c4_i32_7 : BitVec 32 := 4#32
  let c0_i32_4 : BitVec 32 := 0#32
  let c1_i32 : BitVec 32 := 1#32
  let arg11 : BitVec 32 := Scf.iv c0_i32_4 c1_i32 k0_t1
  let v11 : BitVec 32 := Scalar.muli c4_i32_7 arg11
  let v12 : BitVec 32 := Scalar.addi v11 c1_i32_8
  let v13 : Index := Scalar.indexCast v12
  let c0_9 : Index := 0#32
  ![v13.toNat, 0]
def k0_off4 (k0_t1 : Fin k0_t1_loop.trips) : Fin 2 → Nat :=
  let c0_i32_4 : BitVec 32 := 0#32
  let c1_i32 : BitVec 32 := 1#32
  let arg11 : BitVec 32 := Scf.iv c0_i32_4 c1_i32 k0_t1
  let v34 : Index := Scalar.indexCast arg11
  let c0_16 : Index := 0#32
  ![v34.toNat, 0]
def k0_off5 (k0_t1 : Fin k0_t1_loop.trips) : Fin 2 → Nat :=
  let c4_i32_17 : BitVec 32 := 4#32
  let c0_i32_4 : BitVec 32 := 0#32
  let c1_i32 : BitVec 32 := 1#32
  let arg11 : BitVec 32 := Scf.iv c0_i32_4 c1_i32 k0_t1
  let v38 : BitVec 32 := Scalar.muli c4_i32_17 arg11
  let v39 : Index := Scalar.indexCast v38
  let c16 : Index := 16#32
  ![v39.toNat, 16]
def k0_off6 (k0_t1 : Fin k0_t1_loop.trips) (c1_i32_19 : BitVec 32) : Fin 2 → Nat :=
  let c4_i32_18 : BitVec 32 := 4#32
  let c0_i32_4 : BitVec 32 := 0#32
  let c1_i32 : BitVec 32 := 1#32
  let arg11 : BitVec 32 := Scf.iv c0_i32_4 c1_i32 k0_t1
  let v42 : BitVec 32 := Scalar.muli c4_i32_18 arg11
  let v43 : BitVec 32 := Scalar.addi v42 c1_i32_19
  let v44 : Index := Scalar.indexCast v43
  let c16_20 : Index := 16#32
  ![v44.toNat, 16]
def k0_off7 (k0_t1 : Fin k0_t1_loop.trips) : Fin 2 → Nat :=
  let c0_i32_4 : BitVec 32 := 0#32
  let c1_i32 : BitVec 32 := 1#32
  let arg11 : BitVec 32 := Scf.iv c0_i32_4 c1_i32 k0_t1
  let v65 : Index := Scalar.indexCast arg11
  let c16_29 : Index := 16#32
  ![v65.toNat, 16]
def k0_off8 (k0_t1 : Fin k0_t1_loop.trips) : Fin 2 → Nat :=
  let c4_i32_30 : BitVec 32 := 4#32
  let c0_i32_4 : BitVec 32 := 0#32
  let c1_i32 : BitVec 32 := 1#32
  let arg11 : BitVec 32 := Scf.iv c0_i32_4 c1_i32 k0_t1
  let v69 : BitVec 32 := Scalar.muli c4_i32_30 arg11
  let v70 : Index := Scalar.indexCast v69
  let c32 : Index := 32#32
  ![v70.toNat, 32]
def k0_off9 (k0_t1 : Fin k0_t1_loop.trips) (c1_i32_32 : BitVec 32) : Fin 2 → Nat :=
  let c4_i32_31 : BitVec 32 := 4#32
  let c0_i32_4 : BitVec 32 := 0#32
  let c1_i32 : BitVec 32 := 1#32
  let arg11 : BitVec 32 := Scf.iv c0_i32_4 c1_i32 k0_t1
  let v73 : BitVec 32 := Scalar.muli c4_i32_31 arg11
  let v74 : BitVec 32 := Scalar.addi v73 c1_i32_32
  let v75 : Index := Scalar.indexCast v74
  let c32_33 : Index := 32#32
  ![v75.toNat, 32]
def k0_off10 (k0_t1 : Fin k0_t1_loop.trips) : Fin 2 → Nat :=
  let c0_i32_4 : BitVec 32 := 0#32
  let c1_i32 : BitVec 32 := 1#32
  let arg11 : BitVec 32 := Scf.iv c0_i32_4 c1_i32 k0_t1
  let v96 : Index := Scalar.indexCast arg11
  let c32_42 : Index := 32#32
  ![v96.toNat, 32]
def k0_off11 (k0_t1 : Fin k0_t1_loop.trips) : Fin 2 → Nat :=
  let c4_i32_43 : BitVec 32 := 4#32
  let c0_i32_4 : BitVec 32 := 0#32
  let c1_i32 : BitVec 32 := 1#32
  let arg11 : BitVec 32 := Scf.iv c0_i32_4 c1_i32 k0_t1
  let v100 : BitVec 32 := Scalar.muli c4_i32_43 arg11
  let v101 : Index := Scalar.indexCast v100
  let c48 : Index := 48#32
  ![v101.toNat, 48]
def k0_off12 (k0_t1 : Fin k0_t1_loop.trips) (c1_i32_45 : BitVec 32) : Fin 2 → Nat :=
  let c4_i32_44 : BitVec 32 := 4#32
  let c0_i32_4 : BitVec 32 := 0#32
  let c1_i32 : BitVec 32 := 1#32
  let arg11 : BitVec 32 := Scf.iv c0_i32_4 c1_i32 k0_t1
  let v104 : BitVec 32 := Scalar.muli c4_i32_44 arg11
  let v105 : BitVec 32 := Scalar.addi v104 c1_i32_45
  let v106 : Index := Scalar.indexCast v105
  let c48_46 : Index := 48#32
  ![v106.toNat, 48]
def k0_off13 (k0_t1 : Fin k0_t1_loop.trips) : Fin 2 → Nat :=
  let c0_i32_4 : BitVec 32 := 0#32
  let c1_i32 : BitVec 32 := 1#32
  let arg11 : BitVec 32 := Scf.iv c0_i32_4 c1_i32 k0_t1
  let v127 : Index := Scalar.indexCast arg11
  let c48_55 : Index := 48#32
  ![v127.toNat, 48]
def k0_off14 (k0_t1 : Fin k0_t1_loop.trips) : Fin 2 → Nat :=
  let c4_i32_56 : BitVec 32 := 4#32
  let c0_i32_4 : BitVec 32 := 0#32
  let c1_i32 : BitVec 32 := 1#32
  let arg11 : BitVec 32 := Scf.iv c0_i32_4 c1_i32 k0_t1
  let v131 : BitVec 32 := Scalar.muli c4_i32_56 arg11
  let v132 : Index := Scalar.indexCast v131
  let c64 : Index := 64#32
  ![v132.toNat, 64]
def k0_off15 (k0_t1 : Fin k0_t1_loop.trips) (c1_i32_58 : BitVec 32) : Fin 2 → Nat :=
  let c4_i32_57 : BitVec 32 := 4#32
  let c0_i32_4 : BitVec 32 := 0#32
  let c1_i32 : BitVec 32 := 1#32
  let arg11 : BitVec 32 := Scf.iv c0_i32_4 c1_i32 k0_t1
  let v135 : BitVec 32 := Scalar.muli c4_i32_57 arg11
  let v136 : BitVec 32 := Scalar.addi v135 c1_i32_58
  let v137 : Index := Scalar.indexCast v136
  let c64_59 : Index := 64#32
  ![v137.toNat, 64]
def k0_off16 (k0_t1 : Fin k0_t1_loop.trips) : Fin 2 → Nat :=
  let c0_i32_4 : BitVec 32 := 0#32
  let c1_i32 : BitVec 32 := 1#32
  let arg11 : BitVec 32 := Scf.iv c0_i32_4 c1_i32 k0_t1
  let v158 : Index := Scalar.indexCast arg11
  let c64_68 : Index := 64#32
  ![v158.toNat, 64]
def k0_off17 (k0_t1 : Fin k0_t1_loop.trips) : Fin 2 → Nat :=
  let c4_i32_69 : BitVec 32 := 4#32
  let c0_i32_4 : BitVec 32 := 0#32
  let c1_i32 : BitVec 32 := 1#32
  let arg11 : BitVec 32 := Scf.iv c0_i32_4 c1_i32 k0_t1
  let v162 : BitVec 32 := Scalar.muli c4_i32_69 arg11
  let v163 : Index := Scalar.indexCast v162
  let c80 : Index := 80#32
  ![v163.toNat, 80]
def k0_off18 (k0_t1 : Fin k0_t1_loop.trips) (c1_i32_71 : BitVec 32) : Fin 2 → Nat :=
  let c4_i32_70 : BitVec 32 := 4#32
  let c0_i32_4 : BitVec 32 := 0#32
  let c1_i32 : BitVec 32 := 1#32
  let arg11 : BitVec 32 := Scf.iv c0_i32_4 c1_i32 k0_t1
  let v166 : BitVec 32 := Scalar.muli c4_i32_70 arg11
  let v167 : BitVec 32 := Scalar.addi v166 c1_i32_71
  let v168 : Index := Scalar.indexCast v167
  let c80_72 : Index := 80#32
  ![v168.toNat, 80]
def k0_off19 (k0_t1 : Fin k0_t1_loop.trips) : Fin 2 → Nat :=
  let c0_i32_4 : BitVec 32 := 0#32
  let c1_i32 : BitVec 32 := 1#32
  let arg11 : BitVec 32 := Scf.iv c0_i32_4 c1_i32 k0_t1
  let v189 : Index := Scalar.indexCast arg11
  let c80_81 : Index := 80#32
  ![v189.toNat, 80]
def k0_off20 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_6 : BitVec 32 := 32#32
  let v6 : BitVec 32 := Scalar.muli v1 c32_i32_6
  let c0_i32_7_r2 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S4x8192x128 : Shape := ⟨3, ![4, 8192, 128]⟩
abbrev S4x4x256 : Shape := ⟨3, ![4, 4, 256]⟩
abbrev S96 : Shape := ⟨1, ![96]⟩
abbrev S32768x128 : Shape := ⟨2, ![32768, 128]⟩
abbrev S4x256x4 : Shape := ⟨3, ![4, 256, 4]⟩
abbrev S_ : Shape := ⟨0, ![]⟩
abbrev S4x256x4x1 : Shape := ⟨4, ![4, 256, 4, 1]⟩
abbrev S4x256x4x128 : Shape := ⟨4, ![4, 256, 4, 128]⟩
abbrev S4x256x128 : Shape := ⟨3, ![4, 256, 128]⟩
abbrev S4x256x96 : Shape := ⟨3, ![4, 256, 96]⟩
abbrev S4x96x256 : Shape := ⟨3, ![4, 96, 256]⟩
abbrev S1x96x1 : Shape := ⟨3, ![1, 96, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S4x4x256, .i32⟩
  | .hbm, ⟨2, _⟩ => ⟨S96, .f32⟩
  | .hbm, ⟨3, _⟩ => ⟨S32768x128, .f32⟩
  | .hbm, ⟨4, _⟩ => ⟨S4x256x4, .i32⟩
  | .hbm, ⟨5, _⟩ => ⟨S_, .i32⟩
  | .hbm, ⟨6, _⟩ => ⟨S4x256x4, .i32⟩
  | .hbm, ⟨7, _⟩ => ⟨S4x256x4, .i1⟩
  | .hbm, ⟨8, _⟩ => ⟨S_, .i32⟩
  | .hbm, ⟨9, _⟩ => ⟨S4x256x4, .i32⟩
  | .hbm, ⟨10, _⟩ => ⟨S4x256x4, .i32⟩
  | .hbm, ⟨11, _⟩ => ⟨S4x256x4, .i32⟩
  | .hbm, ⟨12, _⟩ => ⟨S4x256x4x1, .i32⟩
  | .hbm, ⟨13, _⟩ => ⟨S4x256x4x128, .f32⟩
  | .hbm, ⟨14, _⟩ => ⟨S_, .f32⟩
  | .hbm, ⟨15, _⟩ => ⟨S4x256x128, .f32⟩
  | .hbm, ⟨16, _⟩ => ⟨S_, .f32⟩
  | .hbm, ⟨17, _⟩ => ⟨S4x256x128, .f32⟩
  | .hbm, ⟨18, _⟩ => ⟨S4x256x128, .f32⟩
  | .hbm, ⟨19, _⟩ => ⟨S4x256x96, .f32⟩
  | .hbm, ⟨20, _⟩ => ⟨S4x96x256, .f32⟩
  | .hbm, ⟨21, _⟩ => ⟨S1x96x1, .f32⟩
  | .hbm, ⟨22, _⟩ => ⟨S4x96x256, .f32⟩
  | .hbm, ⟨23, _⟩ => ⟨S4x96x256, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelIdeal.lean ====
abbrev S4x768x256 : Shape := ⟨3, ![4, 768, 256]⟩
abbrev S4x768x8192 : Shape := ⟨3, ![4, 768, 8192]⟩
abbrev S96x768 : Shape := ⟨2, ![96, 768]⟩
abbrev S96 : Shape := ⟨1, ![96]⟩
abbrev S768x96 : Shape := ⟨2, ![768, 96]⟩
abbrev S_ : Shape := ⟨0, ![]⟩
abbrev S768x128 : Shape := ⟨2, ![768, 128]⟩
abbrev S4096 : Shape := ⟨1, ![4096]⟩
abbrev S4096x1 : Shape := ⟨2, ![4096, 1]⟩
abbrev S4096x256 : Shape := ⟨2, ![4096, 256]⟩
abbrev S4x8192x128 : Shape := ⟨3, ![4, 8192, 128]⟩
abbrev S4x4x256 : Shape := ⟨3, ![4, 4, 256]⟩
abbrev S1x768x256 : Shape := ⟨3, ![1, 768, 256]⟩
abbrev S1x768x4096 : Shape := ⟨3, ![1, 768, 4096]⟩
abbrev S1x4096x128 : Shape := ⟨3, ![1, 4096, 128]⟩
abbrev S1x4x256 : Shape := ⟨3, ![1, 4, 256]⟩
abbrev S8x256 : Shape := ⟨2, ![8, 256]⟩
abbrev S768x256 : Shape := ⟨2, ![768, 256]⟩
abbrev S768x4096 : Shape := ⟨2, ![768, 4096]⟩
abbrev S4096x128 : Shape := ⟨2, ![4096, 128]⟩
abbrev S1x4096 : Shape := ⟨2, ![1, 4096]⟩
abbrev S256 : Shape := ⟨1, ![256]⟩
abbrev S1x256 : Shape := ⟨2, ![1, 256]⟩
abbrev S4x256 : Shape := ⟨2, ![4, 256]⟩
abbrev S4x256x4 : Shape := ⟨3, ![4, 256, 4]⟩
abbrev S32768x128 : Shape := ⟨2, ![32768, 128]⟩
abbrev S1024x96 : Shape := ⟨2, ![1024, 96]⟩
abbrev S128 : Shape := ⟨1, ![128]⟩
abbrev S128x128 : Shape := ⟨2, ![128, 128]⟩
abbrev S32x96 : Shape := ⟨2, ![32, 96]⟩
abbrev S1x16 : Shape := ⟨2, ![1, 16]⟩
abbrev S16 : Shape := ⟨1, ![16]⟩
abbrev S4x256x96 : Shape := ⟨3, ![4, 256, 96]⟩
abbrev S4x96x256 : Shape := ⟨3, ![4, 96, 256]⟩

abbrev nBuf : Table → Nat
  | .hbm => 19
  | .local .tc .vmem => 13
  | .local .scVector .vmem => 4
  | _ => 0

abbrev bufTy : (tb : Table) → Fin (nBuf tb) → BufTy
  | .hbm, ⟨0, _⟩ => ⟨S4x768x256, .f32⟩
  | .hbm, ⟨1, _⟩ => ⟨S4x768x8192, .f32⟩
  | .hbm, ⟨2, _⟩ => ⟨S96x768, .f32⟩
  | .hbm, ⟨3, _⟩ => ⟨S96, .f32⟩
  | .hbm, ⟨4, _⟩ => ⟨S768x96, .f32⟩
  | .hbm, ⟨5, _⟩ => ⟨S_, .i32⟩
  | .hbm, ⟨6, _⟩ => ⟨S_, .f32⟩
  | .hbm, ⟨7, _⟩ => ⟨S768x128, .f32⟩
  | .hbm, ⟨8, _⟩ => ⟨S4096, .i32⟩
  | .hbm, ⟨9, _⟩ => ⟨S4096x1, .i32⟩
  | .hbm, ⟨10, _⟩ => ⟨S4096x256, .i32⟩
  | .hbm, ⟨11, _⟩ => ⟨S4x8192x128, .f32⟩
  | .hbm, ⟨12, _⟩ => ⟨S4x4x256, .i32⟩
  | .hbm, ⟨13, _⟩ => ⟨S4x256x4, .i32⟩
  | .hbm, ⟨14, _⟩ => ⟨S32768x128, .f32⟩
  | .hbm, ⟨15, _⟩ => ⟨S4096, .i32⟩
  | .hbm, ⟨16, _⟩ => ⟨S1024x96, .f32⟩
  | .hbm, ⟨17, _⟩ => ⟨S4x256x96, .f32⟩
  | .hbm, ⟨18, _⟩ => ⟨S4x96x256, .f32⟩
  | .local .tc .vmem, ⟨0, _⟩ => ⟨S1x768x256, .f32⟩
  | .local .tc .vmem, ⟨1, _⟩ => ⟨S1x768x256, .f32⟩
  | .local .tc .vmem, ⟨2, _⟩ => ⟨S1x768x4096, .f32⟩
  | .local .tc .vmem, ⟨3, _⟩ => ⟨S1x768x4096, .f32⟩
  | .local .tc .vmem, ⟨4, _⟩ => ⟨S768x128, .f32⟩
  | .local .tc .vmem, ⟨5, _⟩ => ⟨S4096x256, .i32⟩
  | .local .tc .vmem, ⟨6, _⟩ => ⟨S1x4096x128, .f32⟩
  | .local .tc .vmem, ⟨7, _⟩ => ⟨S1x4096x128, .f32⟩
  | .local .tc .vmem, ⟨8, _⟩ => ⟨S1x4x256, .i32⟩
  | .local .tc .vmem, ⟨9, _⟩ => ⟨S1x4x256, .i32⟩
  | .local .tc .vmem, ⟨10, _⟩ => ⟨S4096x256, .f32⟩
  | .local .tc .vmem, ⟨11, _⟩ => ⟨S8x256, .f32⟩
  | .local .tc .vmem, ⟨12, _⟩ => ⟨S8x256, .i32⟩
  | .local .scVector .vmem, ⟨0, _⟩ => ⟨S128, .i32⟩
  | .local .scVector .vmem, ⟨1, _⟩ => ⟨S128x128, .f32⟩
  | .local .scVector .vmem, ⟨2, _⟩ => ⟨S96, .f32⟩
  | .local .scVector .vmem, ⟨3, _⟩ => ⟨S32x96, .f32⟩
  | _, _ => ⟨S4x768x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v8_scv : Ref sig .scVector := ⟨.hbm, 15, rfl⟩
abbrev main_v7_scv : Ref sig .scVector := ⟨.hbm, 14, rfl⟩
abbrev main_arg3_scv : Ref sig .scVector := ⟨.hbm, 3, rfl⟩
abbrev main_v9_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k1_t1_loop : Scf.Loop 32 :=
  let c0_i32_4 : BitVec 32 := 0#32
  let c32_i32 : BitVec 32 := 32#32
  let v5 : BitVec 32 := Scalar.addi c0_i32_4 c32_i32
  let c1_i32 : BitVec 32 := 1#32
  ⟨c0_i32_4, v5, c1_i32⟩
def k1_off2 (k1_t1 : Fin k1_t1_loop.trips) : Fin 2 → Nat :=
  let c4_i32 : BitVec 32 := 4#32
  let c0_i32_4 : BitVec 32 := 0#32
  let c1_i32 : BitVec 32 := 1#32
  let arg11 : BitVec 32 := Scf.iv c0_i32_4 c1_i32 k1_t1
  let v7 : BitVec 32 := Scalar.muli c4_i32 arg11
  let v8 : Index := Scalar.indexCast v7
  let c0 : Index := 0#32
  ![v8.toNat, 0]
def k1_off3 (k1_t1 : Fin k1_t1_loop.trips) (c1_i32_8 : BitVec 32) : Fin 2 → Nat :=
  let c4_i32_7 : BitVec 32 := 4#32
  let c0_i32_4 : BitVec 32 := 0#32
  let c1_i32 : BitVec 32 := 1#32
  let arg11 : BitVec 32 := Scf.iv c0_i32_4 c1_i32 k1_t1
  let v11 : BitVec 32 := Scalar.muli c4_i32_7 arg11
  let v12 : BitVec 32 := Scalar.addi v11 c1_i32_8
  let v13 : Index := Scalar.indexCast v12
  let c0_9 : Index := 0#32
  ![v13.toNat, 0]
def k1_off4 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let v34 : Index := Scalar.indexCast arg11
  let c0_16 : Index := 0#32
  ![v34.toNat, 0]
def k1_off5 (k1_t1 : Fin k1_t1_loop.trips) : Fin 2 → Nat :=
  let c4_i32_17 : BitVec 32 := 4#32
  let c0_i32_4 : BitVec 32 := 0#32
  let c1_i32 : BitVec 32 := 1#32
  let arg11 : BitVec 32 := Scf.iv c0_i32_4 c1_i32 k1_t1
  let v38 : BitVec 32 := Scalar.muli c4_i32_17 arg11
  let v39 : Index := Scalar.indexCast v38
  let c16 : Index := 16#32
  ![v39.toNat, 16]
def k1_off6 (k1_t1 : Fin k1_t1_loop.trips) (c1_i32_19 : BitVec 32) : Fin 2 → Nat :=
  let c4_i32_18 : BitVec 32 := 4#32
  let c0_i32_4 : BitVec 32 := 0#32
  let c1_i32 : BitVec 32 := 1#32
  let arg11 : BitVec 32 := Scf.iv c0_i32_4 c1_i32 k1_t1
  let v42 : BitVec 32 := Scalar.muli c4_i32_18 arg11
  let v43 : BitVec 32 := Scalar.addi v42 c1_i32_19
  let v44 : Index := Scalar.indexCast v43
  let c16_20 : Index := 16#32
  ![v44.toNat, 16]
def k1_off7 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let v65 : Index := Scalar.indexCast arg11
  let c16_29 : Index := 16#32
  ![v65.toNat, 16]
def k1_off8 (k1_t1 : Fin k1_t1_loop.trips) : Fin 2 → Nat :=
  let c4_i32_30 : BitVec 32 := 4#32
  let c0_i32_4 : BitVec 32 := 0#32
  let c1_i32 : BitVec 32 := 1#32
  let arg11 : BitVec 32 := Scf.iv c0_i32_4 c1_i32 k1_t1
  let v69 : BitVec 32 := Scalar.muli c4_i32_30 arg11
  let v70 : Index := Scalar.indexCast v69
  let c32 : Index := 32#32
  ![v70.toNat, 32]
def k1_off9 (k1_t1 : Fin k1_t1_loop.trips) (c1_i32_32 : BitVec 32) : Fin 2 → Nat :=
  let c4_i32_31 : BitVec 32 := 4#32
  let c0_i32_4 : BitVec 32 := 0#32
  let c1_i32 : BitVec 32 := 1#32
  let arg11 : BitVec 32 := Scf.iv c0_i32_4 c1_i32 k1_t1
  let v73 : BitVec 32 := Scalar.muli c4_i32_31 arg11
  let v74 : BitVec 32 := Scalar.addi v73 c1_i32_32
  let v75 : Index := Scalar.indexCast v74
  let c32_33 : Index := 32#32
  ![v75.toNat, 32]
def k1_off10 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let v96 : Index := Scalar.indexCast arg11
  let c32_42 : Index := 32#32
  ![v96.toNat, 32]
def k1_off11 (k1_t1 : Fin k1_t1_loop.trips) : Fin 2 → Nat :=
  let c4_i32_43 : BitVec 32 := 4#32
  let c0_i32_4 : BitVec 32 := 0#32
  let c1_i32 : BitVec 32 := 1#32
  let arg11 : BitVec 32 := Scf.iv c0_i32_4 c1_i32 k1_t1
  let v100 : BitVec 32 := Scalar.muli c4_i32_43 arg11
  let v101 : Index := Scalar.indexCast v100
  let c48 : Index := 48#32
  ![v101.toNat, 48]
def k1_off12 (k1_t1 : Fin k1_t1_loop.trips) (c1_i32_45 : BitVec 32) : Fin 2 → Nat :=
  let c4_i32_44 : BitVec 32 := 4#32
  let c0_i32_4 : BitVec 32 := 0#32
  let c1_i32 : BitVec 32 := 1#32
  let arg11 : BitVec 32 := Scf.iv c0_i32_4 c1_i32 k1_t1
  let v104 : BitVec 32 := Scalar.muli c4_i32_44 arg11
  let v105 : BitVec 32 := Scalar.addi v104 c1_i32_45
  let v106 : Index := Scalar.indexCast v105
  let c48_46 : Index := 48#32
  ![v106.toNat, 48]
def k1_off13 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let v127 : Index := Scalar.indexCast arg11
  let c48_55 : Index := 48#32
  ![v127.toNat, 48]
def k1_off14 (k1_t1 : Fin k1_t1_loop.trips) : Fin 2 → Nat :=
  let c4_i32_56 : BitVec 32 := 4#32
  let c0_i32_4 : BitVec 32 := 0#32
  let c1_i32 : BitVec 32 := 1#32
  let arg11 : BitVec 32 := Scf.iv c0_i32_4 c1_i32 k1_t1
  let v131 : BitVec 32 := Scalar.muli c4_i32_56 arg11
  let v132 : Index := Scalar.indexCast v131
  let c64 : Index := 64#32
  ![v132.toNat, 64]
def k1_off15 (k1_t1 : Fin k1_t1_loop.trips) (c1_i32_58 : BitVec 32) : Fin 2 → Nat :=
  let c4_i32_57 : BitVec 32 := 4#32
  let c0_i32_4 : BitVec 32 := 0#32
  let c1_i32 : BitVec 32 := 1#32
  let arg11 : BitVec 32 := Scf.iv c0_i32_4 c1_i32 k1_t1
  let v135 : BitVec 32 := Scalar.muli c4_i32_57 arg11
  let v136 : BitVec 32 := Scalar.addi v135 c1_i32_58
  let v137 : Index := Scalar.indexCast v136
  let c64_59 : Index := 64#32
  ![v137.toNat, 64]
def k1_off16 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let v158 : Index := Scalar.indexCast arg11
  let c64_68 : Index := 64#32
  ![v158.toNat, 64]
def k1_off17 (k1_t1 : Fin k1_t1_loop.trips) : Fin 2 → Nat :=
  let c4_i32_69 : BitVec 32 := 4#32
  let c0_i32_4 : BitVec 32 := 0#32
  let c1_i32 : BitVec 32 := 1#32
  let arg11 : BitVec 32 := Scf.iv c0_i32_4 c1_i32 k1_t1
  let v162 : BitVec 32 := Scalar.muli c4_i32_69 arg11
  let v163 : Index := Scalar.indexCast v162
  let c80 : Index := 80#32
  ![v163.toNat, 80]
def k1_off18 (k1_t1 : Fin k1_t1_loop.trips) (c1_i32_71 : BitVec 32) : Fin 2 → Nat :=
  let c4_i32_70 : BitVec 32 := 4#32
  let c0_i32_4 : BitVec 32 := 0#32
  let c1_i32 : BitVec 32 := 1#32
  let arg11 : BitVec 32 := Scf.iv c0_i32_4 c1_i32 k1_t1
  let v166 : BitVec 32 := Scalar.muli c4_i32_70 arg11
  let v167 : BitVec 32 := Scalar.addi v166 c1_i32_71
  let v168 : Index := Scalar.indexCast v167
  let c80_72 : Index := 80#32
  ![v168.toNat, 80]
def k1_off19 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let v189 : Index := Scalar.indexCast arg11
  let c80_81 : Index := 80#32
  ![v189.toNat, 80]
def k1_off20 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_6 : BitVec 32 := 32#32
  let v6 : BitVec 32 := Scalar.muli v1 c32_i32_6
  let c0_i32_7_r2 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x768x256 : Shape := ⟨3, ![4, 768, 256]⟩
abbrev S4x768x8192 : Shape := ⟨3, ![4, 768, 8192]⟩
abbrev S96x768 : Shape := ⟨2, ![96, 768]⟩
abbrev S96 : Shape := ⟨1, ![96]⟩
abbrev S4x256x768 : Shape := ⟨3, ![4, 256, 768]⟩
abbrev S4x8192x768 : Shape := ⟨3, ![4, 8192, 768]⟩
abbrev S_ : Shape := ⟨0, ![]⟩
abbrev S4x256 : Shape := ⟨2, ![4, 256]⟩
abbrev S4x256x1 : Shape := ⟨3, ![4, 256, 1]⟩
abbrev S4x8192 : Shape := ⟨2, ![4, 8192]⟩
abbrev S4x8192x1 : Shape := ⟨3, ![4, 8192, 1]⟩
abbrev S4x256x8192 : Shape := ⟨3, ![4, 256, 8192]⟩
abbrev S4x256x4 : Shape := ⟨3, ![4, 256, 4]⟩
abbrev S4x256x4x1 : Shape := ⟨4, ![4, 256, 4, 1]⟩
abbrev S4x256x4x768 : Shape := ⟨4, ![4, 256, 4, 768]⟩
abbrev S4x256x96 : Shape := ⟨3, ![4, 256, 96]⟩
abbrev S4x96x256 : Shape := ⟨3, ![4, 96, 256]⟩
abbrev S1x96x1 : Shape := ⟨3, ![1, 96, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x768x256, .f32⟩
  | .hbm, ⟨1, _⟩ => ⟨S4x768x8192, .f32⟩
  | .hbm, ⟨2, _⟩ => ⟨S96x768, .f32⟩
  | .hbm, ⟨3, _⟩ => ⟨S96, .f32⟩
  | .hbm, ⟨4, _⟩ => ⟨S4x256x768, .f32⟩
  | .hbm, ⟨5, _⟩ => ⟨S4x8192x768, .f32⟩
  | .hbm, ⟨6, _⟩ => ⟨S4x256x768, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S4x256x1, .f32⟩
  | .hbm, ⟨11, _⟩ => ⟨S4x8192x768, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x1, .f32⟩
  | .hbm, ⟨16, _⟩ => ⟨S4x256x768, .f32⟩
  | .hbm, ⟨17, _⟩ => ⟨S4x256x768, .f32⟩
  | .hbm, ⟨18, _⟩ => ⟨S4x8192x768, .f32⟩
  | .hbm, ⟨19, _⟩ => ⟨S4x8192x768, .f32⟩
  | .hbm, ⟨20, _⟩ => ⟨S4x768x8192, .f32⟩
  | .hbm, ⟨21, _⟩ => ⟨S4x256x8192, .f32⟩
  | .hbm, ⟨22, _⟩ => ⟨S4x256x4, .f32⟩
  | .hbm, ⟨23, _⟩ => ⟨S4x256x4, .i32⟩
  | .hbm, ⟨24, _⟩ => ⟨S_, .i32⟩
  | .hbm, ⟨25, _⟩ => ⟨S4x256x4, .i32⟩
  | .hbm, ⟨26, _⟩ => ⟨S4x256x4, .i1⟩
  | .hbm, ⟨27, _⟩ => ⟨S_, .i32⟩
  | .hbm, ⟨28, _⟩ => ⟨S4x256x4, .i32⟩
  | .hbm, ⟨29, _⟩ => ⟨S4x256x4, .i32⟩
  | .hbm, ⟨30, _⟩ => ⟨S4x256x4, .i32⟩
  | .hbm, ⟨31, _⟩ => ⟨S4x256x4x1, .i32⟩
  | .hbm, ⟨32, _⟩ => ⟨S4x256x4x768, .f32⟩
  | .hbm, ⟨33, _⟩ => ⟨S_, .f32⟩
  | .hbm, ⟨34, _⟩ => ⟨S4x256x768, .f32⟩
  | .hbm, ⟨35, _⟩ => ⟨S_, .f32⟩
  | .hbm, ⟨36, _⟩ => ⟨S4x256x768, .f32⟩
  | .hbm, ⟨37, _⟩ => ⟨S4x256x768, .f32⟩
  | .hbm, ⟨38, _⟩ => ⟨S4x768x256, .f32⟩
  | .hbm, ⟨39, _⟩ => ⟨S4x256x96, .f32⟩
  | .hbm, ⟨40, _⟩ => ⟨S4x96x256, .f32⟩
  | .hbm, ⟨41, _⟩ => ⟨S1x96x1, .f32⟩
  | .hbm, ⟨42, _⟩ => ⟨S4x96x256, .f32⟩
  | .hbm, ⟨43, _⟩ => ⟨S4x96x256, .f32⟩
  | _, _ => ⟨S4x768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_values : Ref sig .tc := ⟨.hbm, 22, rfl⟩
abbrev main_indices : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Proof.GatherTile.lean ====
/-
  One task of the gather-and-average SparseCore call, on a symbolic vector subcore: the bias and the task's 128 row
  numbers fetched, the 128 rows of the table gathered by the indirect copy, each group of four rows averaged and the
  bias added in the counted loop, the 32 results copied out. The task's post states the values it leaves.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.WritesUnit
public import Idealize.ShloMosaic.Lib.ValueIdxCore
public import proofs.«01_k».proof.Proof.Gen.GatherIdeal
public import proofs.«01_k».proof.Proof.Gen.GatherIdeal.Skeleton

@[expose] public section

noncomputable section

namespace Cert.Proof.GatherTile

open Cert.GatherIdeal Cert.GatherIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The call's arrays and the tasks' parts of them -/

abbrev iRef : Ref sig .tc := main_v2
abbrev xRef : Ref sig .tc := main_v1
abbrev bRef : Ref sig .tc := main_arg2
abbrev oRef : Ref sig .tc := main_v3
abbrev iRefV : Ref sig .scVector := main_v2_scv
abbrev xRefV : Ref sig .scVector := main_v1_scv
abbrev bRefV : Ref sig .scVector := main_arg2_scv
abbrev oRefV : Ref sig .scVector := main_v3_scv

abbrev iLoc (d : Dev nD) : Loc nD τ sig := (SparseCore.T d).loc iRef
abbrev xLoc (d : Dev nD) : Loc nD τ sig := (SparseCore.T d).loc xRef
abbrev bLoc (d : Dev nD) : Loc nD τ sig := (SparseCore.T d).loc bRef
abbrev oLoc (d : Dev nD) : Loc nD τ sig := (SparseCore.T d).loc oRef

abbrev iV : Memref sig Kind.scVector Space.hbm S4096 EltTy.i32 := Memref.whole iRefV
abbrev xV : Memref sig Kind.scVector Space.hbm S32768x128 EltTy.f32 := Memref.whole xRefV
abbrev bV : Memref sig Kind.scVector Space.hbm S96 EltTy.f32 := Memref.whole bRefV
abbrev oV : Memref sig Kind.scVector Space.hbm S1024x96 EltTy.f32 := Memref.whole oRefV
abbrev sV : Memref sig Kind.scVector Space.vmem S128 EltTy.i32 := Memref.whole cc0_scratch0
abbrev rV : Memref sig Kind.scVector Space.vmem S128x128 EltTy.f32 := Memref.whole cc0_scratch1
abbrev cV : Memref sig Kind.scVector Space.vmem S96 EltTy.f32 := Memref.whole cc0_scratch2
abbrev aV : Memref sig Kind.scVector Space.vmem S32x96 EltTy.f32 := Memref.whole cc0_scratch3

theorem idiv : 32 ∣ S4096.size 0 := ⟨128, rfl⟩
theorem odiv : 32 ∣ S1024x96.size 0 := ⟨32, rfl⟩
/-- Task `t`'s 128 row numbers and its 32 result rows. -/
abbrev iRowSet (t : Fin 32) : Finset S4096.Idx := (Rect.part (s := S4096) (a₀ := 0) idiv t).set
abbrev oRowSet (t : Fin 32) : Finset S1024x96.Idx := (Rect.part (s := S1024x96) (a₀ := 0) odiv t).set
/-- Task `t`'s share of the table and of the bias. -/
abbrev shr (t : Fin 32) : PosShare TreeShare := leaf 5 fullShare t

/-- The task that vector subcore `s` of SparseCore `c` runs. -/
abbrev task (c : Fin 2) (s : Fin 16) : Fin 32 := ⟨2 * s.val + c.val, by omega⟩

variable [FloatOps F]

/-! ## The values -/

/-- The table's row that entry `n` of the list names. -/
def rowOf (ci : S4096.Idx → BitVec 32) (n : Fin 4096) : Fin 32768 := ⟨(ci (ix1 n)).toNat % 32768, Nat.mod_lt _ (by decide)⟩

/-- The four rows averaged and the bias added, in the task's order of operations. -/
def meanOf (r0 r1 r2 r3 b : F .f32) : F .f32 :=
  FloatOps.addf (FloatOps.mulf (FloatOps.addf (FloatOps.addf (FloatOps.addf r0 r1) r2) r3) (Scalar.ofBits .f32 0x3E800000#32)) b

/-- The call's result, from the list, the table and the bias. -/
def outVal (ci : S4096.Idx → BitVec 32) (cx : S32768x128.Idx → F .f32) (cb : S96.Idx → F .f32) : S1024x96.Idx → F .f32 :=
  fun y =>
    have h0 : (y 0).val < 1024 := (y 0).isLt
    have h1 : (y 1).val < 96 := (y 1).isLt
    let g : (k : Fin 4) → F .f32 := fun k => cx (ix2 (rowOf ci ⟨4 * (y 0).val + k.val, by omega⟩) ⟨(y 1).val, by omega⟩)
    meanOf (g 0) (g 1) (g 2) (g 3) (cb (ix1 ⟨(y 1).val, h1⟩))

/-- The same of the task's own scratch: rows `4i … 4i+3` of the gathered rows averaged, the bias added. -/
def accVal (rv : S128x128.Idx → F .f32) (bv : S96.Idx → F .f32) : S32x96.Idx → F .f32 :=
  fun y =>
    have h0 : (y 0).val < 32 := (y 0).isLt
    have h1 : (y 1).val < 96 := (y 1).isLt
    let g : (k : Fin 4) → F .f32 := fun k => rv (ix2 ⟨4 * (y 0).val + k.val, by omega⟩ ⟨(y 1).val, by omega⟩)
    meanOf (g 0) (g 1) (g 2) (g 3) (bv (ix1 ⟨(y 1).val, h1⟩))

/-! ## The task -/

section Tile

variable (d : Dev nD) (L : grid0.Coords)

abbrev cT (L : grid0.Coords) : Fin τ.nSC := (L 0).castLE hcore0
abbrev jT (L : grid0.Coords) : Fin τ.nSub := (L 1).castLE hsub0
abbrev tT (L : grid0.Coords) : Fin 32 := task (L 0) (L 1)
abbrev vT (d : Dev nD) (L : grid0.Coords) : Thread nD τ := V d (cT L) (jT L)

abbrev iRowK (L : grid0.Coords) : Memref sig .scVector .hbm S128 .i32 := (iV).slice (Rect.unit (s := S4096) (k0_off1 L) S128.size (k0_off1_inb L)) (fun _ => rfl)
abbrev oRowK (L : grid0.Coords) : Memref sig .scVector .hbm S32x96 .f32 := (oV).slice (Rect.unit (s := S1024x96) (k0_off20 L) S32x96.size (k0_off20_inb L)) (fun _ => rfl)
abbrev xAllK : Memref sig .scVector .hbm S32768x128 .f32 := (xV).slice (Rect.unit (s := S32768x128) ![0, 0] S32768x128.size inb_S32768x128_S32768x128_0_0) (fun _ => rfl)

omit [FloatOps F] in
theorem set_iRowK : (iRowK L).view.set = iRowSet (tT L) := by
  show ((View.whole iRefV).slice (Rect.unit (s := S4096) (k0_off1 L) S128.size (k0_off1_inb L))).set = _
  rw [View.set_slice]
  refine Finset.map_refl.trans (congrArg (fun r : Rect _ => r.set) ?_)
  unfold Rect.part Rect.block
  congr 1 <;> funext a
  · rw [k0_off1_eq]
    match a with
    | 0 => simp [Shape.partIx, Shape.partSize]; omega
  · match a with
    | 0 => simp [Shape.partSize]
omit [FloatOps F] in
theorem set_oRowK : (oRowK L).view.set = oRowSet (tT L) := by
  show ((View.whole oRefV).slice (Rect.unit (s := S1024x96) (k0_off20 L) S32x96.size (k0_off20_inb L))).set = _
  rw [View.set_slice]
  refine Finset.map_refl.trans (congrArg (fun r : Rect _ => r.set) ?_)
  unfold Rect.part Rect.block
  congr 1 <;> funext a
  · rw [k0_off20_eq]
    match a with
    | 0 => simp [Shape.partIx, Shape.partSize]; omega
    | 1 => simp [Shape.partIx, Shape.partSize]
  · match a with
    | 0 => simp [Shape.partSize]
    | 1 => simp [Shape.partSize]

abbrev cell (n : DmaSems sig S_) (d : Dev nD) (L : grid0.Coords) : GSem nD τ sig := (vT d L, .dma n.sem)

omit [FloatOps F] in
theorem ownSems0_V :
    (ownSems0 (vT d L) : sProp 𝕄)
      = iprop(semVal (cell cc0_scoped0 d L) 0 ∗ semVal (cell cc0_scoped1 d L) 0 ∗ semVal (cell cc0_scratch4 d L) 0 ∗ semVal (cell cc0_scoped2 d L) 0
          ∗ bigSep (((((ownCells (vT d L)).erase (cell cc0_scoped0 d L)).erase (cell cc0_scoped1 d L)).erase (cell cc0_scratch4 d L)).erase (cell cc0_scoped2 d L))
              fun g => semVal g 0) := by
  unfold SparseCore.Cfg.ownSems0
  have key : ∀ n : DmaSems sig S_, (SemLoc.dma n.sem : SemLoc sig).isScoped .scVector = true → cell n d L ∈ ownCells (vT d L) :=
    fun n h => (mem_ownCells (g := cell n d L)).mpr ⟨rfl, h⟩
  rw [SparseCore.bigSep_erase' (key cc0_scoped0 (by decide)),
    SparseCore.bigSep_erase' (Finset.mem_erase.mpr ⟨by simp [cell]; decide, key cc0_scoped1 (by decide)⟩),
    SparseCore.bigSep_erase' (Finset.mem_erase.mpr ⟨by simp [cell]; decide, Finset.mem_erase.mpr ⟨by simp [cell]; decide, key cc0_scratch4 (by decide)⟩⟩),
    SparseCore.bigSep_erase' (Finset.mem_erase.mpr ⟨by simp [cell]; decide, Finset.mem_erase.mpr ⟨by simp [cell]; decide,
      Finset.mem_erase.mpr ⟨by simp [cell]; decide, key cc0_scoped2 (by decide)⟩⟩⟩)]

abbrev dref (L : grid0.Coords) (r : Ref sig .scVector) : DevRef τ sig := (Proc.scVector (cT L) (jT L)).devRef r

omit [FloatOps F] in
theorem ownBufs_V :
    (ownBufs (vT d L) : sProp 𝕄)
      = iprop((∃ f, (vT d L).loc cc0_scratch0 ↦{fullShare} f) ∗ (∃ f, (vT d L).loc cc0_scratch1 ↦{fullShare} f)
          ∗ (∃ f, (vT d L).loc cc0_scratch2 ↦{fullShare} f) ∗ (∃ f, (vT d L).loc cc0_scratch3 ↦{fullShare} f)
          ∗ bigSep (((((ownRefs (τ := τ) (.scVector (cT L) (jT L))).erase (dref L cc0_scratch0)).erase (dref L cc0_scratch1)).erase (dref L cc0_scratch2)).erase (dref L cc0_scratch3))
              fun b => iprop(∃ f, ((d, b) : Loc nD τ sig) ↦{fullShare} f)) := by
  unfold SparseCore.Cfg.ownBufs
  have key : ∀ r : Ref sig .scVector, (dref L r).owner = .proc (.scVector (cT L) (jT L)) → dref L r ∈ ownRefs (τ := τ) (.scVector (cT L) (jT L)) :=
    fun r h => SparseCore.Cfg.mem_ownRefs_of_owner (p := Proc.scVector (cT L) (jT L)) (b := dref L r) h
  have ne : ∀ r r' : Ref sig .scVector, r ≠ r' → dref L r ≠ dref L r' := fun r r' h e => h (Proc.devRef_injective _ e)
  refine (SparseCore.bigSep_erase' (key cc0_scratch0 rfl)).trans ?_
  rw [SparseCore.bigSep_erase' (Finset.mem_erase.mpr ⟨ne cc0_scratch1 cc0_scratch0 (by decide), key cc0_scratch1 rfl⟩),
    SparseCore.bigSep_erase' (Finset.mem_erase.mpr ⟨ne cc0_scratch2 cc0_scratch1 (by decide), Finset.mem_erase.mpr ⟨ne cc0_scratch2 cc0_scratch0 (by decide), key cc0_scratch2 rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), key cc0_scratch3 rfl⟩⟩⟩)]

variable (ci : (d : Dev nD) → Buf (Elt F) (iLoc d)) (cx : (d : Dev nD) → Buf (Elt F) (xLoc d))
  (cb : (d : Dev nD) → Buf (Elt F) (bLoc d)) (co : (d : Dev nD) → Buf (Elt F) (oLoc d))

abbrev iRowPts (d : Dev nD) (t : Fin 32) : sProp 𝕄 := iLoc d ↦[iRowSet t]{fullShare} ci d
abbrev xShPts (d : Dev nD) (t : Fin 32) : sProp 𝕄 := xLoc d ↦{shr t} cx d
abbrev bShPts (d : Dev nD) (t : Fin 32) : sProp 𝕄 := bLoc d ↦{shr t} cb d
abbrev oRowPts (d : Dev nD) (t : Fin 32) (f : Buf (Elt F) (oLoc d)) : sProp 𝕄 := oLoc d ↦[oRowSet t]{fullShare} f
/-- The result array's contents after the call. -/
abbrev outC (d : Dev nD) : Buf (Elt F) (oLoc d) := outVal (ci d) (cx d) (cb d)

/-- What the proof asks of the list: every word names a row of the table. -/
def InRange : Prop := ∀ (d : Dev nD) (j : S4096.Idx), (ci d j : BitVec 32).toNat < 32768

omit [FloatOps F] in
theorem pts_iRowK (f : Buf (Elt F) (iLoc d)) :
    ((iRowK L).view.loc (vT d L) ↦[(iRowK L).view.set]{fullShare} f : sProp 𝕄) = iLoc d ↦[iRowSet (tT L)]{fullShare} f := by
  rw [set_iRowK]
omit [FloatOps F] in
theorem pts_oRowK (f : Buf (Elt F) (oLoc d)) :
    ((oRowK L).view.loc (vT d L) ↦[(oRowK L).view.set]{fullShare} f : sProp 𝕄) = oLoc d ↦[oRowSet (tT L)]{fullShare} f := by
  rw [set_oRowK]
omit [FloatOps F] in
theorem pts_xV (q : PosShare TreeShare) (f : Buf (Elt F) (xLoc d)) : ((xV).view.loc (vT d L) ↦{q} f : sProp 𝕄) = xLoc d ↦{q} f := rfl
omit [FloatOps F] in
theorem pts_bV (q : PosShare TreeShare) (f : Buf (Elt F) (bLoc d)) : ((bV).view.loc (vT d L) ↦{q} f : sProp 𝕄) = bLoc d ↦{q} f := rfl
omit [FloatOps F] in
theorem pts_sV (f : Buf (Elt F) ((vT d L).loc cc0_scratch0)) : ((sV).view.loc (vT d L) ↦{fullShare} f : sProp 𝕄) = (vT d L).loc cc0_scratch0 ↦{fullShare} f := rfl
omit [FloatOps F] in
theorem pts_rV (f : Buf (Elt F) ((vT d L).loc cc0_scratch1)) : ((rV).view.loc (vT d L) ↦{fullShare} f : sProp 𝕄) = (vT d L).loc cc0_scratch1 ↦{fullShare} f := rfl
omit [FloatOps F] in
theorem pts_cV (f : Buf (Elt F) ((vT d L).loc cc0_scratch2)) : ((cV).view.loc (vT d L) ↦{fullShare} f : sProp 𝕄) = (vT d L).loc cc0_scratch2 ↦{fullShare} f := rfl
omit [FloatOps F] in
theorem pts_aV (f : Buf (Elt F) ((vT d L).loc cc0_scratch3)) : ((aV).view.loc (vT d L) ↦{fullShare} f : sProp 𝕄) = (vT d L).loc cc0_scratch3 ↦{fullShare} f := rfl

omit [FloatOps F] in
theorem cast_row (h : S16.ShapeCasts S1x16) (j : Fin 16) : Shape.reshapeEquiv h (ix2 (0 : Fin 1) j : S1x16.Idx) = (ix1 j : S16.Idx) := by
  revert h j; decide +kernel
omit [FloatOps F] in
theorem cast_flat (h : S1x16.ShapeCasts S16) (j : Fin 16) : Shape.reshapeEquiv h (ix1 j : S16.Idx) = (ix2 (0 : Fin 1) j : S1x16.Idx) := by
  revert h j; decide +kernel
omit [FloatOps F] in
theorem cast_same (h : S16.ShapeCasts S16) (j : Fin 16) : Shape.reshapeEquiv h (ix1 j : S16.Idx) = (ix1 j : S16.Idx) := by
  revert h j; decide +kernel

omit [FloatOps F] in
/-- A row's sixteen columns read out of the gathered rows. -/
theorem read_row (rv : S128x128.Idx → F .f32) {off : Fin 2 → ℕ} (inb : ∀ a, off a + S1x16.size a ≤ S128x128.size a) (a b : ℕ) (h : off = ![a, b])
    (ha : a < 128) (j : Fin 16) (hb : b + j.val < 128) :
    View.readAt (Elt F) (rV).view (Rect.unit (s := S128x128) off S1x16.size inb).toLoadRect rv (ix2 (0 : Fin 1) j : S1x16.Idx)
      = rv (ix2 ⟨a, ha⟩ ⟨b + j.val, hb⟩) := by
  subst h
  refine congrArg rv (funext fun x => Fin.ext ?_)
  match x with
  | ⟨0, _⟩ => show a + 1 * 0 = a; omega
  | ⟨1, _⟩ => show b + 1 * j.val = b + j.val; omega

omit [FloatOps F] in
theorem read_bias (bv : S96.Idx → F .f32) (b : ℕ) (inb : ∀ a, (![b] : Fin 1 → ℕ) a + S16.size a ≤ S96.size a) (j : Fin 16) (hb : b + j.val < 96) :
    View.readAt (Elt F) (cV).view (Rect.unit (s := S96) ![b] S16.size inb).toLoadRect bv (ix1 j : S16.Idx) = bv (ix1 ⟨b + j.val, hb⟩) := by
  refine congrArg bv (funext fun x => Fin.ext ?_)
  match x with
  | ⟨0, _⟩ => show b + 1 * j.val = b + j.val; omega

/-- The sixteen results a store writes, at the place it writes them. -/
theorem acc_at (rv : S128x128.Idx → F .f32) (bv : S96.Idx → F .f32) {off : Fin 2 → ℕ} {inb : ∀ a, off a + S1x16.size a ≤ S32x96.size a} (k c : ℕ)
    (h : off = ![k, c]) (j : Fin 16) (hk : 4 * k + 3 < 128) (hc : c + j.val < 96) {w : F .f32}
    (hw : w = meanOf (rv (ix2 ⟨4 * k, by omega⟩ ⟨c + j.val, by omega⟩)) (rv (ix2 ⟨4 * k + 1, by omega⟩ ⟨c + j.val, by omega⟩))
          (rv (ix2 ⟨4 * k + 2, by omega⟩ ⟨c + j.val, by omega⟩)) (rv (ix2 ⟨4 * k + 3, by omega⟩ ⟨c + j.val, by omega⟩)) (bv (ix1 ⟨c + j.val, hc⟩))) :
    w = accVal rv bv ((Rect.unit (s := S32x96) off S1x16.size inb).emb (ix2 (0 : Fin 1) j : S1x16.Idx)) := by
  subst h
  rw [hw]
  have e0 : (((Rect.unit (s := S32x96) ![k, c] S1x16.size inb).emb (ix2 (0 : Fin 1) j : S1x16.Idx)) 0).val = k := by
    show k + 1 * 0 = k; omega
  have e1 : (((Rect.unit (s := S32x96) ![k, c] S1x16.size inb).emb (ix2 (0 : Fin 1) j : S1x16.Idx)) 1).val = c + j.val := by
    show c + 1 * j.val = c + j.val; omega
  unfold accVal
  simp only [e0, e1]
  rfl

/-- A store's sixteen results from the reads before it. -/
theorem pay_at (v0 v1 v2 v3 : Vec F S1x16 .f32) (b : Vec F S16 .f32) (j : Fin 16) :
    k0_pay2 v0 v1 v2 v3 b (ix2 (0 : Fin 1) j : S1x16.Idx)
      = meanOf (v0 (ix2 (0 : Fin 1) j : S1x16.Idx)) (v1 (ix2 (0 : Fin 1) j : S1x16.Idx)) (v2 (ix2 (0 : Fin 1) j : S1x16.Idx))
          (v3 (ix2 (0 : Fin 1) j : S1x16.Idx)) (b (ix1 j : S16.Idx)) := by
  have e : k0_pay2 v0 v1 v2 v3 b = shapeCast S1x16 (fun i : S16.Idx => meanOf (shapeCast S16 v0 shapeCasts_S1x16_S16 i) (shapeCast S16 v1 shapeCasts_S1x16_S16 i)
      (shapeCast S16 v2 shapeCasts_S1x16_S16 i) (shapeCast S16 v3 shapeCasts_S1x16_S16 i) (shapeCast S16 b shapeCasts_S16_S16 i)) shapeCasts_S16_S1x16 := rfl
  rw [e]
  simp only [shapeCast, cast_row, cast_flat, cast_same]

omit [FloatOps F] in
theorem mem_at (k c : ℕ) {off : Fin 2 → ℕ} {inb : ∀ a, off a + S1x16.size a ≤ S32x96.size a} (h : off = ![k, c]) (y : S32x96.Idx)
    (h0 : (y 0).val = k) (h1 : c ≤ (y 1).val) (h2 : (y 1).val < c + 16) : y ∈ (Rect.unit (s := S32x96) off S1x16.size inb).set := by
  subst h
  refine Rect.mem_set_unit.mpr fun a => ?_
  match a with
  | ⟨0, _⟩ => exact ⟨le_of_eq h0.symm, (by have : (y 0).val < k + 1 := by omega
                                           exact this)⟩
  | ⟨1, _⟩ => exact ⟨h1, h2⟩

omit [FloatOps F] in
theorem row_of_mem (k c : ℕ) {off : Fin 2 → ℕ} (inb : ∀ a, off a + S1x16.size a ≤ S32x96.size a) (h : off = ![k, c]) (y : S32x96.Idx)
    (hm : y ∈ (Rect.unit (s := S32x96) off S1x16.size inb).set) : (y 0).val = k := by
  subst h
  have h0 : k ≤ (y 0).val ∧ (y 0).val < k + 1 := (Rect.mem_set_unit.mp hm) 0
  omega

theorem k0_trips : k0_t1_loop.trips = 32 := by decide

set_option maxHeartbeats 4000000 in
/-- One trip of the counted loop: six stores fill row `k` of the results. -/
theorem trip (k : Fin k0_t1_loop.trips) (rv : S128x128.Idx → F .f32) (bv : S96.Idx → F .f32) (f : S32x96.Idx → F .f32)
    (hf : ∀ y : S32x96.Idx, (y 0).val < k.val → f y = accVal rv bv y) :
    iprop(((rV).view.loc (vT d L) ↦{fullShare} (rv : Buf (Elt F) ((vT d L).loc cc0_scratch1)))
        ∗ ((cV).view.loc (vT d L) ↦{fullShare} (bv : Buf (Elt F) ((vT d L).loc cc0_scratch2)))
        ∗ ((aV).view.loc (vT d L) ↦{fullShare} (f : Buf (Elt F) ((vT d L).loc cc0_scratch3)) : sProp 𝕄))
      ⊢ wp frame (wpE (defs₀ (F := F)) 𝒱₀ (vT d L) none) Set.univ
          (k0_t1_body L iV (Memref.isWhole_whole _) xV (Memref.isWhole_whole _) bV (Memref.isWhole_whole _) oV (Memref.isWhole_whole _)
            sV (Memref.isWhole_whole _) rV (Memref.isWhole_whole _) cV (Memref.isWhole_whole _) aV (Memref.isWhole_whole _)
            cc0_scratch4 cc0_scoped0 cc0_scoped1 cc0_scoped2 k ⟨⟩)
          fun _ => iprop(((rV).view.loc (vT d L) ↦{fullShare} (rv : Buf (Elt F) ((vT d L).loc cc0_scratch1)))
            ∗ ((cV).view.loc (vT d L) ↦{fullShare} (bv : Buf (Elt F) ((vT d L).loc cc0_scratch2)))
            ∗ ∃ f' : Buf (Elt F) ((vT d L).loc cc0_scratch3), ⌜∀ y : S32x96.Idx, (y 0).val < k.val + 1 → f' y = accVal rv bv y⌝
                ∗ (aV).view.loc (vT d L) ↦{fullShare} f') := by
  unfold k0_t1_body
  iintro ⟨Hr, Hc, Ha⟩
  sl_exec
  sl_step
  isplitl [Hr]; · iexact Hr
  isplitl [Hc]; · iexact Hc
  iexists _; isplitr
  swap; · iexact Ha
  ipureintro
  have hk : k.val < 32 := lt_of_lt_of_eq k.isLt k0_trips
  have hx : ∀ x : S1x16.Idx, ∃ j : Fin 16, x = ix2 (0 : Fin 1) j := fun x => ⟨x 1, by
    rw [eq_ix2 x]; congr 1; exact Subsingleton.elim (α := Fin 1) _ _⟩
  intro y hy
  have hy1 : (y 1).val < 96 := (y 1).isLt
  have ew : ∀ L, (aV).view.writes (Elt F) f L = (aV).view.read (Elt F) ((aV).view.writes (Elt F) f L) := fun L => (View.read_whole (Val := Elt F) cc0_scratch3 _).symm
  by_cases hyk : (y 0).val = k.val
  · refine (congrFun (ew _) y).trans ?_
    refine (View.read_writes_apply_of_pieces (Val := Elt F) (s := S32x96) (e := .f32) (aV).view f (accVal rv bv) _ ?_ y ?_)
    · refine List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩
      all_goals
        intro x
        obtain ⟨j, rfl⟩ := hx x
        have hj : j.val < 16 := j.isLt
      · refine acc_at rv bv (inb := k0_off19_inb k) k.val 80 (k0_off19_eq k) j (by omega) (by omega) ?_
        have e0 := read_row rv (k0_off17_inb k) _ _ (k0_off17_eq k) (by omega) j (by omega)
        have e1 := read_row rv (k0_off18_inb k 0) _ _ (k0_off18_eq k 0) (by show _ + 0 + 1 < _; omega) j (by omega)
        have e2 := read_row rv (k0_off18_inb k 1) _ _ (k0_off18_eq k 1) (by show _ + 1 + 1 < _; omega) j (by omega)
        have e3 := read_row rv (k0_off18_inb k 2) _ _ (k0_off18_eq k 2) (by show _ + 2 + 1 < _; omega) j (by omega)
        have e4 := read_bias bv 80 inb_S96_S16_80 j (by omega)
        rw [← e4]
        refine Eq.trans ?_ (congr (congr (congr (congr (congrArg meanOf e0) e1) e2) e3) rfl)
        refine Eq.trans ?_ (pay_at (F := F) _ _ _ _ _ j)
        rfl
      · refine acc_at rv bv (inb := k0_off16_inb k) k.val 64 (k0_off16_eq k) j (by omega) (by omega) ?_
        have e0 := read_row rv (k0_off14_inb k) _ _ (k0_off14_eq k) (by omega) j (by omega)
        have e1 := read_row rv (k0_off15_inb k 0) _ _ (k0_off15_eq k 0) (by show _ + 0 + 1 < _; omega) j (by omega)
        have e2 := read_row rv (k0_off15_inb k 1) _ _ (k0_off15_eq k 1) (by show _ + 1 + 1 < _; omega) j (by omega)
        have e3 := read_row rv (k0_off15_inb k 2) _ _ (k0_off15_eq k 2) (by show _ + 2 + 1 < _; omega) j (by omega)
        have e4 := read_bias bv 64 inb_S96_S16_64 j (by omega)
        rw [← e4]
        refine Eq.trans ?_ (congr (congr (congr (congr (congrArg meanOf e0) e1) e2) e3) rfl)
        refine Eq.trans ?_ (pay_at (F := F) _ _ _ _ _ j)
        rfl
      · refine acc_at rv bv (inb := k0_off13_inb k) k.val 48 (k0_off13_eq k) j (by omega) (by omega) ?_
        have e0 := read_row rv (k0_off11_inb k) _ _ (k0_off11_eq k) (by omega) j (by omega)
        have e1 := read_row rv (k0_off12_inb k 0) _ _ (k0_off12_eq k 0) (by show _ + 0 + 1 < _; omega) j (by omega)
        have e2 := read_row rv (k0_off12_inb k 1) _ _ (k0_off12_eq k 1) (by show _ + 1 + 1 < _; omega) j (by omega)
        have e3 := read_row rv (k0_off12_inb k 2) _ _ (k0_off12_eq k 2) (by show _ + 2 + 1 < _; omega) j (by omega)
        have e4 := read_bias bv 48 inb_S96_S16_48 j (by omega)
        rw [← e4]
        refine Eq.trans ?_ (congr (congr (congr (congr (congrArg meanOf e0) e1) e2) e3) rfl)
        refine Eq.trans ?_ (pay_at (F := F) _ _ _ _ _ j)
        rfl
      · refine acc_at rv bv (inb := k0_off10_inb k) k.val 32 (k0_off10_eq k) j (by omega) (by omega) ?_
        have e0 := read_row rv (k0_off8_inb k) _ _ (k0_off8_eq k) (by omega) j (by omega)
        have e1 := read_row rv (k0_off9_inb k 0) _ _ (k0_off9_eq k 0) (by show _ + 0 + 1 < _; omega) j (by omega)
        have e2 := read_row rv (k0_off9_inb k 1) _ _ (k0_off9_eq k 1) (by show _ + 1 + 1 < _; omega) j (by omega)
        have e3 := read_row rv (k0_off9_inb k 2) _ _ (k0_off9_eq k 2) (by show _ + 2 + 1 < _; omega) j (by omega)
        have e4 := read_bias bv 32 inb_S96_S16_32 j (by omega)
        rw [← e4]
        refine Eq.trans ?_ (congr (congr (congr (congr (congrArg meanOf e0) e1) e2) e3) rfl)
        refine Eq.trans ?_ (pay_at (F := F) _ _ _ _ _ j)
        rfl
      · refine acc_at rv bv (inb := k0_off7_inb k) k.val 16 (k0_off7_eq k) j (by omega) (by omega) ?_
        have e0 := read_row rv (k0_off5_inb k) _ _ (k0_off5_eq k) (by omega) j (by omega)
        have e1 := read_row rv (k0_off6_inb k 0) _ _ (k0_off6_eq k 0) (by show _ + 0 + 1 < _; omega) j (by omega)
        have e2 := read_row rv (k0_off6_inb k 1) _ _ (k0_off6_eq k 1) (by show _ + 1 + 1 < _; omega) j (by omega)
        have e3 := read_row rv (k0_off6_inb k 2) _ _ (k0_off6_eq k 2) (by show _ + 2 + 1 < _; omega) j (by omega)
        have e4 := read_bias bv 16 inb_S96_S16_16 j (by omega)
        rw [← e4]
        refine Eq.trans ?_ (congr (congr (congr (congr (congrArg meanOf e0) e1) e2) e3) rfl)
        refine Eq.trans ?_ (pay_at (F := F) _ _ _ _ _ j)
        rfl
      · refine acc_at rv bv (inb := k0_off4_inb k) k.val 0 (k0_off4_eq k) j (by omega) (by omega) ?_
        have e0 := read_row rv (k0_off2_inb k) _ _ (k0_off2_eq k) (by omega) j (by omega)
        have e1 := read_row rv (k0_off3_inb k 0) _ _ (k0_off3_eq k 0) (by show _ + 0 + 1 < _; omega) j (by omega)
        have e2 := read_row rv (k0_off3_inb k 1) _ _ (k0_off3_eq k 1) (by show _ + 1 + 1 < _; omega) j (by omega)
        have e3 := read_row rv (k0_off3_inb k 2) _ _ (k0_off3_eq k 2) (by show _ + 2 + 1 < _; omega) j (by omega)
        have e4 := read_bias bv 0 inb_S96_S16_0 j (by omega)
        rw [← e4]
        refine Eq.trans ?_ (congr (congr (congr (congr (congrArg meanOf e0) e1) e2) e3) rfl)
        refine Eq.trans ?_ (pay_at (F := F) _ _ _ _ _ j)
        rfl
    · have hc : (y 1).val / 16 < 6 := by omega
      rcases (by omega : (y 1).val / 16 = 5 ∨ (y 1).val / 16 = 4 ∨ (y 1).val / 16 = 3 ∨ (y 1).val / 16 = 2 ∨ (y 1).val / 16 = 1 ∨ (y 1).val / 16 = 0)
        with h | h | h | h | h | h
      · exact ⟨_, List.mem_cons_self, mem_at (inb := k0_off19_inb k) k.val 80 (k0_off19_eq k) y hyk (by omega) (by omega)⟩
      · exact ⟨_, List.mem_cons_of_mem _ (List.mem_cons_self), mem_at (inb := k0_off16_inb k) k.val 64 (k0_off16_eq k) y hyk (by omega) (by omega)⟩
      · exact ⟨_, List.mem_cons_of_mem _ (List.mem_cons_of_mem _ (List.mem_cons_self)), mem_at (inb := k0_off13_inb k) k.val 48 (k0_off13_eq k) y hyk (by omega) (by omega)⟩
      · exact ⟨_, List.mem_cons_of_mem _ (List.mem_cons_of_mem _ (List.mem_cons_of_mem _ (List.mem_cons_self))), mem_at (inb := k0_off10_inb k) k.val 32 (k0_off10_eq k) y hyk (by omega) (by omega)⟩
      · exact ⟨_, List.mem_cons_of_mem _ (List.mem_cons_of_mem _ (List.mem_cons_of_mem _ (List.mem_cons_of_mem _ (List.mem_cons_self)))), mem_at (inb := k0_off7_inb k) k.val 16 (k0_off7_eq k) y hyk (by omega) (by omega)⟩
      · exact ⟨_, List.mem_cons_of_mem _ (List.mem_cons_of_mem _ (List.mem_cons_of_mem _ (List.mem_cons_of_mem _ (List.mem_cons_of_mem _ (List.mem_cons_self))))), mem_at (inb := k0_off4_inb k) k.val 0 (k0_off4_eq k) y hyk (by omega) (by omega)⟩
  · rw [← hf y (by omega)]
    refine (congrFun (ew _) y).trans ?_
    refine (View.read_writes_apply_of_forall_not_mem (Val := Elt F) (s := S32x96) (e := .f32) (aV).view f y _ ?_)
    refine List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩
    · exact fun hm => hyk (row_of_mem k.val 80 (k0_off19_inb k) (k0_off19_eq k) y hm)
    · exact fun hm => hyk (row_of_mem k.val 64 (k0_off16_inb k) (k0_off16_eq k) y hm)
    · exact fun hm => hyk (row_of_mem k.val 48 (k0_off13_inb k) (k0_off13_eq k) y hm)
    · exact fun hm => hyk (row_of_mem k.val 32 (k0_off10_inb k) (k0_off10_eq k) y hm)
    · exact fun hm => hyk (row_of_mem k.val 16 (k0_off7_inb k) (k0_off7_eq k) y hm)
    · exact fun hm => hyk (row_of_mem k.val 0 (k0_off4_inb k) (k0_off4_eq k) y hm)

omit [FloatOps F] in
/-- The offsets the indirect copy reads are in range: what the fetch landed is the task's part of the list. -/
theorem inb_of_pre (hpre : InRange ci) (fs : Buf (Elt F) ((vT d L).loc cc0_scratch0)) (pay : S128.Idx → Elt F .i32)
    (hpay : pay = (iRowK L).view.read (Elt F) (ci d)) :
    ∀ x, ((sV).view.read (Elt F) (View.write (Elt F) (sV).view fs pay Finset.univ) x).toNat < S32768x128.size gathers_S32768x128_S128x128.axis := by
  subst hpay; intro x
  rw [View.write_whole_univ]
  simp only [Memref.view_whole, View.read_whole]
  rw [show ∀ j, (iRowK L).view.read (Elt F) (ci d) j = ci d ((iRowK L).view.emb j) from fun j => (View.read_apply _ _).trans (cast_eq _ _)]
  exact hpre d _

end Tile

end Cert.Proof.GatherTile

end
-- ==== Proof.GatherBody.lean ====
/-
  One task of the gather-and-average SparseCore call, run: what the task is handed, and what it leaves with the values.
-/
module

public import proofs.«01_k».proof.Proof.GatherTile

@[expose] public section

noncomputable section

namespace Cert.Proof.GatherTile

open Cert.GatherIdeal Cert.GatherIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 1) (Elt F) ℕ UU ℕ

section Tile
variable (d : Dev nD) (L : grid0.Coords)
variable (ci : (d : Dev nD) → Buf (Elt F) (iLoc d)) (cx : (d : Dev nD) → Buf (Elt F) (xLoc d))
  (cb : (d : Dev nD) → Buf (Elt F) (bLoc d)) (co : (d : Dev nD) → Buf (Elt F) (oLoc d))

/-- The 128 rows task `t` gathers. -/
def gath (ci : S4096.Idx → BitVec 32) (cx : S32768x128.Idx → F .f32) (t : Fin 32) : S128x128.Idx → F .f32 :=
  fun y =>
    have h0 : (y 0).val < 128 := (y 0).isLt
    cx (ix2 (rowOf ci ⟨128 * t.val + (y 0).val, by omega⟩) (y 1))

omit [FloatOps F] in
theorem gathered (hpre : InRange ci) (fs : Buf (Elt F) ((vT d L).loc cc0_scratch0)) (hn : S128.numel = S128x128.size gathers_S32768x128_S128x128.axis')
    (h : ∀ x, ((sV).view.read (Elt F) (View.write (Elt F) (sV).view fs ((iRowK L).view.read (Elt F) (ci d)) Finset.univ) x).toNat
      < S32768x128.size gathers_S32768x128_S128x128.axis) :
    SparseCore.gatherPayload (F := F) (e := .f32) gathers_S32768x128_S128x128 ((xAllK).view.read (Elt F) (cx d))
        (SparseCore.rows ((sV).view.read (Elt F) (View.write (Elt F) (sV).view fs ((iRowK L).view.read (Elt F) (ci d)) Finset.univ)) hn h)
      = gath (ci d) (cx d) (tT L) := by
  funext y
  have h0 : (y 0).val < 128 := (y 0).isLt
  refine congrArg (cx d) (funext fun a => Fin.ext ?_)
  match a with
  | ⟨0, _⟩ =>
    show 0 + 1 * (((sV).view.read (Elt F) (View.write (Elt F) (sV).view fs ((iRowK L).view.read (Elt F) (ci d)) Finset.univ)
      (S128.rowMajor.symm ((y 0).cast hn.symm))).toNat) = _
    rw [View.write_whole_univ]
    show 0 + 1 * (ci d ((iRowK L).view.emb (S128.rowMajor.symm ((y 0).cast hn.symm)))).toNat = (ci d (ix1 _)).toNat % 32768
    have e : (iRowK L).view.emb (S128.rowMajor.symm ((y 0).cast hn.symm)) = (ix1 ⟨128 * (tT L).val + (y 0).val, by omega⟩ : S4096.Idx) := by
      have e1 := Shape.rowMajor_val_one (d := ![128]) (S128.rowMajor.symm ((y 0).cast hn.symm))
      funext a
      match a with
      | ⟨0, _⟩ =>
        refine Fin.ext ?_
        show k0_off1 L 0 + 1 * ((S128.rowMajor.symm ((y 0).cast hn.symm)) 0).val = 128 * (2 * (L 1).val + (L 0).val) + (y 0).val
        rw [k0_off1_eq, ← e1]
        show _ + 1 * (S128.rowMajor (S128.rowMajor.symm ((y 0).cast hn.symm))).val = _
        rw [Equiv.apply_symm_apply]
        show 256 * (L 1).val + 128 * (L 0).val + 1 * (y 0).val = _
        omega
    rw [e, Nat.mod_eq_of_lt (hpre d _)]; omega
  | ⟨1, _⟩ => show 0 + 1 * (y 1).val = (y 1).val; omega

/-- The averages of the gathered rows are the result's rows. -/
theorem acc_gath (y : S32x96.Idx) :
    accVal (gath (ci d) (cx d) (tT L)) (cb d) y = outC ci cx cb d ((oRowK L).view.emb y) := by
  have h0 : (y 0).val < 32 := (y 0).isLt
  have e0 : (((oRowK L).view.emb y : S1024x96.Idx) 0).val = 32 * (tT L).val + (y 0).val := by
    show k0_off20 L 0 + 1 * (y 0).val = 32 * (2 * (L 1).val + (L 0).val) + (y 0).val
    rw [k0_off20_eq]
    show 64 * (L 1).val + 32 * (L 0).val + 1 * (y 0).val = _
    omega
  have e1 : (((oRowK L).view.emb y : S1024x96.Idx) 1).val = (y 1).val := by
    show k0_off20 L 1 + 1 * (y 1).val = (y 1).val
    rw [k0_off20_eq]
    show 0 + 1 * (y 1).val = _
    omega
  unfold accVal outC outVal gath
  have er : ∀ k : Fin 4, 128 * (tT L).val + (4 * (y 0).val + k.val) = 4 * (((oRowK L).view.emb y : S1024x96.Idx) 0).val + k.val := by
    intro k; rw [e0]; omega
  dsimp only
  simp only [e1, ← er]

/-- The counted loop's invariant: the first `k` rows of the task's results are in place. -/
def inv (k : ℕ) (_ : PUnit) : sProp 𝕄 :=
  iprop(((rV).view.loc (vT d L) ↦{fullShare} (gath (ci d) (cx d) (tT L) : Buf (Elt F) ((vT d L).loc cc0_scratch1)))
    ∗ ((cV).view.loc (vT d L) ↦{fullShare} (cb d : Buf (Elt F) ((vT d L).loc cc0_scratch2)))
    ∗ ∃ f : Buf (Elt F) ((vT d L).loc cc0_scratch3),
        ⌜∀ y : S32x96.Idx, (y 0).val < k → f y = accVal (gath (ci d) (cx d) (tT L)) (cb d) y⌝ ∗ (aV).view.loc (vT d L) ↦{fullShare} f)

/-- What the copy out leaves in the task's part of the result. -/
theorem out_rows (f : S32x96.Idx → F .f32) (hf : ∀ y : S32x96.Idx, f y = accVal (gath (ci d) (cx d) (tT L)) (cb d) y) (i : S1024x96.Idx)
    (hi : i ∈ (oRowK L).view.set) :
    (oRowK L).view.writes (Elt F) (co d) [⟨Rect.whole S32x96, f⟩] i = outC ci cx cb d i := by
  obtain ⟨x, -, rfl⟩ := Finset.mem_map.mp hi
  have h := View.read_writes_cons_emb (v := (oRowK L).view) (f := co d) (Rect.whole S32x96) f [] x
  rw [show (Rect.whole S32x96).emb x = x from Rect.emb_whole_apply S32x96 x] at h
  exact (h.trans (hf x)).trans (acc_gath d L ci cx cb x)

set_option maxHeartbeats 4000000 in
theorem tile_body (hF : (K (F := F)).Facts) (hpre : InRange ci) (O : CellTallies nD τ sig (HIx 1)) (W : Waits sig (HIx 1)) (hO : ∀ g, O g none = 0) :
    iprop(levAts (K (F := F)).L (K (F := F)).lev ∗ emp
        ∗ (iRowPts ci d (tT L) ∗ xShPts cx d (tT L) ∗ bShPts cb d (tT L) ∗ oRowPts d (tT L) (co d))
        ∗ scopedBufs (vT d L) ∗ scopedSems0 (vT d L) ∗ owes (vT d L) O W)
      ⊢ wp frame (wpE (defs₀ (F := F)) 𝒱₀ (vT d L) none) Set.univ
          (cc0_gather_mean L iV (Memref.isWhole_whole _) xV (Memref.isWhole_whole _) bV (Memref.isWhole_whole _) oV (Memref.isWhole_whole _)
            sV (Memref.isWhole_whole _) rV (Memref.isWhole_whole _) cV (Memref.isWhole_whole _) aV (Memref.isWhole_whole _)
            cc0_scratch4 cc0_scoped0 cc0_scoped1 cc0_scoped2)
          fun _ => iprop((iRowPts ci d (tT L) ∗ xShPts cx d (tT L) ∗ bShPts cb d (tT L) ∗ oRowPts d (tT L) (outC ci cx cb d))
            ∗ scopedBufs (vT d L) ∗ scopedSems0 (vT d L)
            ∗ ∃ W', ⌜∀ p ∈ W', p ∈ W ∨ p.2 = none⌝ ∗ owes (vT d L) O W') := by
  simp only [cc0_gather_mean_eq_skeleton]; unfold cc0_gather_mean_skel
  rw [(K (F := F)).scopedBufs_V hF d (cT L) (jT L), SparseCore.Cfg.scopedSems0_V (Val := Elt F) d (cT L) (jT L), ownSems0_V, ownBufs_V]
  iintro ⟨#Hlv, -, ⟨Hi, Hx, Hbi, Ho⟩, ⟨⟨%fs, Hs⟩, ⟨%fr, Hr⟩, ⟨%fc, Hc⟩, ⟨%fa, Ha⟩, Hbufs⟩, ⟨HsemA, HsemB, HsemC, HsemD, Hsems⟩, HO⟩
  ihave Hmw := (show levAts (K (F := F)).L (K (F := F)).lev ⊢ Transfers.MayWaits (vT d L) (default : HIx 1) O from
    (K (F := F)).mayWaits_none (thr := vT d L) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hbi' := (Entails.of_eq (pts_bV (F := F) d L _ _).symm) $$ Hbi
  ihave Hs' := (Entails.of_eq (pts_sV (F := F) d L _).symm) $$ Hs
  ihave Hr' := (Entails.of_eq (pts_rV (F := F) d L _).symm) $$ Hr
  ihave Hc' := (Entails.of_eq (pts_cV (F := F) d L _).symm) $$ Hc
  ihave Ha' := (Entails.of_eq (pts_aV (F := F) d L _).symm) $$ Ha
  sl_exec
  -- the indirect copy, its list's words in range by the precondition
  ihave Hxs := (pointsTo_split_subset (q := shr (tT L)) (f := cx d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (vT d L) ↦{fullShare} fr : sProp 𝕄)
      = (rV).view.loc (vT d L) ↦[(rV).view.set]{fullShare} fr by rw [hrs])) $$ Hr'
  ihave Hs'' := (Entails.of_eq (show ((sV).view.loc (vT d L) ↦{fullShare} View.write (Elt F) (sV).view fs (tile_body.sl.dma0_1 d L ci) Finset.univ : sProp 𝕄)
      = (sV).view.loc (vT d L) ↦[(sV).view.set]{fullShare} View.write (Elt F) (sV).view fs (tile_body.sl.dma0_1 d L ci) Finset.univ
      by rw [hss])) $$ Hs'
  have hN : ∀ h : S32768x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (vT d L) none (hg := gathers_S32768x128_S128x128) (default : HIx 1)
      (rV).view.dmaCredit (hN _) (by decide) (inb_of_pre d L ci hpre fs _ rfl)) $$ [Hxs Hr'' Hs'' HsemC]
  · isplitl [Hxs]; · iexact Hxs
    isplitl [Hr'']; · iexact Hr''
    isplitl [Hs'']; · iexact Hs''
    iexact HsemC
  iintro Hfl
  sl_exec
  iapply (Transfers.wp_waitLocalO countersEmb 𝒱₀ (vT d L) none (default : HIx 1) (rfl : (rV).view.dmaCredit = _)) $$ [Hfl HO]
  · isplitl [Hfl]; · iexact Hfl
    isplitl [HO]; · iexact HO
    iapply (Transfers.MayWaits.elim (SemLoc.dma cc0_scratch4.sem)) $$ Hmw
  iintro ⟨⟨Hr', Hxs, Hs'⟩, HsemC, HO⟩
  ihave Hx' := (pointsTo_split_subset (q := shr (tT L)) (f := cx d) (S := Finset.univ) (Finset.subset_univ (xAllK).view.set)).2 $$ [Hxs Hxr]; · isplitl [Hxs] <;> iassumption
  ihave Hr3 := (Entails.of_eq (show ((rV).view.loc (vT d L) ↦[(rV).view.set]{fullShare} _ : sProp 𝕄)
      = (rV).view.loc (vT d L) ↦{fullShare} _ by rw [hrs])) $$ Hr'
  ihave Hs3 := (Entails.of_eq (show ((sV).view.loc (vT d L) ↦[(sV).view.set]{fullShare} _ : sProp 𝕄)
      = (sV).view.loc (vT d L) ↦{fullShare} _ by rw [hss])) $$ Hs'
  have hn : S128.numel = S128x128.size gathers_S32768x128_S128x128.axis' := by decide
  ihave Hr4 := (Entails.of_eq (show ((rV).view.loc (vT d L) ↦{fullShare} View.write (Elt F) (rV).view fr _ Finset.univ : sProp 𝕄)
      = (rV).view.loc (vT d L) ↦{fullShare} (gath (ci d) (cx d) (tT L) : Buf (Elt F) ((vT d L).loc cc0_scratch1))
      from congrArg (fun f : Buf (Elt F) ((vT d L).loc cc0_scratch1) => ((vT d L).loc cc0_scratch1 ↦{fullShare} f : sProp 𝕄))
        ((View.write_whole_univ (Val := Elt F) cc0_scratch1 _ _).trans (gathered d L ci cx hpre fs hn (inb_of_pre d L ci hpre fs _ rfl))))) $$ Hr3
  ihave Hc4 := (Entails.of_eq (show ((cV).view.loc (vT d L) ↦{fullShare} View.write (Elt F) (cV).view fc (tile_body.sl.dma0 d cb) Finset.univ : sProp 𝕄)
      = (cV).view.loc (vT d L) ↦{fullShare} (cb d : Buf (Elt F) ((vT d L).loc cc0_scratch2))
      from congrArg (fun f : Buf (Elt F) ((vT d L).loc cc0_scratch2) => ((vT d L).loc cc0_scratch2 ↦{fullShare} f : sProp 𝕄))
        ((View.write_whole_univ (Val := Elt F) cc0_scratch2 _ _).trans rfl))) $$ Hc'
  sl_exec
  sl_for (inv d L ci cx cb) $$ [Hr4 Hc4 Ha']
  case region =>
    intro k _
    unfold inv
    iintro ⟨Hr, Hc, %f, %hf, Ha⟩
    iapply (trip d L k (gath (ci d) (cx d) (tT L)) (cb d) f hf)
    isplitl [Hr]; · iexact Hr
    isplitl [Hc]; · iexact Hc
    iexact Ha
  · unfold inv
    isplitl [Hr4]; · iexact Hr4
    isplitl [Hc4]; · iexact Hc4
    iexists fa; isplitr
    · ipureintro; intro y hy; exact absurd hy (Nat.not_lt_zero _)
    · iexact Ha'
  iintro %acc
  unfold inv
  iintro ⟨Hr, Hc, %f, %hf, Ha⟩
  sl_exec
  sl_step
  have hf' : ∀ y : S32x96.Idx, f y = accVal (gath (ci d) (cx d) (tT L)) (cb d) y := fun y => hf y (lt_of_lt_of_eq (y 0).isLt k0_trips.symm)
  ihave Ho3 := (Entails.of_eq ((pointsTo_congr (f := (oRowK L).view.writes (Elt F) (co d) [⟨Rect.whole S32x96, tile_body.sl.dma0_2 d L f⟩])
    (g := outC ci cx cb d) (fun i hi => out_rows d L ci cx cb co f hf' i hi)).trans (pts_oRowK (F := F) d L _))) $$ Ho'
  isplitl [Hi' Hx' Hbi' Ho3]
  · isplitl [Hi']; · iapply (Entails.of_eq (pts_iRowK (F := F) d L _)); iexact Hi'
    isplitl [Hx']; · iexact Hx'
    isplitl [Hbi']; · iexact Hbi'
    iexact Ho3
  isplitl [Hs3 Hr Hc Ha Hbufs]
  · isplitl [Hs3]; · iexists _; iexact Hs3
    isplitl [Hr]; · iexists _; iexact Hr
    isplitl [Hc]; · iexists _; iexact Hc
    isplitl [Ha]; · iexists _; iexact Ha
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.GatherTile

end
-- ==== Proof.GatherRun.lean ====
/-
  The gather-and-average program's run: the launch of the SparseCore call inside @main, the host operations around it,
  and what every unscoped array holds at the end.
-/
module

public import proofs.«01_k».proof.Proof.GatherBody
public import Idealize.ShloMosaic.Lib.Pipeline.Frame

@[expose] public section

noncomputable section

namespace Cert.Proof.GatherTile

open Cert.GatherIdeal Cert.GatherIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held held_sub_split wp_seq seqK seq_bind_seqK after)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 1) (Elt F) ℕ UU ℕ

/-! ## What passes at the call -/

section Call
variable (ci : (d : Dev nD) → Buf (Elt F) (iLoc d)) (cx : (d : Dev nD) → Buf (Elt F) (xLoc d))
  (cb : (d : Dev nD) → Buf (Elt F) (bLoc d)) (co : (d : Dev nD) → Buf (Elt F) (oLoc d))

theorem nCore_zero : (K (F := F)).nCore 0 = 2 := rfl
theorem nSub_zero : (K (F := F)).nSub 0 = 16 := rfl

/-- Task `t`'s part of the four arrays, the result rows at `f`. -/
abbrev part (d : Dev nD) (f : Buf (Elt F) (oLoc d)) (t : Fin 32) : sProp 𝕄 :=
  iprop(iRowPts ci d t ∗ xShPts cx d t ∗ bShPts cb d t ∗ oRowPts d t f)

/-- The sixteen parts a SparseCore takes. -/
abbrev parts (d : Dev nD) (f : Buf (Elt F) (oLoc d)) (c : Fin 2) : sProp 𝕄 :=
  bigSep Finset.univ fun s : Fin 16 => part ci cx cb d f (task c s)

/-- Each SparseCore takes its tasks' parts, each task its own, and brings it back with its result rows written. -/
def P : (K (F := F)).Pay (nD := nD) (Val := Elt F) (Name := ℕ) (U := UU) where
  st := fun q d c => match q with | 0 => parts ci cx cb d (co d) (Fin.cast nCore_zero c)
  dn := fun q d c => match q with | 0 => parts ci cx cb d (outC ci cx cb d) (Fin.cast nCore_zero c)
  go := fun q d c i => match q with | 0 => part ci cx cb d (co d) (task (Fin.cast nCore_zero c) (Fin.cast nSub_zero i))
  td := fun q d c i => match q with | 0 => part ci cx cb d (outC ci cx cb d) (task (Fin.cast nCore_zero c) (Fin.cast nSub_zero i))
  x := fun _ _ => iprop(emp)

instance P_storable : (P (F := F) ci cx cb co).IsStorable where
  st q d c := match q with
    | 0 => (inferInstance : BI.Storable (upEmb : UEmb _ 𝕄) (parts ci cx cb d (co d) (Fin.cast nCore_zero c)))
  dn q d c := match q with
    | 0 => (inferInstance : BI.Storable (upEmb : UEmb _ 𝕄) (parts ci cx cb d (outC ci cx cb d) (Fin.cast nCore_zero c)))
  go q d c i := match q with
    | 0 => (inferInstance : BI.Storable (upEmb : UEmb _ 𝕄) (part ci cx cb d (co d) (task (Fin.cast nCore_zero c) (Fin.cast nSub_zero i))))
  td q d c i := match q with
    | 0 => (inferInstance : BI.Storable (upEmb : UEmb _ 𝕄) (part ci cx cb d (outC ci cx cb d) (task (Fin.cast nCore_zero c) (Fin.cast nSub_zero i))))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_mean (coordsV c s)
          iV (Memref.isWhole_whole _) xV (Memref.isWhole_whole _) bV (Memref.isWhole_whole _) oV (Memref.isWhole_whole _)
          sV (Memref.isWhole_whole _) rV (Memref.isWhole_whole _) cV (Memref.isWhole_whole _) aV (Memref.isWhole_whole _)
          cc0_scratch4 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  iframe HA HB HC
  iexists W'
  isplitr
  · ipureintro; intro p hp; rcases h p hp with h' | h'
    · exact Or.inl h'
    · exact Or.inr (Or.inl h')
  · iexact HO

set_option maxRecDepth 16384 in
theorem tileObl (hF : (K (F := F)).Facts) (hpre : InRange ci) : (K (F := F)).TileObl (D (F := F)) 𝒱 (P ci cx cb co) v₀ 0 := by
  intro d c i O W hO _ _
  simp only [show (P ci cx cb co).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) ci cx cb co hF hpre O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P ci cx cb co) 0 := by
  intro d c
  show parts ci cx cb d (co d) (Fin.cast nCore_zero c) ⊢ |={Set.univ}=> iprop(
      (bigSep Finset.univ fun i : Fin ((K (F := F)).nSub 0) => part ci cx cb d (co d) (task (Fin.cast nCore_zero c) (Fin.cast nSub_zero i)))
      ∗ ((bigSep Finset.univ fun i : Fin ((K (F := F)).nSub 0) => part ci cx cb d (outC ci cx cb d) (task (Fin.cast nCore_zero c) (Fin.cast nSub_zero i)))
          -∗ parts ci cx cb d (outC ci cx cb d) (Fin.cast nCore_zero c)))
  rw [bigSep_tasks (fun i => part ci cx cb d (co d) (task (Fin.cast nCore_zero c) i)),
    bigSep_tasks (fun i => part ci cx cb d (outC ci cx cb d) (task (Fin.cast nCore_zero c) i))]
  iintro H; imodintro
  isplitl [H]; · iexact H
  iintro H; iexact H

/-! ## The whole arrays are the tasks' parts -/

/-- A pair of SparseCore and vector subcore, numbered as the kernel numbers its tasks. -/
theorem bigSep_pairs (Φ : Fin 32 → sProp 𝕄) :
    (bigSep Finset.univ fun c : Fin 2 => bigSep Finset.univ fun s : Fin 16 => Φ (task c s)) = bigSep Finset.univ Φ := by
  rw [← bigSep_univ_prod (fun p : Fin 2 × Fin 16 => Φ (task p.1 p.2))]
  let e : Fin 2 × Fin 16 ↪ Fin 32 := ⟨fun p => task p.1 p.2, by decide⟩
  have he : (Finset.univ : Finset (Fin 2 × Fin 16)).map e = Finset.univ := by decide
  rw [← he, Idealize.SL.BI.bigSep_map]; rfl

theorem irows_disjoint : ∀ i ∈ (Finset.univ : Finset (Fin 32)), ∀ j ∈ (Finset.univ : Finset (Fin 32)), i ≠ j → Disjoint (iRowSet i) (iRowSet j) :=
  fun _ _ _ _ h => Rect.part_disjoint idiv h
theorem orows_disjoint : ∀ i ∈ (Finset.univ : Finset (Fin 32)), ∀ j ∈ (Finset.univ : Finset (Fin 32)), i ≠ j → Disjoint (oRowSet i) (oRowSet j) :=
  fun _ _ _ _ h => Rect.part_disjoint odiv h

omit [FloatOps F] in
theorem iPts_rows (d : Dev nD) (f : Buf (Elt F) (iLoc d)) :
    (iLoc d ↦{fullShare} f : sProp 𝕄) = bigSep Finset.univ fun i : Fin 32 => iLoc d ↦[iRowSet i]{fullShare} f := by
  rw [← pointsTo_biUnion Finset.univ (ℓ := iLoc d) iRowSet irows_disjoint, show (Finset.univ : Finset (Fin 32)).biUnion iRowSet = Finset.univ from Rect.biUnion_part idiv]
omit [FloatOps F] in
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, show (Finset.univ : Finset (Fin 32)).biUnion oRowSet = Finset.univ from Rect.biUnion_part odiv]

/-- The four arrays whole, the result at `f`. -/
abbrev wholes (d : Dev nD) (f : Buf (Elt F) (oLoc d)) : sProp 𝕄 :=
  iprop((iLoc d ↦{fullShare} ci d) ∗ (xLoc d ↦{fullShare} cx d) ∗ (bLoc d ↦{fullShare} cb d) ∗ oLoc d ↦{fullShare} f)

theorem wholes_eq (d : Dev nD) (f : Buf (Elt F) (oLoc d)) :
    (bigSep Finset.univ fun c : Fin 2 => parts ci cx cb d f c) = wholes ci cx cb d f := by
  unfold parts wholes
  rw [bigSep_pairs (part ci cx cb d f), iPts_rows, oPts_rows,
    show (xLoc d ↦{fullShare} cx d : sProp 𝕄) = bigSep Finset.univ fun t : Fin 32 => xLoc d ↦{shr t} cx d from pointsTo_leaves Finset.univ (cx d) 5 fullShare,
    show (bLoc d ↦{fullShare} cb d : sProp 𝕄) = bigSep Finset.univ fun t : Fin 32 => bLoc d ↦{shr t} cb d from pointsTo_leaves Finset.univ (cb d) 5 fullShare,
    ← bigSep_sep', ← bigSep_sep', ← bigSep_sep']

theorem st0_eq (d : Dev nD) : (bigSep Finset.univ fun c : Fin ((K (F := F)).nCore 0) => (P ci cx cb co).st 0 d c) = wholes ci cx cb d (co d) :=
  (bigSep_cores (parts ci cx cb d (co d))).trans (wholes_eq ci cx cb d (co d))
theorem dn0_eq (d : Dev nD) : (bigSep Finset.univ fun c : Fin ((K (F := F)).nCore 0) => (P ci cx cb co).dn 0 d c) = wholes ci cx cb d (outC ci cx cb d) :=
  (bigSep_cores (parts ci cx cb d (outC ci cx cb d))).trans (wholes_eq ci cx cb d (outC ci cx cb d))

/-! ## The launch element of the ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P ci cx cb co).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) ci cx cb co).x q thr) = bigSep Finset.univ fun _ => iprop(emp) from
    bigSep_congr fun _ _ => bigSep_univ_of_subsingleton (0 : Fin 1), bigSep_nothing]
  iempintro

end Call

/-! ## @main: the contents step by step -/

/-- The host operations before the call and after it. -/
abbrev pre : List (HloOp τ sig (Elt F)) :=
  [StableHlo.unary main_arg1 main_v0 ((transpose S4x256x4 [0, 2, 1] · transposes_S4x4x256_S4x256x4_0_2_1) : (⟨S4x4x256, .i32⟩ : BufTy).Contents (Elt F) → (⟨S4x256x4, .i32⟩ : BufTy).Contents (Elt F)),
   StableHlo.reshape main_arg0 main_v1 (rfl : (.f32 : EltTy) = .f32) shapeCasts_S4x8192x128_S32768x128,
   StableHlo.reshape main_v0 main_v2 (rfl : (.i32 : EltTy) = .i32) shapeCasts_S4x256x4_S4096]
abbrev suf : List (HloOp τ sig (Elt F)) :=
  [StableHlo.reshape main_v3 main_v4 (rfl : (.f32 : EltTy) = .f32) shapeCasts_S1024x96_S4x256x96,
   StableHlo.unary main_v4 main_v5 ((transpose S4x96x256 [0, 2, 1] · transposes_S4x256x96_S4x96x256_0_2_1) : (⟨S4x256x96, .f32⟩ : BufTy).Contents (Elt F) → (⟨S4x96x256, .f32⟩ : BufTy).Contents (Elt F))]

theorem main_seq (d : Dev nD) : main (F := F) d = seqK pre ((sc (F := F)).run d 0 >>= fun _ => seqK suf (pure ⟨⟩)) := rfl

abbrev rf (r : Ref sig .tc) : DevRef τ sig := Proc.devRef .tc r

variable (m : (ℓ : Loc nD τ sig) → Buf (Elt F) ℓ) (ρ : Dev nD → PrngReg)

def V0 (d : Dev nD) : Valuation τ sig (Elt F) := fun b => m (d, b)
def V1 (d : Dev nD) : Valuation τ sig (Elt F) := after pre (V0 m d)
def ci (d : Dev nD) : Buf (Elt F) (iLoc d) := V1 m d (rf iRef)
def cx (d : Dev nD) : Buf (Elt F) (xLoc d) := V1 m d (rf xRef)
def cb (d : Dev nD) : Buf (Elt F) (bLoc d) := V1 m d (rf bRef)
def co (d : Dev nD) : Buf (Elt F) (oLoc d) := V1 m d (rf oRef)
def V2 (d : Dev nD) : Valuation τ sig (Elt F) := Function.update (V1 m d) (rf oRef) (outC (ci m) (cx m) (cb m) d)
def V3 (d : Dev nD) : Valuation τ sig (Elt F) := after suf (V2 m d)

/-- The call's arrays. -/
abbrev callRefs : Finset (DevRef τ sig) := {rf iRef, rf xRef, rf bRef, rf oRef}

theorem callRefs_sub : callRefs ⊆ ucRefs τ sig := by decide

omit [FloatOps F] in
theorem held_call (d : Dev nD) (W : Valuation τ sig (Elt F)) :
    (held (SparseCore.T d) callRefs W : sProp 𝕄)
      = iprop((iLoc d ↦{fullShare} W (rf iRef)) ∗ (xLoc d ↦{fullShare} W (rf xRef)) ∗ (bLoc d ↦{fullShare} W (rf bRef)) ∗ oLoc d ↦{fullShare} W (rf oRef)) := by
  unfold held callRefs
  rw [SparseCore.bigSep_insert' (by decide), SparseCore.bigSep_insert' (by decide), SparseCore.bigSep_insert' (by decide), bigSep_singleton]

theorem held_before (d : Dev nD) :
    (held (SparseCore.T d) (ucRefs τ sig) (V1 m d) : sProp 𝕄)
      = iprop(wholes (ci m) (cx m) (cb m) d (co m d) ∗ held (SparseCore.T d) (ucRefs τ sig \ callRefs) (V1 m d)) := by
  rw [held_sub_split (SparseCore.T d) callRefs_sub, held_call]; rfl

theorem held_after (d : Dev nD) :
    (held (SparseCore.T d) (ucRefs τ sig) (V2 m d) : sProp 𝕄)
      = iprop(wholes (ci m) (cx m) (cb m) d (outC (ci m) (cx m) (cb m) d) ∗ held (SparseCore.T d) (ucRefs τ sig \ callRefs) (V1 m d)) := by
  rw [held_sub_split (SparseCore.T d) callRefs_sub, held_call]
  have e (r : DevRef τ sig) (h : r ≠ rf oRef) : V2 m d r = V1 m d r := Function.update_of_ne h _ _
  rw [e _ (by decide), e _ (by decide), e _ (by decide), show V2 m d (rf oRef) = outC (ci m) (cx m) (cb m) d from Function.update_self ..]
  refine congrArg (fun X : sProp 𝕄 => iprop(wholes (ci m) (cx m) (cb m) d (outC (ci m) (cx m) (cb m) d) ∗ X)) ?_
  unfold held
  refine bigSep_congr fun b hb => ?_
  rw [e b fun h => (Finset.mem_sdiff.1 hb).2 (h ▸ by decide)]

abbrev FIN (d : Dev nD) : sProp 𝕄 := held (SparseCore.T d) (ucRefs τ sig) (V3 m d)

theorem pre_sub : ∀ op ∈ (pre : List (HloOp τ sig (Elt F))), op.bufs ⊆ ucRefs τ sig := by
  intro op h
  fin_cases h <;> exact sub_ucRefs _ (by simp only [StableHlo.unary_bufs_sub, StableHlo.reshape_bufs_sub])
theorem suf_sub : ∀ op ∈ (suf : List (HloOp τ sig (Elt F))), op.bufs ⊆ ucRefs τ sig := by
  intro op h
  fin_cases h <;> exact sub_ucRefs _ (by simp only [StableHlo.unary_bufs_sub, StableHlo.reshape_bufs_sub])
theorem pre_fresh : ∀ op ∈ (pre : List (HloOp τ sig (Elt F))), op.fresh = ∅ := by
  intro op h
  fin_cases h <;> rfl
theorem suf_fresh : ∀ op ∈ (suf : List (HloOp τ sig (Elt F))), op.fresh = ∅ := by
  intro op h
  fin_cases h <;> rfl

/-- @main on device `d`'s TensorCore: every unscoped array at the values the steps compute. -/
theorem hmain (κ : GSem nD τ sig → ℕ) (d : Dev nD) :
    iprop((K (F := F)).ctx EH (P (ci m) (cx m) (cb m) (co m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from unscopedBufs_held d (V0 m d)]
  rw [main_seq, ← seq_bind_seqK]
  iintro ⟨#Hctx, Hst, ⟨Hb, Hh, Hts, -⟩, -⟩
  iapply (wp_seq 𝒱 none Set.univ d (ucRefs τ sig) _ pre pre_sub pre_fresh (V0 m d)) $$ [Hb Hh]
  · isplitl [Hb] <;> iassumption
  rw [show after pre (V0 m d) = V1 m d from rfl, held_before]
  iintro ⟨Hb, Hw, Hr⟩
  rw [wp_bind]
  iapply ((K (F := F)).wp_run (D (F := F)) 𝒱 (EH := EH) (P := P (ci m) (cx m) (cb m) (co m)) κ d 0) $$ [Hst Hw Hr Hb Hts]
  isplitr; · iexact Hctx
  isplitl [Hst]; · iexact Hst
  isplitl [Hw]
  · rw [st0_eq]; iexact Hw
  rw [dn0_eq]
  iintro ⟨Hst, Hw⟩
  rw [← seq_bind_seqK]
  iapply (wp_seq 𝒱 none Set.univ d (ucRefs τ sig) _ suf suf_sub suf_fresh (V2 m d)) $$ [Hb Hw Hr]
  · rw [held_after]
    isplitl [Hb]; · iexact Hb
    isplitl [Hw] <;> iassumption
  iintro ⟨Hb, Hh⟩
  rw [wp_pure]
  imodintro
  isplitl [Hst]; · iexact Hst
  isplitl [Hh]; · iexact Hh
  isplitl [Hb] <;> iassumption

def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  unfold FIN fq
  have key : ∀ S : Finset (DevRef τ sig), iprop(held (SparseCore.T d) S (V3 m d) ∗ SI s') ⊢ (iprop(⌜∀ b ∈ S, s'.mem.mem (d, b) = V3 m d b⌝ ∗ SI s') : sProp 𝕄) := by
    classical
    intro S
    induction S using Finset.induction_on with
    | empty =>
      iintro ⟨-, HSI⟩
      isplitr; · ipureintro; intro b hb; exact absurd hb (Finset.notMem_empty b)
      iexact HSI
    | insert a S ha ih =>
      unfold held at ih ⊢
      rw [SparseCore.bigSep_insert' ha]
      iintro ⟨⟨Ha, HS⟩, HSI⟩
      ihave H := (persistent_entails_right (SI_pointsTo_agree (st := s') (ℓ := ((SparseCore.T d).1, a)) (I := Finset.univ) (q := fullShare) (f := V3 m d a))) $$ [HSI Ha]
      · isplitl [HSI] <;> iassumption
      icases H with ⟨%h1, HSI, -⟩
      ihave H := ih $$ [HS HSI]
      · isplitl [HS] <;> iassumption
      icases H with ⟨%h2, HSI⟩
      isplitr
      · ipureintro
        intro b hb
        rcases Finset.mem_insert.1 hb with rfl | hb
        · exact funext fun i => h1 i (Finset.mem_univ i)
        · exact h2 b hb
      · iexact HSI
  exact (key _).trans sep_elim_left

/-! ## The program's run -/

def QC : PUnit × MemSt nD τ sig (Elt F) → Prop := fun r => (∀ c : Dev nD, ∀ b ∈ ucRefs τ sig, r.2.mem (c, b) = V3 m c b) ∧ r.2.sem = fun _ => 0

theorem run_main [∀ e, Nonempty (Elt F e)] (hpre : InRange (ci m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (ci m) (cx m) (cb m) (co m)) (A := ∅) facts v₀
    (fun q hq => match q with | 0 => nomatch hq)
    (fun q _ => match q with | 0 => tileObl (ci m) (cx m) (cb m) (co m) facts hpre)
    (fun q _ => match q with | 0 => SparseCore.Cfg.VecSplit.of_plain (vecSplit (ci m) (cx m) (cb m) (co m)))
    m ρ main (fun _ => iprop(emp)) (FIN m) (u₀ (F := F)) (sep_elim_left.trans (hu₀ (ci m) (cx m) (cb m) (co m))) (hmain m ρ) (fq m) (hfin m) (QC m) (fun _ h hz => ⟨h, hz⟩)

end Cert.Proof.GatherTile

end
-- ==== Proof.GatherRef.lean ====
/-
  The reference's result as one function of its arguments, and its run.
-/
module

public import proofs.«01_k».proof.Defs
public import proofs.«01_k».proof.Proof.Gen.GatherReferenceIdeal.Run

@[expose] public section

noncomputable section

namespace Cert.Proof.GatherRef

open Cert.GatherReferenceIdeal Cert.GatherReferenceIdeal.Gen
open Idealize.ShloMosaic Idealize.SL.Sem

/-- The reference's result as a function of the three arguments. -/
def rval {F : FTy → Type} [FloatOps F] (a0 : FVec F S4x8192x128 .f32) (a1 : IVec S4x4x256 32) (a2 : FVec F S96 .f32) : FVec F S4x96x256 .f32 :=
  addf (transpose S4x96x256 [0, 2, 1] (extractStridedSlice S4x256x96 ![0, 0, 0] (Host.divf (Host.reduceAdd (Host.gather gather_S32768x128_S4x256x4x1_S4x256x4x128_3_0_n_n_0_3_1128 (shapeCast _ a0 shapeCasts_S4x8192x128_S32768x128) (broadcastInDim S4x256x4x1 ![0, 1, 2] bcast_S4x256x4_S4x256x4x1_0_1_2 (select (cmpi .slt (transpose S4x256x4 [0, 2, 1] a1 transposes_S4x4x256_S4x256x4_0_2_1) (broadcastInDim S4x256x4 ![] bcast_S_S4x256x4 (constantI S_ 32 0#32))) (addi (transpose S4x256x4 [0, 2, 1] a1 transposes_S4x4x256_S4x256x4_0_2_1) (broadcastInDim S4x256x4 ![] bcast_S_S4x256x4 (constantI S_ 32 32768#32))) (transpose S4x256x4 [0, 2, 1] a1 transposes_S4x4x256_S4x256x4_0_2_1)))) (constant S_ .f32 0x00000000#32) reducesTo_S4x256x4x128_S4x256x128_d2 h_S_) (broadcastInDim S4x256x128 ![] bcast_S_S4x256x128 (constant S_ .f32 0x40800000#32))) slices_S4x256x128_S4x256x96_0_0_0) transposes_S4x256x96_S4x96x256_0_2_1) (broadcastInDim S4x96x256 ![0, 1, 2] bcast_S1x96x1_S4x96x256_0_1_2 (broadcastInDim S1x96x1 ![1] bcast_S96_S1x96x1_1 a2))

/-- Its run: the result, the arguments unchanged. -/
theorem run_values {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
          = rval (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.GatherReferenceIdeal.Value.run m ρ

end Cert.Proof.GatherRef

end
-- ==== Proof.GatherValue.lean ====
/-
  What the gather-and-average program leaves in its result, and that over the extended reals it is the reference's:
  the four gathered rows' sum divided by four, the bias added.
-/
module

public import proofs.«01_k».proof.Proof.GatherRun
public import proofs.«01_k».proof.Proof.GatherRef
public import Idealize.ShloMosaic.Lib.Pointwise

@[expose] public section

noncomputable section

namespace Cert.Proof.GatherTile

open Cert.GatherIdeal Cert.GatherIdeal.Gen
open Idealize.ShloMosaic Idealize.SL.Sem

/-! ## A table's rows taken by three-axis lists -/

section Rows
variable {α : Type} {N C A B K w : Nat}

/-- The dimension numbers of taking whole rows of a table `[N, C]` at row numbers `[A, B, K, 1]`. -/
abbrev rowDims (N C A B K : Nat)
    (wf : GatherDims.WF ⟨2, ![N, C]⟩ ⟨4, ![A, B, K, 1]⟩ ⟨4, ![A, B, K, C]⟩ [3] [0] [] [0] [] 3 ![1, C]) :
    GatherDims ⟨2, ![N, C]⟩ ⟨4, ![A, B, K, 1]⟩ ⟨4, ![A, B, K, C]⟩ where
  offsetDims := [3]
  collapsedSliceDims := [0]
  operandBatchingDims := []
  startIndicesBatchingDims := []
  startIndexMap := [0]
  indexVectorDim := 3
  sliceSizes := ![1, C]
  wf := wf

/-- Taking rows, at an index: the table at the row the list names there, clamped into the table. -/
theorem gather_rows (hN : 0 < N)
    (wf : GatherDims.WF ⟨2, ![N, C]⟩ ⟨4, ![A, B, K, 1]⟩ ⟨4, ![A, B, K, C]⟩ [3] [0] [] [0] [] 3 ![1, C])
    (x : (⟨2, ![N, C]⟩ : Shape).Idx → α) (idx : IVec ⟨4, ![A, B, K, 1]⟩ w) (a : Fin A) (b : Fin B) (k : Fin K) (c : Fin C) :
    Host.gather (rowDims N C A B K wf) x idx (ix4 a b k c)
      = x (ix2 ⟨min (idx (ix4 a b k 0)).toInt.toNat (N - 1), by omega⟩ c) := by
  unfold Host.gather
  congr 1
  funext e
  refine Fin.ext ?_
  show (rowDims N C A B K wf).start (ix4 a b k c) idx e + (rowDims N C A B K wf).batchCoord (ix4 a b k c) e
      + (rowDims N C A B K wf).offCoord (ix4 a b k c) e = _
  rw [GatherDims.batchCoord_eq_zero _ _ _ List.not_mem_nil]
  have h01 : e = 0 ∨ e = 1 := by
    match e with
    | ⟨0, _⟩ => exact Or.inl rfl
    | ⟨1, _⟩ => exact Or.inr rfl
  rcases h01 with rfl | rfl
  · rw [show (rowDims N C A B K wf).offCoord (ix4 a b k c) (0 : Fin 2) = 0 from
      GatherDims.offCoord_eq_zero _ _ _ (fun h => ((GatherDims.mem_sKept _ _).mp h).1 (List.mem_singleton.mpr rfl))]
    unfold GatherDims.start
    rw [dif_pos (show (0 : Fin 2) ∈ (rowDims N C A B K wf).startIndexMap from List.mem_singleton.mpr rfl)]
    have hsi : (rowDims N C A B K wf).siIdx (ix4 a b k c) ⟨List.idxOf (0 : Fin 2) (rowDims N C A B K wf).startIndexMap,
        List.idxOf_lt_length_iff.2 (List.mem_singleton.mpr rfl)⟩ = ix4 a b k 0 := by
      funext f; refine Fin.ext ?_
      match f with
      | ⟨0, _⟩ => rfl
      | ⟨1, _⟩ => rfl
      | ⟨2, _⟩ => rfl
      | ⟨3, _⟩ => rfl
    rw [hsi]
    rfl
  · unfold GatherDims.start
    rw [dif_neg (show ¬ (1 : Fin 2) ∈ (rowDims N C A B K wf).startIndexMap from fun h => absurd (List.mem_singleton.1 h) Fin.zero_ne_one.symm)]
    simp only [Nat.zero_add]
    rfl

end Rows

/-! ## The program's result -/

/-- The result as a function of the three arguments. -/
def kval {F : FTy → Type} [FloatOps F] (a0 : FVec F S4x8192x128 .f32) (a1 : IVec S4x4x256 32) (a2 : FVec F S96 .f32) : FVec F S4x96x256 .f32 :=
  transpose S4x96x256 [0, 2, 1]
    (shapeCast S4x256x96
      (outVal (shapeCast S4096 (transpose S4x256x4 [0, 2, 1] a1 transposes_S4x4x256_S4x256x4_0_2_1) shapeCasts_S4x256x4_S4096)
        (shapeCast S32768x128 a0 shapeCasts_S4x8192x128_S32768x128) a2)
      shapeCasts_S1024x96_S4x256x96)
    transposes_S4x256x96_S4x96x256_0_2_1

section Steps
variable {F : FTy → Type} [FloatOps F] (m : (ℓ : Loc nD τ sig) → Buf (Elt F) ℓ) (d : Dev nD)

abbrev aT (d : Dev nD) (r : Ref sig .tc) : Loc nD τ sig := (d.tc : Thread nD τ).loc r

theorem ci_eq : ci m d = shapeCast S4096 (transpose S4x256x4 [0, 2, 1] (m (aT d main_arg1)) transposes_S4x4x256_S4x256x4_0_2_1) shapeCasts_S4x256x4_S4096 := by
  show StableHlo.after pre (V0 m d) (Proc.devRef .tc main_v2) = _
  after_results_simp
  rfl
theorem cx_eq : cx m d = shapeCast S32768x128 (m (aT d main_arg0)) shapeCasts_S4x8192x128_S32768x128 := by
  show StableHlo.after pre (V0 m d) (Proc.devRef .tc main_v1) = _
  after_results_simp
  rfl
theorem cb_eq : cb m d = m (aT d main_arg2) := by
  show StableHlo.after pre (V0 m d) (Proc.devRef .tc main_arg2) = _
  after_results_simp
  rfl

theorem V3_result : V3 m d (rf main_v5) = kval (m (aT d main_arg0)) (m (aT d main_arg1)) (m (aT d main_arg2)) := by
  have h : V2 m d (rf main_v3) = outVal (ci m d) (cx m d) (cb m d) := Function.update_self ..
  rw [ci_eq, cx_eq, cb_eq] at h
  show StableHlo.after suf (V2 m d) (Proc.devRef .tc main_v5) = _
  after_results_simp
  rw [show V2 m d (Proc.devRef .tc main_v3) = _ from h]
  rfl

theorem V3_arg (r : Ref sig .tc) (h : r = main_arg0 ∨ r = main_arg1 ∨ r = main_arg2) : V3 m d (rf r) = m (aT d r) := by
  have h2 : V3 m d (rf r) = V2 m d (rf r) := by
    show StableHlo.after suf (V2 m d) (Proc.devRef .tc r) = _
    rcases h with rfl | rfl | rfl <;> after_results_simp
  have h1 : V2 m d (rf r) = V1 m d (rf r) := by
    refine Function.update_of_ne ?_ _ _
    rcases h with rfl | rfl | rfl <;> decide
  rw [h2, h1]
  show StableHlo.after pre (V0 m d) (Proc.devRef .tc r) = _
  rcases h with rfl | rfl | rfl <;> after_results_simp <;> rfl

theorem args_mem : rf main_arg0 ∈ Pipeline.ucRefs τ sig ∧ rf main_arg1 ∈ Pipeline.ucRefs τ sig ∧ rf main_arg2 ∈ Pipeline.ucRefs τ sig ∧ rf main_v5 ∈ Pipeline.ucRefs τ sig := by decide

/-- The run, read at the arguments and the result. -/
theorem run_values [∀ e, Nonempty (Elt F e)] (ρ : Dev nD → PrngReg) (hpre : InRange (ci m)) :
    θ_run (Cert.GatherIdeal.defs (F := F)) (Cert.GatherIdeal.threads (F := F)) ⟨m, fun _ => 0, ρ⟩
      (fun r => (∀ c : Dev nD, r.2.mem (aT c main_v5) = kval (m (aT c main_arg0)) (m (aT c main_arg1)) (m (aT c main_arg2))
        ∧ r.2.mem (aT c main_arg0) = m (aT c main_arg0) ∧ r.2.mem (aT c main_arg1) = m (aT c main_arg1) ∧ r.2.mem (aT c main_arg2) = m (aT c main_arg2))
        ∧ r.2.sem = fun _ => 0) :=
  (θ_run Cert.GatherIdeal.defs _ _).mono
    (fun _ h => ⟨fun c => ⟨(h.1 c _ args_mem.2.2.2).trans (V3_result m c), (h.1 c _ args_mem.1).trans (V3_arg m c _ (by simp)),
      (h.1 c _ args_mem.2.1).trans (V3_arg m c _ (by simp)), (h.1 c _ args_mem.2.2.1).trans (V3_arg m c _ (by simp))⟩, h.2⟩)
    (run_main m ρ hpre)

end Steps

/-! ## The same over the extended reals, from the reference -/

/-- What the certificate's precondition gives: every row number, as a word, is below the table's height. -/
def RowsOK (a1 : IVec S4x4x256 32) : Prop := ∀ j, (a1 j).toNat < 32768

theorem inRange_of {F : FTy → Type} [FloatOps F] (m : (ℓ : Loc nD τ sig) → Buf (Elt F) ℓ) (h : ∀ d, RowsOK (m (aT d main_arg1))) : InRange (ci m) := by
  intro d j
  rw [ci_eq]
  exact h d _

/-- The flattened list at an entry. -/
theorem list_at (a1 : IVec S4x4x256 32) (n : Fin 4096) (b k : Fin 4) (q : Fin 256) (hn : n.val = 1024 * b.val + 4 * q.val + k.val) :
    shapeCast S4096 (transpose S4x256x4 [0, 2, 1] a1 transposes_S4x4x256_S4x256x4_0_2_1) shapeCasts_S4x256x4_S4096 (ix1 n) = a1 (ix3 b k q) := by
  pointwise
  have e0 : n.val / 1024 = b.val := by omega
  have e1 : n.val % 1024 / 4 = q.val := by omega
  have e2 : n.val % 4 = k.val := by omega
  congr 1
  idx_ext <;> omega

theorem kval_apply {F : FTy → Type} [FloatOps F] (a0 : FVec F S4x8192x128 .f32) (a1 : IVec S4x4x256 32) (a2 : FVec F S96 .f32) (h1 : RowsOK a1)
    (b : Fin 4) (c : Fin 96) (q : Fin 256) (g : Fin 4 → F .f32)
    (hg : g = fun k => shapeCast S32768x128 a0 shapeCasts_S4x8192x128_S32768x128 (ix2 ⟨(a1 (ix3 b k q)).toNat, h1 _⟩ ⟨c.val, by omega⟩)) :
    kval a0 a1 a2 (ix3 b c q) = meanOf (g 0) (g 1) (g 2) (g 3) (a2 (ix1 c)) := by
  have e : kval a0 a1 a2 (ix3 b c q)
      = outVal (shapeCast S4096 (transpose S4x256x4 [0, 2, 1] a1 transposes_S4x4x256_S4x256x4_0_2_1) shapeCasts_S4x256x4_S4096)
          (shapeCast S32768x128 a0 shapeCasts_S4x8192x128_S32768x128) a2 (ix2 ⟨b.val * 256 + q.val, by omega⟩ c) := by
    pointwise [kval]
  have row : ∀ (k : Fin 4) (h : 4 * (b.val * 256 + q.val) + k.val < 4096),
      rowOf (shapeCast S4096 (transpose S4x256x4 [0, 2, 1] a1 transposes_S4x4x256_S4x256x4_0_2_1) shapeCasts_S4x256x4_S4096) ⟨4 * (b.val * 256 + q.val) + k.val, h⟩
        = ⟨(a1 (ix3 b k q)).toNat, h1 _⟩ := by
    intro k h
    refine Fin.ext ?_
    show ((shapeCast S4096 (transpose S4x256x4 [0, 2, 1] a1 transposes_S4x4x256_S4x256x4_0_2_1) shapeCasts_S4x256x4_S4096) (ValueIdx.ix1 _)).toNat % 32768 = _
    rw [← ix1_eq_valueIdx, list_at a1 _ b k q (by show 4 * (b.val * 256 + q.val) + k.val = _; omega), Nat.mod_eq_of_lt (h1 _)]
  rw [e]
  have hgk : ∀ k : Fin 4, shapeCast S32768x128 a0 shapeCasts_S4x8192x128_S32768x128
      (ValueIdx.ix2 (rowOf (shapeCast S4096 (transpose S4x256x4 [0, 2, 1] a1 transposes_S4x4x256_S4x256x4_0_2_1) shapeCasts_S4x256x4_S4096)
        ⟨4 * (b.val * 256 + q.val) + k.val, by omega⟩) ⟨c.val, by omega⟩) = g k := by
    intro k
    rw [row k, hg]
    exact congrArg (shapeCast S32768x128 a0 shapeCasts_S4x8192x128_S32768x128) (ix2_eq_valueIdx _ _).symm
  show meanOf (shapeCast S32768x128 a0 shapeCasts_S4x8192x128_S32768x128 (ValueIdx.ix2 (rowOf _ ⟨4 * (b.val * 256 + q.val) + ((0 : Fin 4) : ℕ), _⟩) _))
    (shapeCast S32768x128 a0 shapeCasts_S4x8192x128_S32768x128 (ValueIdx.ix2 (rowOf _ ⟨4 * (b.val * 256 + q.val) + ((1 : Fin 4) : ℕ), _⟩) _))
    (shapeCast S32768x128 a0 shapeCasts_S4x8192x128_S32768x128 (ValueIdx.ix2 (rowOf _ ⟨4 * (b.val * 256 + q.val) + ((2 : Fin 4) : ℕ), _⟩) _))
    (shapeCast S32768x128 a0 shapeCasts_S4x8192x128_S32768x128 (ValueIdx.ix2 (rowOf _ ⟨4 * (b.val * 256 + q.val) + ((3 : Fin 4) : ℕ), _⟩) _))
    (a2 (ValueIdx.ix1 _)) = _
  rw [← ix1_eq_valueIdx]
  exact congr (congr (congr (congr (congrArg meanOf (hgk 0)) (hgk 1)) (hgk 2)) (hgk 3)) rfl

/-- A word that is below the table's height is itself when read signed, and is not wrapped. -/
theorem word_row (w : BitVec 32) (h : w.toNat < 32768) :
    (Scalar.select (IntOp.cmpi .slt w 0#32) (IntOp.addi w 32768#32) w).toInt.toNat = w.toNat := by
  have e : IntOp.cmpi .slt w 0#32 = 0#1 := by
    simp only [IntOp.cmpi, BitVec.slt_eq_decide, BitVec.toInt_eq_toNat_cond, BitVec.toNat_ofNat]
    rw [decide_eq_false (by omega)]; rfl
  rw [e]
  show w.toInt.toNat = _
  rw [BitVec.toInt_eq_toNat_cond, if_pos (by omega)]; rfl

/-- The reference's result over the extended reals, at an index. -/
theorem rval_apply (a0 : FVec Ideal S4x8192x128 .f32) (a1 : IVec S4x4x256 32) (a2 : FVec Ideal S96 .f32) (h1 : RowsOK a1)
    (b : Fin 4) (c : Fin 96) (q : Fin 256) (g : Fin 4 → EReal)
    (hg : g = fun k => shapeCast S32768x128 a0 shapeCasts_S4x8192x128_S32768x128 (ix2 ⟨(a1 (ix3 b k q)).toNat, h1 _⟩ ⟨c.val, by omega⟩)) :
    GatherRef.rval a0 a1 a2 (ix3 b c q) = Ideal.div (∑ k : Fin 4, g k) (Ideal.ofBits .f32 0x40800000#32) + a2 (ix1 c) := by
  pointwise [GatherRef.rval]
  refine congrArg (fun x => Ideal.div x _ + a2 (ix1 c)) (Finset.sum_congr rfl fun k _ => ?_)
  rw [show Cert.GatherReferenceIdeal.gather_S32768x128_S4x256x4x1_S4x256x4x128_3_0_n_n_0_3_1128
    = rowDims 32768 128 4 256 4 Cert.GatherReferenceIdeal.Gen.gather_S32768x128_S4x256x4x1_S4x256x4x128_3_0_n_n_0_3_1128_wf from rfl,
    gather_rows (by decide), hg]
  refine congrArg (fun r => shapeCast S32768x128 a0 shapeCasts_S4x8192x128_S32768x128 (ix2 r ⟨c.val, by omega⟩)) (Fin.ext ?_)
  show min _ _ = (a1 (ix3 b k q)).toNat
  have e : ∀ w : BitVec 32, w = Scalar.select (IntOp.cmpi .slt (a1 (ix3 b k q)) 0#32) (IntOp.addi (a1 (ix3 b k q)) 32768#32) (a1 (ix3 b k q)) →
      min w.toInt.toNat (32768 - 1) = (a1 (ix3 b k q)).toNat := by
    rintro w rfl
    have := h1 (ix3 b k q)
    rw [word_row _ this]; omega
  refine e _ ?_
  pointwise

theorem quarter_eq : Ideal.ofBits .f32 0x3E800000#32 = ((1 / 4 : ℝ) : EReal) := by simp [Ideal.ofBits, Ideal.ieee, -EReal.coe_mul]; norm_num
theorem four_eq : Ideal.ofBits .f32 0x40800000#32 = ((4 : ℝ) : EReal) := by simp [Ideal.ofBits, Ideal.ieee, -EReal.coe_mul]; norm_num

/-- A quarter of a sum is the sum divided by four. -/
theorem div_four (x : EReal) : Ideal.div x (Ideal.ofBits .f32 0x40800000#32) = x * Ideal.ofBits .f32 0x3E800000#32 := by
  rw [quarter_eq, four_eq]
  unfold Ideal.div
  rw [if_neg (by norm_num), ← EReal.coe_inv]
  norm_num

theorem values_eq (a0 : FVec Ideal S4x8192x128 .f32) (a1 : IVec S4x4x256 32) (a2 : FVec Ideal S96 .f32) (h1 : RowsOK a1) :
    (kval a0 a1 a2 : S4x96x256.Idx → EReal) = GatherRef.rval a0 a1 a2 := by
  have at3 (b : Fin 4) (c : Fin 96) (q : Fin 256) : kval a0 a1 a2 (ix3 b c q) = GatherRef.rval a0 a1 a2 (ix3 b c q) := by
    rw [kval_apply a0 a1 a2 h1 b c q _ rfl, rval_apply a0 a1 a2 h1 b c q _ rfl, div_four, Fin.sum_univ_four]
    rfl
  funext j
  exact (congrArg (kval a0 a1 a2) (eq_ix3 j)).trans ((at3 (j 0) (j 1) (j 2)).trans (congrArg (GatherRef.rval a0 a1 a2) (eq_ix3 j).symm))

end Cert.Proof.GatherTile

end
-- ==== Proof.Select.lean ====
/-
  Selecting the four best of a column: the four least elements of a set in a linear order, and the rounds "take the
  greatest value, among its positions the least number, then strike that number out" that find them. A position is
  ordered by its value, greater first, then by its number.
-/
module

public import Idealize.ShloMosaic.PureOps.Ideal
public import Idealize.ShloMosaic.Lib.SortNet.Extract
public import Idealize.ShloMosaic.Lib.SortFacts
public import Mathlib.Data.Prod.Lex
public import Mathlib.Order.WellFounded

@[expose] public section

noncomputable section

namespace Cert.Proof.Select

open Idealize.ShloMosaic

section order
variable {α : Type*} [LinearOrder α]

/-- `j` lists, in order, the four least elements of `S`. -/
structure Least4 (S : Set α) (j : Fin 4 → α) : Prop where
  mem : ∀ k, j k ∈ S
  mono : StrictMono j
  rest : ∀ e ∈ S, (∃ k, j k = e) ∨ j 3 < e

/-- Four elements among four are all of them. -/
theorem covers {j j' : Fin 4 → α} (hj' : Function.Injective j') (h : ∀ k, ∃ i, j i = j' k) (i : Fin 4) : ∃ k, j i = j' k := by
  choose c hc using h
  have hinj : Function.Injective c := fun a b hab => hj' (by rw [← hc a, ← hc b, hab])
  obtain ⟨k, hk⟩ := Finite.injective_iff_surjective.mp hinj i
  exact ⟨k, by rw [← hk, hc]⟩

theorem Least4.le_last {S : Set α} {j : Fin 4 → α} (h : Least4 S j) (k : Fin 4) : j k ≤ j 3 :=
  h.mono.monotone (Fin.le_last k)

theorem Least4.sub {S : Set α} {j j' : Fin 4 → α} (h : Least4 S j) (h' : Least4 S j') (k : Fin 4) : ∃ i, j' i = j k := by
  by_contra hk
  have hlt : j' 3 < j k := (h'.rest _ (h.mem k)).resolve_left hk
  have hall (i : Fin 4) : ∃ a, j a = j' i :=
    (h.rest _ (h'.mem i)).resolve_right fun hc => absurd (hc.trans_le (h'.le_last i)) (not_lt.mpr (hlt.le.trans (h.le_last k)))
  obtain ⟨i, hi⟩ := covers h'.mono.injective hall k
  exact hk ⟨i, hi.symm⟩

theorem Least4.unique {S : Set α} {j j' : Fin 4 → α} (h : Least4 S j) (h' : Least4 S j') : j = j' := by
  refine (StrictMono.range_inj h.mono h'.mono).mp (Set.Subset.antisymm ?_ ?_)
  · rintro _ ⟨k, rfl⟩; exact h.sub h' k
  · rintro _ ⟨k, rfl⟩; exact h'.sub h k

/-- No element of a part is struck out by the four least of the whole's candidates unless it is beyond them. -/
theorem Least4.beyond {S T : Set α} {j0 j : Fin 4 → α} (h0 : Least4 S j0) (hT : ∀ k, j0 k ∈ T) (h : Least4 T j)
    {e : α} (he : e ∈ S) : (∃ k, j k = e) ∨ j 3 < e := by
  rcases h0.rest e he with ⟨k, rfl⟩ | hlt
  · exact h.rest _ (hT k)
  · refine .inr (lt_of_le_of_lt ?_ hlt)
    by_contra hc
    have hc : j0 3 < j 3 := not_le.mp hc
    have hall (i : Fin 4) : ∃ a, j a = j0 i :=
      (h.rest _ (hT i)).resolve_right fun hx => absurd (hx.trans_le (h0.le_last i)) (not_lt.mpr hc.le)
    obtain ⟨i, hi⟩ := covers h0.mono.injective hall 3
    exact absurd (hi ▸ h0.le_last i) (not_le.mpr hc)

/-- The four least of the two parts' fours are the four least of both parts. -/
theorem Least4.merge {S T : Set α} {j0 j1 j : Fin 4 → α} (h0 : Least4 S j0) (h1 : Least4 T j1)
    (h : Least4 (Set.range j0 ∪ Set.range j1) j) : Least4 (S ∪ T) j where
  mem k := by
    rcases h.mem k with ⟨i, hi⟩ | ⟨i, hi⟩
    · exact .inl (hi ▸ h0.mem i)
    · exact .inr (hi ▸ h1.mem i)
  mono := h.mono
  rest e he := by
    rcases he with he | he
    · exact h0.beyond (fun k => .inl ⟨k, rfl⟩) h he
    · exact h1.beyond (fun k => .inr ⟨k, rfl⟩) h he

/-- The four least of a part's own four. -/
theorem Least4.range {S : Set α} {j0 j : Fin 4 → α} (h0 : Least4 S j0) (h : Least4 (Set.range j0) j) : j = j0 :=
  h.unique ⟨fun k => ⟨k, rfl⟩, h0.mono, fun _ ⟨k, hk⟩ => .inl ⟨k, hk⟩⟩

theorem Least4.map {β : Type*} [LinearOrder β] {S : Set α} {j : Fin 4 → α} (h : Least4 S j) (f : α → β) (hf : StrictMono f) :
    Least4 (f '' S) (f ∘ j) where
  mem k := ⟨_, h.mem k, rfl⟩
  mono := hf.comp h.mono
  rest := by
    rintro _ ⟨e, he, rfl⟩
    rcases h.rest e he with ⟨k, rfl⟩ | hlt
    · exact .inl ⟨k, rfl⟩
    · exact .inr (hf hlt)

end order

/-! ## Positions ordered by value and number -/

/-- Greater values first, among equal values lesser numbers first. -/
abbrev Key : Type := Lex (ERealᵒᵈ × ℤ)

def mk (v : EReal) (n : ℤ) : Key := toLex (OrderDual.toDual v, n)

theorem mk_lt {v w : EReal} {a b : ℤ} : mk v a < mk w b ↔ w < v ∨ (v = w ∧ a < b) := by
  unfold mk
  rw [Prod.Lex.toLex_lt_toLex]
  simp

theorem mk_inj {v w : EReal} {a b : ℤ} : mk v a = mk w b ↔ v = w ∧ a = b := by
  unfold mk
  simp

theorem mk_le {v w : EReal} {a b : ℤ} : mk v a ≤ mk w b ↔ w < v ∨ (v = w ∧ a ≤ b) := by
  unfold mk
  rw [Prod.Lex.toLex_le_toLex]
  simp

/-- Numbers moved by a constant. -/
def shift (c : ℤ) (k : Key) : Key := mk (OrderDual.ofDual (ofLex k).1) ((ofLex k).2 + c)

theorem shift_mk (c : ℤ) (v : EReal) (a : ℤ) : shift c (mk v a) = mk v (a + c) := rfl

theorem shift_mono (c : ℤ) : StrictMono (shift c) := by
  intro x y h
  have hx : x = mk (OrderDual.ofDual (ofLex x).1) (ofLex x).2 := rfl
  have hy : y = mk (OrderDual.ofDual (ofLex y).1) (ofLex y).2 := rfl
  rw [hx, hy] at h ⊢
  rw [shift_mk, shift_mk, mk_lt]
  rcases mk_lt.mp h with h | ⟨h, h'⟩
  · exact .inl h
  · exact .inr ⟨h, by omega⟩

/-! ## The rounds -/

/-- The value a struck position has, and the number a position without one has. -/
abbrev floor : EReal := Ideal.ofBits .f32 0xFF7FFFFF#32
abbrev big : BitVec 32 := 2147483647#32

section rounds
variable {n : ℕ}

def cmax (v : Fin n → EReal) : EReal := Finset.univ.fold max ⊥ v
def csel (d : Fin n → BitVec 32) (v : Fin n → EReal) : BitVec 32 :=
  Finset.univ.fold IntOp.minsi big fun e => if v e = cmax v then d e else big
def ckill (d : Fin n → BitVec 32) (v : Fin n → EReal) : Fin n → EReal := fun e => if d e = csel d v then floor else v e

/-- A column to select from: the positions of `V` have values above the floor and numbers of their own. -/
structure Column (d : Fin n → BitVec 32) (v : Fin n → EReal) (V : Finset (Fin n)) : Prop where
  above : ∀ e ∈ V, floor < v e
  inj : ∀ e ∈ V, ∀ e' ∈ V, d e = d e' → e = e'
  lt : ∀ e ∈ V, (d e).toInt < 2147483647
  none : ∀ e ∉ V, v e = floor ∧ d e = big

def keyOf (d : Fin n → BitVec 32) (v : Fin n → EReal) (e : Fin n) : Key := mk (v e) (d e).toInt

/-- What is left of a column: the positions of `A` as they were, all others struck. -/
structure Left (v : Fin n → EReal) (A : Finset (Fin n)) (w : Fin n → EReal) : Prop where
  on : ∀ e ∈ A, w e = v e
  off : ∀ e ∉ A, w e = floor

theorem cmax_eq {w : Fin n → EReal} {e : Fin n} (h : ∀ x, w x ≤ w e) : cmax w = w e :=
  le_antisymm ((Finset.fold_max_le _).mpr ⟨bot_le, fun x _ => h x⟩) ((Finset.le_fold_max _).mpr (.inr ⟨e, Finset.mem_univ _, le_rfl⟩))

theorem csel_toInt (d : Fin n → BitVec 32) (w : Fin n → EReal) :
    (csel d w).toInt = Finset.univ.fold min (2147483647 : ℤ) fun e => (if w e = cmax w then d e else big).toInt :=
  (Finset.fold_hom (m := BitVec.toInt) (fun x y => SortNet.toInt_minsi x y)).symm

/-- One round takes the least position left, and strikes it. -/
theorem round {d : Fin n → BitVec 32} {v : Fin n → EReal} {V A : Finset (Fin n)} {w : Fin n → EReal}
    (h : Column d v V) (hA : A ⊆ V) (hw : Left v A w) (hne : A.Nonempty) :
    ∃ e ∈ A, (∀ x ∈ A, keyOf d v e ≤ keyOf d v x) ∧ cmax w = v e ∧ csel d w = d e ∧ Left v (A.erase e) (ckill d w) := by
  obtain ⟨e, he, hmin⟩ := A.exists_min_image (keyOf d v) hne
  have hflo : floor < w e := by rw [hw.on e he]; exact h.above e (hA he)
  have hmax : cmax w = w e := cmax_eq fun x => by
    by_cases hx : x ∈ A
    · rw [hw.on x hx, hw.on e he]
      rcases mk_le.mp (hmin x hx) with h1 | ⟨h1, -⟩
      · exact h1.le
      · exact h1.ge
    · rw [hw.off x hx]; exact hflo.le
  have hsel : csel d w = d e := by
    refine BitVec.eq_of_toInt_eq ?_
    rw [csel_toInt]
    refine le_antisymm ((Finset.fold_min_le _).mpr (.inr ⟨e, Finset.mem_univ _, by rw [if_pos hmax.symm]⟩)) ((Finset.le_fold_min _).mpr ⟨(h.lt e (hA he)).le, fun x _ => ?_⟩)
    by_cases hx : w x = cmax w
    · rw [if_pos hx]
      have hxA : x ∈ A := by
        by_contra hxA
        rw [hmax, hw.off x hxA] at hx
        exact absurd hx hflo.ne
      rcases mk_le.mp (hmin x hxA) with h1 | ⟨-, h1⟩
      · rw [← hw.on x hxA, ← hw.on e he, hx, hmax] at h1
        exact absurd h1 (lt_irrefl _)
      · exact h1
    · rw [if_neg hx]
      exact (h.lt e (hA he)).le
  refine ⟨e, he, hmin, hmax.trans (hw.on e he), hsel, ?_, ?_⟩
  · intro x hx
    have hx' := Finset.mem_erase.mp hx
    unfold ckill
    rw [if_neg, hw.on x hx'.2]
    rw [hsel]
    exact fun hc => hx'.1 (h.inj x (hA hx'.2) e (hA he) hc)
  · intro x hx
    unfold ckill
    split_ifs with hc
    · rfl
    · refine hw.off x fun hxA => hx (Finset.mem_erase.mpr ⟨?_, hxA⟩)
      rintro rfl
      exact hc hsel.symm

/-- Four rounds take the four least positions of the column, in order. -/
theorem rounds {d : Fin n → BitVec 32} {v : Fin n → EReal} {V : Finset (Fin n)} (h : Column d v V) (hV : 4 ≤ V.card) :
    ∃ e : Fin 4 → Fin n, (∀ k, e k ∈ V) ∧ Least4 (keyOf d v '' (V : Set (Fin n))) (keyOf d v ∘ e)
      ∧ (cmax v = v (e 0) ∧ cmax (ckill d v) = v (e 1) ∧ cmax (ckill d (ckill d v)) = v (e 2) ∧ cmax (ckill d (ckill d (ckill d v))) = v (e 3))
      ∧ csel d v = d (e 0) ∧ csel d (ckill d v) = d (e 1) ∧ csel d (ckill d (ckill d v)) = d (e 2) ∧ csel d (ckill d (ckill d (ckill d v))) = d (e 3) := by
  have hkey {x y : Fin n} (hx : x ∈ V) (hy : y ∈ V) (hxy : keyOf d v x = keyOf d v y) : x = y :=
    h.inj x hx y hy (BitVec.eq_of_toInt_eq (mk_inj.mp hxy).2)
  have start : Left v V v := ⟨fun _ _ => rfl, fun x hx => (h.none x hx).1⟩
  have ne {A : Finset (Fin n)} (hA : 0 < A.card) : A.Nonempty := Finset.card_pos.mp hA
  obtain ⟨e0, m0, l0, c0, s0, w0⟩ := round h (subset_refl V) start (ne (by omega))
  have k0 := Finset.card_erase_of_mem m0
  have b0 := Finset.erase_subset e0 V
  obtain ⟨e1, m1, l1, c1, s1, w1⟩ := round h b0 w0 (ne (by omega))
  have k1 := Finset.card_erase_of_mem m1
  have b1 := Finset.erase_subset e1 (V.erase e0)
  obtain ⟨e2, m2, l2, c2, s2, w2⟩ := round h (b1.trans b0) w1 (ne (by omega))
  have k2 := Finset.card_erase_of_mem m2
  have b2 := Finset.erase_subset e2 ((V.erase e0).erase e1)
  obtain ⟨e3, m3, l3, c3, s3, w3⟩ := round h (b2.trans (b1.trans b0)) w2 (ne (by omega))
  have v1 : e1 ∈ V := b0 m1
  have v2 : e2 ∈ V := b0 (b1 m2)
  have v3 : e3 ∈ V := b0 (b1 (b2 m3))
  have q01 : keyOf d v e0 < keyOf d v e1 := lt_of_le_of_ne (l0 _ v1) fun hc => (Finset.mem_erase.mp m1).1 (hkey m0 v1 hc).symm
  have q12 : keyOf d v e1 < keyOf d v e2 := lt_of_le_of_ne (l1 _ (b1 m2)) fun hc => (Finset.mem_erase.mp m2).1 (hkey v1 v2 hc).symm
  have q23 : keyOf d v e2 < keyOf d v e3 := lt_of_le_of_ne (l2 _ (b2 m3)) fun hc => (Finset.mem_erase.mp m3).1 (hkey v2 v3 hc).symm
  refine ⟨![e0, e1, e2, e3], ?_, ⟨?_, ?_, ?_⟩, ⟨c0, c1, c2, c3⟩, s0, s1, s2, s3⟩
  · intro k
    fin_cases k <;> assumption
  · intro k
    refine ⟨![e0, e1, e2, e3] k, ?_, rfl⟩
    fin_cases k <;> assumption
  · rw [Fin.strictMono_iff_lt_succ]
    intro k
    fin_cases k <;> assumption
  · rintro _ ⟨x, hx, rfl⟩
    by_cases x0 : x = e0
    · exact .inl ⟨0, by rw [x0]; rfl⟩
    by_cases x1 : x = e1
    · exact .inl ⟨1, by rw [x1]; rfl⟩
    by_cases x2 : x = e2
    · exact .inl ⟨2, by rw [x2]; rfl⟩
    by_cases x3 : x = e3
    · exact .inl ⟨3, by rw [x3]; rfl⟩
    refine .inr (lt_of_le_of_ne (l3 x ?_) fun hc => x3 (hkey v3 hx hc).symm)
    exact Finset.mem_erase.mpr ⟨x2, Finset.mem_erase.mpr ⟨x1, Finset.mem_erase.mpr ⟨x0, hx⟩⟩⟩

end rounds

/-! ## The stable sort -/

section sort
variable {n : ℕ} (f : Fin n → EReal)

/-- Position `a`'s key when numbers are the positions themselves. -/
def posKey (a : Fin n) : Key := mk (f a) a.val

theorem posKey_injective : Function.Injective (posKey f) := fun a b h => by
  have := (mk_inj.mp h).2
  exact Fin.ext (by exact_mod_cast this)

theorem sorted_insert (R : Fin n → Fin n → Bool) (hR : ∀ a b, R a b = true ↔ f b < f a) (a : Fin n) (l : List (Fin n)) (ha : ∀ b ∈ l, a < b)
    (hl : l.Pairwise fun b c => posKey f b < posKey f c) : (insertBefore R a l).Pairwise fun b c => posKey f b < posKey f c := by
  induction l with
  | nil => exact List.pairwise_singleton _ _
  | cons b l ih =>
    rw [List.pairwise_cons] at hl
    unfold insertBefore
    split
    · rename_i h
      refine List.pairwise_cons.mpr ⟨fun c hc => ?_, ih (fun x hx => ha x (List.mem_cons_of_mem _ hx)) hl.2⟩
      rcases List.mem_cons.mp ((perm_insertBefore R a l).mem_iff.mp hc) with rfl | hc'
      · exact mk_lt.mpr (.inl ((hR _ _).mp h))
      · exact hl.1 c hc'
    · rename_i h
      have hab : posKey f a < posKey f b := by
        have h1 : f b ≤ f a := not_lt.mp fun hc => h ((hR _ _).mpr hc)
        have h2 : (a.val : ℤ) < b.val := by exact_mod_cast ha b List.mem_cons_self
        rcases h1.lt_or_eq with h1 | h1
        · exact mk_lt.mpr (.inl h1)
        · exact mk_lt.mpr (.inr ⟨h1.symm, h2⟩)
      refine List.pairwise_cons.mpr ⟨fun c hc => ?_, List.pairwise_cons.mpr hl⟩
      rcases List.mem_cons.mp hc with rfl | hc'
      · exact hab
      · exact hab.trans (hl.1 c hc')

theorem sorted_stable (R : Fin n → Fin n → Bool) (hR : ∀ a b, R a b = true ↔ f b < f a) (l : List (Fin n)) (hl : l.Pairwise fun a b => a < b) :
    (stableSort R l).Pairwise fun b c => posKey f b < posKey f c := by
  induction l with
  | nil => exact List.Pairwise.nil
  | cons a l ih =>
    rw [List.pairwise_cons] at hl
    unfold stableSort
    exact sorted_insert f R hR a _ (fun b hb => hl.1 b ((perm_stableSort R l).mem_iff.mp hb)) (ih hl.2)

theorem sortedFrom_mono (R : Fin n → Fin n → Bool) (hR : ∀ a b, R a b = true ↔ f b < f a) : StrictMono fun k => posKey f (sortedFrom R k) := by
  intro i j hij
  have h := List.pairwise_iff_get.mp (sorted_stable f R hR (List.finRange n) (List.pairwise_lt_finRange n))
  exact h (i.cast (length_sortPositions n R).symm) (j.cast (length_sortPositions n R).symm) hij

/-- The first four positions of the stable sort by greater values are the four least keys. -/
theorem sortedFrom_least (R : Fin n → Fin n → Bool) (hR : ∀ a b, R a b = true ↔ f b < f a) (hn : 4 ≤ n) :
    Least4 (Set.range (posKey f)) fun k : Fin 4 => posKey f (sortedFrom R (Fin.castLE hn k)) where
  mem k := ⟨_, rfl⟩
  mono := (sortedFrom_mono f R hR).comp (Fin.strictMono_castLE hn)
  rest := by
    rintro _ ⟨a, rfl⟩
    obtain ⟨k, rfl⟩ := sortedFrom_surjective R a
    by_cases hk : k.val < 4
    · exact .inl ⟨⟨k.val, hk⟩, rfl⟩
    · refine .inr (sortedFrom_mono f R hR (show Fin.castLE hn 3 < k from ?_))
      show 3 < k.val
      omega

end sort

end Cert.Proof.Select

end
-- ==== Proof.WholeBase.lean ====
/-
  The whole kernel as its two launch theorems see it: the labels, the SparseCore configuration, the handlers, and the
  resource algebra both calls are proved over.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.WholeBase

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The hand-overs of the SparseCore's tasks. -/
abbrev UH : Type := URounds (GSem nD τ sig) ℕ
/-- With the hand-overs of the pipelined region and the counters. -/
abbrev UU : Type := UH × (UR sig nD τ × Counters)

abbrev EH : Emb UH (MT nD τ sig (HIx 1) (Elt F) ℕ UU ℕ) := embL
abbrev EP : Emb (UR sig nD τ) (MT nD τ sig (HIx 1) (Elt F) ℕ UU ℕ) := ((Emb.inl : Emb (UR sig nD τ) (UR sig nD τ × Counters)).trans embR)

end Cert.Proof.WholeBase

end
-- ==== Proof.ProjBody.lean ====
/-
  One grid point of the projection and selection call: the body's stores, stated as functions of the point's blocks and of
  the two small scratch buffers it finds. The point at the first half of a batch resets the two buffers, the point at the
  second half goes on from what the first half left.
-/
module

public import proofs.«01_k».proof.Proof.Gen.KernelIdeal.Skeleton
public import proofs.«01_k».proof.Proof.Gen.KernelIdeal.Launch
public import proofs.«01_k».proof.Proof.WholeBase
public import Idealize.ShloMosaic.Lib.Tactic
public import Idealize.ShloMosaic.Lib.VecWindow
public import Idealize.ShloMosaic.Lib.ValueIdxCore
public import Idealize.ShloMosaic.Lib.Pipeline.FrameBody

@[expose] public section

set_option maxRecDepth 16384

noncomputable section

namespace Cert.Proof.ProjBody

open Cert.KernelIdeal Cert.KernelIdeal.Gen Cert.Proof.WholeBase
open Idealize.ShloMosaic.ValueIdx (ix2)
open Idealize.ShloMosaic.SparseCore.Cfg (HIx)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What a point leaves -/

/-- The first element axis offset of a batch half: its rows are numbered from `l * 4096 + b * 8192`. -/
def offW (i : grid0.Coords) : BitVec 32 := Scalar.addi (Scalar.muli (BitVec.ofNat 32 (i 1).val) 4096#32) (Scalar.muli (BitVec.ofNat 32 (i 0).val) 8192#32)

/-- The 8 × 256 array with row `a` replaced. -/
def setRow {α : Type} (a : ℕ) (x : S8x256.Idx → α) (r : S1x256.Idx → α) : S8x256.Idx → α :=
  VecWindow.put x ![a, 0] S1x256.size r

/-- Rows 4 to 7 of the values buffer hold the four best similarities of the point's block. -/
def local9 (s : Vec F S4096x256 .f32) (ids : Vec F S4096x256 .i32) (x : Vec F S8x256 .f32) : Vec F S8x256 .f32 :=
  setRow 7 (setRow 6 (setRow 5 (setRow 4 x (k0_pay10 s)) (k0_pay15 ids s)) (k0_pay21 ids (k0_pay12 ids s) (k0_pay14 ids s)))
    (k0_pay25 ids (k0_pay12 ids s) (k0_pay14 ids s))

/-- Rows 4 to 7 of the numbers buffer hold the table rows of those four. -/
def local10 (i : grid0.Coords) (s : Vec F S4096x256 .f32) (ids : Vec F S4096x256 .i32) (x : Vec F S8x256 .i32) : Vec F S8x256 .i32 :=
  setRow 7 (setRow 6 (setRow 5 (setRow 4 x (k0_pay11 (BitVec.ofNat 32 (i 0).val) (BitVec.ofNat 32 (i 1).val) ids 4096#32 s))
    (k0_pay17 (k0_pay16 (BitVec.ofNat 32 (i 0).val) (BitVec.ofNat 32 (i 1).val) ids 4096#32 s)))
    (k0_pay22 ids (offW i) (k0_pay12 ids s) (k0_pay14 ids s)))
    (k0_pay27 (k0_pay26 ids (offW i) (k0_pay12 ids s) (k0_pay14 ids s)))

/-- Rows 0 to 3 of the values buffer: the four best of its eight. -/
def merge9 (x : Vec F S8x256 .f32) (y : Vec F S8x256 .i32) : Vec F S8x256 .f32 :=
  setRow 3 (setRow 2 (setRow 1 (setRow 0 x (k0_pay30 x)) (k0_pay35 x y)) (k0_pay41 y (k0_pay32 x y) (k0_pay37 x y)))
    (k0_pay45 y (k0_pay32 x y) (k0_pay37 x y))

/-- Rows 0 to 3 of the numbers buffer: the numbers of those four. -/
def merge10 (x : Vec F S8x256 .f32) (y : Vec F S8x256 .i32) : Vec F S8x256 .i32 :=
  setRow 3 (setRow 2 (setRow 1 (setRow 0 y (k0_pay31 x y)) (k0_pay36 x y)) (k0_pay42 y (k0_pay32 x y) (k0_pay37 x y)))
    (k0_pay46 y (k0_pay32 x y) (k0_pay37 x y))

/-- The values buffer after a point that found `x`, `y` in the two buffers. -/
def step9 (i : grid0.Coords) (x0 : Vec F S1x768x256 .f32) (x1 : Vec F S1x768x4096 .f32) (x3 : Vec F S4096x256 .i32)
    (x : Vec F S8x256 .f32) (y : Vec F S8x256 .i32) : Vec F S8x256 .f32 :=
  merge9 (local9 (k0_pay4 x0 x1) (k0_pay7 x3) x) (local10 i (k0_pay4 x0 x1) (k0_pay7 x3) y)

/-- The numbers buffer after such a point. -/
def step10 (i : grid0.Coords) (x0 : Vec F S1x768x256 .f32) (x1 : Vec F S1x768x4096 .f32) (x3 : Vec F S4096x256 .i32)
    (x : Vec F S8x256 .f32) (y : Vec F S8x256 .i32) : Vec F S8x256 .i32 :=
  merge10 (local9 (k0_pay4 x0 x1) (k0_pay7 x3) x) (local10 i (k0_pay4 x0 x1) (k0_pay7 x3) y)

/-- The block of selected numbers the point stores. -/
def outIds (y : Vec F S8x256 .i32) : Vec F S1x4x256 .i32 :=
  k0_pay1 (VecWindow.window y ![0, 0] S4x256.size (by decide))

/-- The grid point is the first of its batch. -/
abbrev first (i : grid0.Coords) : Prop :=
  (Scalar.cmpi .ne (Scalar.extui (Scalar.cmpi .eq (BitVec.ofNat 32 (i 1).val) 0#32)) 0#32) = 1#1

/-! ## Loads and stores of the buffers -/

theorem setRow_apply {α : Type} (a : ℕ) (x : S8x256.Idx → α) (r : S1x256.Idx → α) (j : S8x256.Idx) :
    setRow a x r j = if (j 0).val = a then r (ix2 (0 : Fin 1) (j 1)) else x j := by
  have h1 : (j 1).val < 256 := (j 1).isLt
  unfold setRow VecWindow.put
  by_cases h : (j 0).val = a
  · have hall : ∀ k, (![a, 0] : Fin 2 → ℕ) k ≤ (j k).val ∧ (j k).val < (![a, 0] : Fin 2 → ℕ) k + S1x256.size k := fun k => by
      fin_cases k
      · show a ≤ (j 0).val ∧ (j 0).val < a + 1
        omega
      · show 0 ≤ (j 1).val ∧ (j 1).val < 0 + 256
        omega
    rw [dif_pos hall, if_pos h]
    refine congrArg r (funext fun k => Fin.ext ?_)
    fin_cases k
    · show (j 0).val - a = 0
      omega
    · show (j 1).val - 0 = (j 1).val
      omega
  · rw [dif_neg, if_neg h]
    intro hall
    have h0 : a ≤ (j 0).val ∧ (j 0).val < a + 1 := hall 0
    omega

/-- The first four rows, all replaced, keep nothing of what was there. -/
theorem window_setRows {α : Type} (x y : S8x256.Idx → α) (r0 r1 r2 r3 : S1x256.Idx → α) :
    VecWindow.window (setRow 3 (setRow 2 (setRow 1 (setRow 0 x r0) r1) r2) r3) ![0, 0] S4x256.size (by decide)
      = VecWindow.window (setRow 3 (setRow 2 (setRow 1 (setRow 0 y r0) r1) r2) r3) ![0, 0] S4x256.size (by decide) := by
  funext j
  have hj : (j 0).val < 4 := (j 0).isLt
  unfold VecWindow.window
  simp only [setRow_apply]
  have e : (((Rect.unit (s := S8x256) ![0, 0] S4x256.size (by decide)).emb j) 0).val = (j 0).val := by
    show 0 + 1 * (j 0).val = (j 0).val
    omega
  simp only [e]
  split_ifs <;> first | rfl | omega

section
variable {sig' : RefSig} {κ : Kind} {sp : Space} {e : EltTy} {Val : EltTy → Type}

theorem read_setRow (v : View sig' κ sp S8x256 e) (f : v.ty.Contents Val) (a : ℕ) (inb : ∀ k, (![a, 0] : Fin 2 → ℕ) k + S1x256.size k ≤ S8x256.size k)
    {w w' : S1x256.Idx → Val e} {L : List (View.Piece Val S8x256 e)} {x : S8x256.Idx → Val e}
    (hL : v.read Val (v.writes Val f L) = x) (hw : w = w') :
    v.read Val (v.writes Val f (⟨Rect.unit (s := S8x256) ![a, 0] S1x256.size inb, w⟩ :: L)) = setRow a x w' := by
  subst hL hw
  exact View.read_writes_cons_put v f inb w L rfl

end

section run

local notation "𝕄" => MT nD τ sig (HIx 1) (Elt F) ℕ UU ℕ

set_option maxHeartbeats 2000000 in
/-- The body's triple at the second half of a batch. -/
theorem body_next (c : Dev nD) (i : grid0.Coords) (arg2 : Memref sig .tc .vmem S1x768x256 .f32) (harg2 : arg2.IsWhole) (arg3 : Memref sig .tc .vmem S1x768x4096 .f32) (harg3 : arg3.IsWhole) (arg4 : Memref sig .tc .vmem S768x128 .f32) (harg4 : arg4.IsWhole) (arg5 : Memref sig .tc .vmem S4096x256 .i32) (harg5 : arg5.IsWhole) (arg6 : Memref sig .tc .vmem S1x4096x128 .f32) (harg6 : arg6.IsWhole) (arg7 : Memref sig .tc .vmem S1x4x256 .i32) (harg7 : arg7.IsWhole) (arg8 : Memref sig .tc .vmem S4096x256 .f32) (harg8 : arg8.IsWhole) (arg9 : Memref sig .tc .vmem S8x256 .f32) (harg9 : arg9.IsWhole) (arg10 : Memref sig .tc .vmem S8x256 .i32) (harg10 : arg10.IsWhole) (hc0 : ¬ first i)
    (x0 : Vec F S1x768x256 .f32) (x1 : Vec F S1x768x4096 .f32) (x2 : Vec F S768x128 .f32) (x3 : Vec F S4096x256 .i32) (xs1 : Vec F S8x256 .f32) (xs2 : Vec F S8x256 .i32)
    (E : Set ℕ) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 x1 x2) ∗ owns (c : Thread nD τ) arg7 fullShare (outIds (F := F) (step10 i x0 x1 x3 (xs1) (xs2)))
            ∗ (∃ d, owns (c : Thread nD τ) arg8 fullShare d) ∗ owns (c : Thread nD τ) arg9 fullShare (step9 i x0 x1 x3 (xs1) (xs2)) ∗ owns (c : Thread nD τ) arg10 fullShare (step10 i x0 x1 x3 (xs1) (xs2))) -∗ Q ⟨⟩))
      ⊢ wp frame (wpE (defs₀ (F := F)) Variants.none c none) E (cc0__topk_proj_body i arg2 harg2 arg3 harg3 arg4 harg4 arg5 harg5 arg6 harg6 arg7 harg7 arg8 harg8 arg9 harg9 arg10 harg10) Q := by
  simp only [cc0__topk_proj_body_eq_skeleton]; unfold cc0__topk_proj_body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg9.eq_unread hfs1; obtain rfl := harg10.eq_unread hfs2
  sl_exec (disch := first | sl_exact hc0)
  sl_step
  have e34 : body_next.sl.v34 c arg2 harg2 arg3 harg3 arg8 x0 x1 = k0_pay4 x0 x1 := by
    delta body_next.sl.v34
    refine (View.readCov_full _ _ _ _ _).trans ?_
    rw [View.readAt_full, View.readAt_full, hf0, hf1]
  have er : body_next.sl.r c arg5 harg5 x3 = k0_pay7 x3 := by
    delta body_next.sl.r
    rw [View.readAt_full, hf3]
  have er1 : body_next.sl.r_1 c arg2 harg2 arg3 harg3 arg5 harg5 arg8 x0 x1 x3 = k0_pay12 (k0_pay7 x3) (k0_pay4 x0 x1) := by
    delta body_next.sl.r_1
    rw [er, e34]
  have er2 : body_next.sl.r_2 c arg2 harg2 arg3 harg3 arg5 harg5 arg8 x0 x1 x3 = k0_pay14 (k0_pay7 x3) (k0_pay4 x0 x1) := by
    delta body_next.sl.r_2
    rw [er, e34]
  have eL1 : arg9.view.read (Elt F) (arg9.view.writes (Elt F) (harg9.unread xs1) (body_next.sl.HS1_4 c arg2 harg2 arg3 harg3 arg5 harg5 arg8 x0 x1 x3)) = local9 (k0_pay4 x0 x1) (k0_pay7 x3) (xs1) := by
    delta body_next.sl.HS1_4
    exact read_setRow _ _ 7 _ (read_setRow _ _ 6 _ (read_setRow _ _ 5 _ (read_setRow _ _ 4 _ hfs1 (by rw [e34])) (by rw [er, e34])) (by rw [er, er1, er2])) (by rw [er, er1, er2])
  have eL2 : arg10.view.read (Elt F) (arg10.view.writes (Elt F) (harg10.unread xs2) (body_next.sl.HS2_4 c i arg2 harg2 arg3 harg3 arg5 harg5 arg8 x0 x1 x3)) = local10 i (k0_pay4 x0 x1) (k0_pay7 x3) (xs2) := by
    delta body_next.sl.HS2_4
    exact read_setRow _ _ 7 _ (read_setRow _ _ 6 _ (read_setRow _ _ 5 _ (read_setRow _ _ 4 _ hfs2 (by rw [er, e34])) (by delta body_next.sl.r_3; rw [er, e34])) (by rw [er, er1, er2]; rfl)) (by delta body_next.sl.r_4; rw [er, er1, er2]; rfl)
  have e112 : body_next.sl.v112 c i arg2 harg2 arg3 harg3 arg5 harg5 arg8 arg10 harg10 x0 x1 x3 xs2 = local10 i (k0_pay4 x0 x1) (k0_pay7 x3) (xs2) := by
    delta body_next.sl.v112
    exact (View.readAt_full _ _ _).trans eL2
  have e111 : arg9.view.readAt (Elt F) (Rect.unit ![0, 0] S8x256.size inb_S8x256_S8x256_0_0).toLoadRect (arg9.view.writes (Elt F) (harg9.unread xs1) (body_next.sl.HS1_4 c arg2 harg2 arg3 harg3 arg5 harg5 arg8 x0 x1 x3)) = local9 (k0_pay4 x0 x1) (k0_pay7 x3) (xs1) :=
    (View.readAt_full _ _ _).trans eL1
  have er5 : body_next.sl.r_5 c i arg2 harg2 arg3 harg3 arg5 harg5 arg8 arg9 harg9 arg10 harg10 x0 x1 x3 xs1 xs2 = k0_pay32 (local9 (k0_pay4 x0 x1) (k0_pay7 x3) (xs1)) (local10 i (k0_pay4 x0 x1) (k0_pay7 x3) (xs2)) := by
    delta body_next.sl.r_5
    rw [e111, e112]
  have er6 : body_next.sl.r_6 c i arg2 harg2 arg3 harg3 arg5 harg5 arg8 arg9 harg9 arg10 harg10 x0 x1 x3 xs1 xs2 = k0_pay37 (local9 (k0_pay4 x0 x1) (k0_pay7 x3) (xs1)) (local10 i (k0_pay4 x0 x1) (k0_pay7 x3) (xs2)) := by
    delta body_next.sl.r_6
    rw [e111, e112]
  have e10g : ∀ g, arg10.view.read (Elt F) (arg10.view.writes (Elt F) g (body_next.sl.HS2_8 c i arg2 harg2 arg3 harg3 arg5 harg5 arg8 arg9 harg9 arg10 harg10 x0 x1 x3 xs1 xs2)) = setRow 3 (setRow 2 (setRow 1 (setRow 0 (arg10.view.read (Elt F) (arg10.view.writes (Elt F) g (body_next.sl.HS2_4 c i arg2 harg2 arg3 harg3 arg5 harg5 arg8 x0 x1 x3))) (k0_pay31 (local9 (k0_pay4 x0 x1) (k0_pay7 x3) (xs1)) (local10 i (k0_pay4 x0 x1) (k0_pay7 x3) (xs2)))) (k0_pay36 (local9 (k0_pay4 x0 x1) (k0_pay7 x3) (xs1)) (local10 i (k0_pay4 x0 x1) (k0_pay7 x3) (xs2)))) (k0_pay42 (local10 i (k0_pay4 x0 x1) (k0_pay7 x3) (xs2)) (k0_pay32 (local9 (k0_pay4 x0 x1) (k0_pay7 x3) (xs1)) (local10 i (k0_pay4 x0 x1) (k0_pay7 x3) (xs2))) (k0_pay37 (local9 (k0_pay4 x0 x1) (k0_pay7 x3) (xs1)) (local10 i (k0_pay4 x0 x1) (k0_pay7 x3) (xs2))))) (k0_pay46 (local10 i (k0_pay4 x0 x1) (k0_pay7 x3) (xs2)) (k0_pay32 (local9 (k0_pay4 x0 x1) (k0_pay7 x3) (xs1)) (local10 i (k0_pay4 x0 x1) (k0_pay7 x3) (xs2))) (k0_pay37 (local9 (k0_pay4 x0 x1) (k0_pay7 x3) (xs1)) (local10 i (k0_pay4 x0 x1) (k0_pay7 x3) (xs2)))) := fun g => by
    delta body_next.sl.HS2_8
    exact read_setRow _ _ 3 _ (read_setRow _ _ 2 _ (read_setRow _ _ 1 _ (read_setRow _ _ 0 _ rfl (by rw [e111, e112])) (by rw [e111, e112])) (by rw [e112, er5, er6])) (by rw [e112, er5, er6])
  have e10 : arg10.view.read (Elt F) (arg10.view.writes (Elt F) (harg10.unread xs2) (body_next.sl.HS2_8 c i arg2 harg2 arg3 harg3 arg5 harg5 arg8 arg9 harg9 arg10 harg10 x0 x1 x3 xs1 xs2)) = step10 i x0 x1 x3 (xs1) (xs2) := by
    rw [e10g, eL2]
    rfl
  have e181 : body_next.sl.v181 c i arg2 harg2 arg3 harg3 arg5 harg5 arg8 arg9 harg9 arg10 harg10 x0 x1 x3 xs1 xs2 = VecWindow.window (step10 i x0 x1 x3 (xs1) (xs2)) ![0, 0] S4x256.size (by decide) := by
    delta body_next.sl.v181
    refine (View.readAt_unit _ _ _ rfl (by decide)).trans ?_
    rw [e10g]
    exact window_setRows _ _ _ _ _ _
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_full, View.readAt_full, View.readAt_full, hf1, hf2]
  isplitl [H5]
  · iexists _; isplitr; swap; · iexact H5
    ipureintro
    refine (View.read_writes_full _ _ _ _ _).trans ?_
    rw [e181]
    rfl
  isplitl [HS0]
  · iexists _; iexists _; isplitr; swap; · iexact HS0
    ipureintro; exact rfl
  isplitl [HS1]
  · iexists _; isplitr; swap; · iexact HS1
    ipureintro
    exact read_setRow _ _ 3 _ (read_setRow _ _ 2 _ (read_setRow _ _ 1 _ (read_setRow _ _ 0 _ eL1 (by rw [e111])) (by rw [e111, e112])) (by rw [e112, er5, er6])) (by rw [e112, er5, er6])
  · iexists _; isplitr; swap; · iexact HS2
    ipureintro
    exact e10

set_option maxHeartbeats 2000000 in
/-- The body's triple at the first half of a batch. -/
theorem body_first (c : Dev nD) (i : grid0.Coords) (arg2 : Memref sig .tc .vmem S1x768x256 .f32) (harg2 : arg2.IsWhole) (arg3 : Memref sig .tc .vmem S1x768x4096 .f32) (harg3 : arg3.IsWhole) (arg4 : Memref sig .tc .vmem S768x128 .f32) (harg4 : arg4.IsWhole) (arg5 : Memref sig .tc .vmem S4096x256 .i32) (harg5 : arg5.IsWhole) (arg6 : Memref sig .tc .vmem S1x4096x128 .f32) (harg6 : arg6.IsWhole) (arg7 : Memref sig .tc .vmem S1x4x256 .i32) (harg7 : arg7.IsWhole) (arg8 : Memref sig .tc .vmem S4096x256 .f32) (harg8 : arg8.IsWhole) (arg9 : Memref sig .tc .vmem S8x256 .f32) (harg9 : arg9.IsWhole) (arg10 : Memref sig .tc .vmem S8x256 .i32) (harg10 : arg10.IsWhole) (hc0 : first i)
    (x0 : Vec F S1x768x256 .f32) (x1 : Vec F S1x768x4096 .f32) (x2 : Vec F S768x128 .f32) (x3 : Vec F S4096x256 .i32)
    (E : Set ℕ) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 x1 x2) ∗ owns (c : Thread nD τ) arg7 fullShare (outIds (F := F) (step10 i x0 x1 x3 (k0_pay5 (F := F)) (k0_pay6)))
            ∗ (∃ d, owns (c : Thread nD τ) arg8 fullShare d) ∗ owns (c : Thread nD τ) arg9 fullShare (step9 i x0 x1 x3 (k0_pay5 (F := F)) (k0_pay6)) ∗ owns (c : Thread nD τ) arg10 fullShare (step10 i x0 x1 x3 (k0_pay5 (F := F)) (k0_pay6))) -∗ Q ⟨⟩))
      ⊢ wp frame (wpE (defs₀ (F := F)) Variants.none c none) E (cc0__topk_proj_body i arg2 harg2 arg3 harg3 arg4 harg4 arg5 harg5 arg6 harg6 arg7 harg7 arg8 harg8 arg9 harg9 arg10 harg10) Q := by
  simp only [cc0__topk_proj_body_eq_skeleton]; unfold cc0__topk_proj_body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  sl_exec (disch := first | sl_exact hc0)
  sl_step
  have e34 : body_first.sl.v34 c arg2 harg2 arg3 harg3 arg8 x0 x1 = k0_pay4 x0 x1 := by
    delta body_first.sl.v34
    refine (View.readCov_full _ _ _ _ _).trans ?_
    rw [View.readAt_full, View.readAt_full, hf0, hf1]
  have er : body_first.sl.r c arg5 harg5 x3 = k0_pay7 x3 := by
    delta body_first.sl.r
    rw [View.readAt_full, hf3]
  have er1 : body_first.sl.r_1 c arg2 harg2 arg3 harg3 arg5 harg5 arg8 x0 x1 x3 = k0_pay12 (k0_pay7 x3) (k0_pay4 x0 x1) := by
    delta body_first.sl.r_1
    rw [er, e34]
  have er2 : body_first.sl.r_2 c arg2 harg2 arg3 harg3 arg5 harg5 arg8 x0 x1 x3 = k0_pay14 (k0_pay7 x3) (k0_pay4 x0 x1) := by
    delta body_first.sl.r_2
    rw [er, e34]
  have eL1 : ∀ fs1, arg9.view.read (Elt F) (arg9.view.writes (Elt F) fs1 (body_first.sl.HS1_5 c arg2 harg2 arg3 harg3 arg5 harg5 arg8 x0 x1 x3)) = local9 (k0_pay4 x0 x1) (k0_pay7 x3) (k0_pay5 (F := F)) := by
    intro fs1
    delta body_first.sl.HS1_5
    exact read_setRow _ _ 7 _ (read_setRow _ _ 6 _ (read_setRow _ _ 5 _ (read_setRow _ _ 4 _ (View.read_writes_full _ _ _ _ _) (by rw [e34])) (by rw [er, e34])) (by rw [er, er1, er2])) (by rw [er, er1, er2])
  have eL2 : ∀ fs2, arg10.view.read (Elt F) (arg10.view.writes (Elt F) fs2 (body_first.sl.HS2_5 c i arg2 harg2 arg3 harg3 arg5 harg5 arg8 x0 x1 x3)) = local10 i (k0_pay4 x0 x1) (k0_pay7 x3) (k0_pay6) := by
    intro fs2
    delta body_first.sl.HS2_5
    exact read_setRow _ _ 7 _ (read_setRow _ _ 6 _ (read_setRow _ _ 5 _ (read_setRow _ _ 4 _ (View.read_writes_full _ _ _ _ _) (by rw [er, e34])) (by delta body_first.sl.r_3; rw [er, e34])) (by rw [er, er1, er2]; rfl)) (by delta body_first.sl.r_4; rw [er, er1, er2]; rfl)
  have e112 : body_first.sl.v112 c i arg2 harg2 arg3 harg3 arg5 harg5 arg8 arg10 x0 x1 x3 = local10 i (k0_pay4 x0 x1) (k0_pay7 x3) (k0_pay6) := by
    delta body_first.sl.v112
    exact (View.readAt_full _ _ _).trans (eL2 _)
  have e111 : body_first.sl.v111 c arg2 harg2 arg3 harg3 arg5 harg5 arg8 arg9 x0 x1 x3 = local9 (k0_pay4 x0 x1) (k0_pay7 x3) (k0_pay5 (F := F)) := by
    delta body_first.sl.v111
    exact (View.readAt_full _ _ _).trans (eL1 _)
  have er5 : body_first.sl.r_5 c i arg2 harg2 arg3 harg3 arg5 harg5 arg8 arg9 arg10 x0 x1 x3 = k0_pay32 (local9 (k0_pay4 x0 x1) (k0_pay7 x3) (k0_pay5 (F := F))) (local10 i (k0_pay4 x0 x1) (k0_pay7 x3) (k0_pay6)) := by
    delta body_first.sl.r_5
    rw [e111, e112]
  have er6 : body_first.sl.r_6 c i arg2 harg2 arg3 harg3 arg5 harg5 arg8 arg9 arg10 x0 x1 x3 = k0_pay37 (local9 (k0_pay4 x0 x1) (k0_pay7 x3) (k0_pay5 (F := F))) (local10 i (k0_pay4 x0 x1) (k0_pay7 x3) (k0_pay6)) := by
    delta body_first.sl.r_6
    rw [e111, e112]
  have e10g : ∀ g, arg10.view.read (Elt F) (arg10.view.writes (Elt F) g (body_first.sl.HS2_9 c i arg2 harg2 arg3 harg3 arg5 harg5 arg8 arg9 arg10 x0 x1 x3)) = setRow 3 (setRow 2 (setRow 1 (setRow 0 (arg10.view.read (Elt F) (arg10.view.writes (Elt F) g (body_first.sl.HS2_5 c i arg2 harg2 arg3 harg3 arg5 harg5 arg8 x0 x1 x3))) (k0_pay31 (local9 (k0_pay4 x0 x1) (k0_pay7 x3) (k0_pay5 (F := F))) (local10 i (k0_pay4 x0 x1) (k0_pay7 x3) (k0_pay6)))) (k0_pay36 (local9 (k0_pay4 x0 x1) (k0_pay7 x3) (k0_pay5 (F := F))) (local10 i (k0_pay4 x0 x1) (k0_pay7 x3) (k0_pay6)))) (k0_pay42 (local10 i (k0_pay4 x0 x1) (k0_pay7 x3) (k0_pay6)) (k0_pay32 (local9 (k0_pay4 x0 x1) (k0_pay7 x3) (k0_pay5 (F := F))) (local10 i (k0_pay4 x0 x1) (k0_pay7 x3) (k0_pay6))) (k0_pay37 (local9 (k0_pay4 x0 x1) (k0_pay7 x3) (k0_pay5 (F := F))) (local10 i (k0_pay4 x0 x1) (k0_pay7 x3) (k0_pay6))))) (k0_pay46 (local10 i (k0_pay4 x0 x1) (k0_pay7 x3) (k0_pay6)) (k0_pay32 (local9 (k0_pay4 x0 x1) (k0_pay7 x3) (k0_pay5 (F := F))) (local10 i (k0_pay4 x0 x1) (k0_pay7 x3) (k0_pay6))) (k0_pay37 (local9 (k0_pay4 x0 x1) (k0_pay7 x3) (k0_pay5 (F := F))) (local10 i (k0_pay4 x0 x1) (k0_pay7 x3) (k0_pay6)))) := fun g => by
    delta body_first.sl.HS2_9
    exact read_setRow _ _ 3 _ (read_setRow _ _ 2 _ (read_setRow _ _ 1 _ (read_setRow _ _ 0 _ rfl (by rw [e111, e112])) (by rw [e111, e112])) (by rw [e112, er5, er6])) (by rw [e112, er5, er6])
  have e10 : arg10.view.read (Elt F) (arg10.view.writes (Elt F) fs2 (body_first.sl.HS2_9 c i arg2 harg2 arg3 harg3 arg5 harg5 arg8 arg9 arg10 x0 x1 x3)) = step10 i x0 x1 x3 (k0_pay5 (F := F)) (k0_pay6) := by
    rw [e10g, eL2]
    rfl
  have e181 : body_first.sl.v181 c i arg2 harg2 arg3 harg3 arg5 harg5 arg8 arg9 arg10 x0 x1 x3 = VecWindow.window (step10 i x0 x1 x3 (k0_pay5 (F := F)) (k0_pay6)) ![0, 0] S4x256.size (by decide) := by
    delta body_first.sl.v181
    refine (View.readAt_unit _ _ _ rfl (by decide)).trans ?_
    rw [e10g]
    exact window_setRows _ _ _ _ _ _
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_full, View.readAt_full, View.readAt_full, hf1, hf2]
  isplitl [H5]
  · iexists _; isplitr; swap; · iexact H5
    ipureintro
    refine (View.read_writes_full _ _ _ _ _).trans ?_
    rw [e181]
    rfl
  isplitl [HS0]
  · iexists _; iexists _; isplitr; swap; · iexact HS0
    ipureintro; exact rfl
  isplitl [HS1]
  · iexists _; isplitr; swap; · iexact HS1
    ipureintro
    exact read_setRow _ _ 3 _ (read_setRow _ _ 2 _ (read_setRow _ _ 1 _ (read_setRow _ _ 0 _ (eL1 _) (by rw [e111])) (by rw [e111, e112])) (by rw [e112, er5, er6])) (by rw [e112, er5, er6])
  · iexists _; isplitr; swap; · iexact HS2
    ipureintro
    exact e10

end run

end Cert.Proof.ProjBody

end
-- ==== Proof.StepValue.lean ====
/-
  What one grid point of the projection and selection call leaves, over the extended reals: the projected block, the
  similarities, and column by column the four best of what the buffers held and of the point's block.
-/
module

public import proofs.«01_k».proof.Proof.Select
public import proofs.«01_k».proof.Proof.ProjBody
public import Idealize.ShloMosaic.Lib.Pointwise

@[expose] public section

noncomputable section

namespace Cert.Proof.StepValue

open Cert.KernelIdeal Cert.KernelIdeal.Gen Cert.Proof.Select Cert.Proof.ProjBody
open Idealize.ShloMosaic hiding floor

/-! ## The operations of a point, at an index -/

theorem pay3_apply (x1 : Vec Ideal S1x768x4096 .f32) (x2 : Vec Ideal S768x128 .f32) (e : Fin 4096) (c : Fin 128) :
    k0_pay3 x1 x2 (ix3 0 e c) = ∑ k : Fin 768, x1 (ix3 0 k e) * x2 (ix2 k c) := by
  pointwise [k0_pay3, k0_pay2]

/-- The similarity of a block's column with a column to match. -/
def simOf (x : Fin 768 → EReal) (r : Fin 768 → EReal) : EReal :=
  ∑ k : Fin 768, Ideal.div (r k) (Ideal.sqrt (∑ i, r i * r i)) * Ideal.div (x k) (Ideal.sqrt (∑ i, x i * x i))

theorem pay4_apply (x0 : Vec Ideal S1x768x256 .f32) (x1 : Vec Ideal S1x768x4096 .f32) (e : Fin 4096) (t : Fin 256) :
    k0_pay4 x0 x1 (ix2 e t) = simOf (fun k => x0 (ix3 0 k t)) fun k => x1 (ix3 0 k e) := by
  pointwise [k0_pay4, k0_pay2]
  rfl

/-- Column `t`. -/
abbrev col {n : ℕ} {α : Type} (s : (⟨2, ![n, 256]⟩ : Shape).Idx → α) (t : Fin 256) : Fin n → α := fun e => s (ix2 e t)

theorem neg_inf : Ideal.ofBits .f32 0xFF800000#32 = ⊥ := by simp [Ideal.ofBits, Ideal.ieee]

section block
variable (d : IVec S4096x256 32) (s : Vec Ideal S4096x256 .f32) (t : Fin 256)

theorem pay7_apply (e : Fin 4096) : k0_pay7 (F := Ideal) d (ix2 e t) = d (ix2 e t) := by
  pointwise [k0_pay7]

theorem pay8_apply : k0_pay8 s (ix2 0 t) = cmax (col s t) := by
  pointwise [k0_pay8]
  rw [neg_inf]
  rfl

theorem pay9_apply : k0_pay9 d s (ix2 0 t) = csel (col d t) (col s t) := by
  pointwise [k0_pay9]
  rw [pay8_apply]
  rfl

theorem pay12_col : col (k0_pay12 d s) t = ckill (col d t) (col s t) := by
  funext e
  show k0_pay12 d s (ix2 e t) = _
  pointwise [k0_pay12]
  rw [pay9_apply]
  unfold ckill Scalar.select IntOp.cmpi
  by_cases h : d (ix2 e t) = csel (col d t) (col s t)
  · simp [h]
  · rw [if_neg h, if_neg (fun hb => h (by simpa using BitVec.ofBool_eq_iff_eq.mp (hb.trans (show 1#1 = BitVec.ofBool true from rfl))))]

theorem pay10_apply : k0_pay10 s (ix2 0 t) = cmax (col s t) := by
  pointwise [k0_pay10]
  exact pay8_apply s t

theorem pay15_apply : k0_pay15 d s (ix2 0 t) = cmax (ckill (col d t) (col s t)) := by
  rw [← pay12_col, ← pay8_apply]
  pointwise [k0_pay15]
  rfl

theorem pay21_apply : k0_pay21 d (k0_pay12 d s) (k0_pay14 d s) (ix2 0 t) = cmax (ckill (col d t) (ckill (col d t) (col s t))) := by
  rw [← pay12_col, ← pay12_col, ← pay8_apply]
  pointwise [k0_pay21]
  rfl

theorem pay25_apply : k0_pay25 d (k0_pay12 d s) (k0_pay14 d s) (ix2 0 t) = cmax (ckill (col d t) (ckill (col d t) (ckill (col d t) (col s t)))) := by
  rw [← pay12_col, ← pay12_col, ← pay12_col, ← pay8_apply]
  pointwise [k0_pay25]
  rfl

theorem pay11_apply (i : grid0.Coords) :
    k0_pay11 (BitVec.ofNat 32 (i 0).val) (BitVec.ofNat 32 (i 1).val) d 4096#32 s (ix2 0 t) = csel (col d t) (col s t) + offW i := by
  rw [← pay9_apply]
  pointwise [k0_pay11]
  rfl

theorem pay16_apply (i : grid0.Coords) :
    k0_pay17 (k0_pay16 (BitVec.ofNat 32 (i 0).val) (BitVec.ofNat 32 (i 1).val) d 4096#32 s) (ix2 0 t)
      = csel (col d t) (ckill (col d t) (col s t)) + offW i := by
  rw [← pay12_col, ← pay9_apply]
  pointwise [k0_pay17, k0_pay16]
  rfl

theorem pay22_apply (o : BitVec 32) :
    k0_pay22 d o (k0_pay12 d s) (k0_pay14 d s) (ix2 0 t) = csel (col d t) (ckill (col d t) (ckill (col d t) (col s t))) + o := by
  rw [← pay12_col, ← pay12_col, ← pay9_apply]
  pointwise [k0_pay22]
  rfl

theorem pay26_apply (o : BitVec 32) :
    k0_pay27 (k0_pay26 d o (k0_pay12 d s) (k0_pay14 d s)) (ix2 0 t)
      = csel (col d t) (ckill (col d t) (ckill (col d t) (ckill (col d t) (col s t)))) + o := by
  rw [← pay12_col, ← pay12_col, ← pay12_col, ← pay9_apply]
  have e : k0_pay26 d o (k0_pay12 d s) (k0_pay14 d s) = addi (k0_pay9 d (k0_pay12 d (k0_pay12 d (k0_pay12 d s)))) (broadcast S1x256 o) := rfl
  rw [e]
  pointwise [k0_pay27]
  rfl

end block

section eight
variable (d : Vec Ideal S8x256 .i32) (s : Vec Ideal S8x256 .f32) (t : Fin 256)

theorem pay28_apply : k0_pay28 s (ix2 0 t) = cmax (col s t) := by
  pointwise [k0_pay28]
  rw [neg_inf]
  rfl

theorem pay29_apply : k0_pay29 s d (ix2 0 t) = csel (col d t) (col s t) := by
  pointwise [k0_pay29]
  rw [pay28_apply]
  rfl

theorem pay32_col : col (k0_pay32 s d) t = ckill (col d t) (col s t) := by
  funext e
  show k0_pay32 s d (ix2 e t) = _
  pointwise [k0_pay32]
  rw [pay29_apply]
  unfold ckill Scalar.select IntOp.cmpi
  by_cases h : d (ix2 e t) = csel (col d t) (col s t)
  · simp [h]
  · rw [if_neg h, if_neg (fun hb => h (by simpa using BitVec.ofBool_eq_iff_eq.mp (hb.trans (show 1#1 = BitVec.ofBool true from rfl))))]

theorem pay30_apply : k0_pay30 s (ix2 0 t) = cmax (col s t) := by
  pointwise [k0_pay30]
  exact pay28_apply s t

theorem pay35_apply : k0_pay35 s d (ix2 0 t) = cmax (ckill (col d t) (col s t)) := by
  rw [← pay32_col, ← pay28_apply]
  pointwise [k0_pay35]
  rfl

theorem pay41_apply : k0_pay41 d (k0_pay32 s d) (k0_pay37 s d) (ix2 0 t) = cmax (ckill (col d t) (ckill (col d t) (col s t))) := by
  rw [← pay32_col, ← pay32_col, ← pay28_apply]
  pointwise [k0_pay41]
  rfl

theorem pay45_apply : k0_pay45 d (k0_pay32 s d) (k0_pay37 s d) (ix2 0 t) = cmax (ckill (col d t) (ckill (col d t) (ckill (col d t) (col s t)))) := by
  rw [← pay32_col, ← pay32_col, ← pay32_col, ← pay28_apply]
  pointwise [k0_pay45]
  rfl

theorem pay31_apply : k0_pay31 s d (ix2 0 t) = csel (col d t) (col s t) := by
  pointwise [k0_pay31]
  exact pay29_apply d s t

theorem pay36_apply : k0_pay36 s d (ix2 0 t) = csel (col d t) (ckill (col d t) (col s t)) := by
  rw [← pay32_col, ← pay29_apply]
  pointwise [k0_pay36]
  rfl

theorem pay42_apply : k0_pay42 d (k0_pay32 s d) (k0_pay37 s d) (ix2 0 t) = csel (col d t) (ckill (col d t) (ckill (col d t) (col s t))) := by
  rw [← pay32_col, ← pay32_col, ← pay29_apply]
  pointwise [k0_pay42]
  rfl

theorem pay46_apply : k0_pay46 d (k0_pay32 s d) (k0_pay37 s d) (ix2 0 t) = csel (col d t) (ckill (col d t) (ckill (col d t) (ckill (col d t) (col s t)))) := by
  rw [← pay32_col, ← pay32_col, ← pay32_col, ← pay29_apply]
  have e : k0_pay46 d (k0_pay32 s d) (k0_pay37 s d) = shapeCast S1x256 (k0_pay29 (k0_pay32 (k0_pay32 (k0_pay32 s d) d) d) d) shapeCasts_S1x256_S1x256 := rfl
  rw [e]
  pointwise

end eight

/-! ## The rows of the buffers -/

/-- Rows 0 to 3, and rows 4 to 7. -/
abbrev lo (k : Fin 4) : Fin 8 := ⟨k.val, by omega⟩
abbrev hi (k : Fin 4) : Fin 8 := ⟨4 + k.val, by omega⟩

theorem setRow_ix {α : Type} (a : ℕ) (x : S8x256.Idx → α) (r : S1x256.Idx → α) (b : Fin 8) (t : Fin 256) :
    setRow a x r (ix2 b t) = if b.val = a then r (ix2 0 t) else x (ix2 b t) := setRow_apply a x r (ix2 b t)

/-- The rows of a buffer, by halves. -/
theorem lo_or_hi (r : Fin 8) : (∃ k, r = lo k) ∨ ∃ k, r = hi k := by
  by_cases h : r.val < 4
  · exact .inl ⟨⟨r.val, h⟩, rfl⟩
  · exact .inr ⟨⟨r.val - 4, by omega⟩, Fin.ext (by show r.val = 4 + (r.val - 4); omega)⟩

theorem toInt_ofNat {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

theorem coord0_lt (i : grid0.Coords) : (i 0).val < 4 := (i 0).isLt
theorem coord1_lt (i : grid0.Coords) : (i 1).val < 2 := (i 1).isLt

/-- The number of a point's first table row. -/
def place (i : grid0.Coords) : ℕ := (i 1).val * 4096 + (i 0).val * 8192

theorem offW_eq (i : grid0.Coords) (e : ℕ) : BitVec.ofNat 32 e + offW i = BitVec.ofNat 32 (place i + e) := by
  have h0 := coord0_lt i
  have h1 := coord1_lt i
  refine BitVec.eq_of_toNat_eq ?_
  unfold place offW Scalar.addi Scalar.muli IntOp.addi IntOp.muli
  simp only [BitVec.toNat_add, BitVec.toNat_mul, BitVec.toNat_ofNat]
  omega

section step
variable (i : grid0.Coords) (s : Vec Ideal S4096x256 .f32) (d : Vec Ideal S4096x256 .i32) (x : Vec Ideal S8x256 .f32) (y : Vec Ideal S8x256 .i32) (t : Fin 256)

theorem local9_lo (k : Fin 4) : local9 s d x (ix2 (lo k) t) = x (ix2 (lo k) t) := by
  unfold local9
  simp only [setRow_ix]
  rw [if_neg (by show k.val ≠ 7; omega), if_neg (by show k.val ≠ 6; omega), if_neg (by show k.val ≠ 5; omega), if_neg (by show k.val ≠ 4; omega)]

theorem local10_lo (k : Fin 4) : local10 i s d y (ix2 (lo k) t) = y (ix2 (lo k) t) := by
  unfold local10
  simp only [setRow_ix]
  rw [if_neg (by show k.val ≠ 7; omega), if_neg (by show k.val ≠ 6; omega), if_neg (by show k.val ≠ 5; omega), if_neg (by show k.val ≠ 4; omega)]

/-- The point's own four: the best of its block, with their numbers moved by the block's place. -/
theorem local_rows (hs : ∀ e, floor < s (ix2 e t)) (hd : ∀ e : Fin 4096, d (ix2 e t) = BitVec.ofNat 32 e.val) :
    ∃ e : Fin 4 → Fin 4096, Least4 (Set.range (posKey (col s t))) (posKey (col s t) ∘ e)
      ∧ ∀ k, local9 s d x (ix2 (hi k) t) = s (ix2 (e k) t) ∧ local10 i s d y (ix2 (hi k) t) = BitVec.ofNat 32 (e k).val + offW i := by
  have hcol : Column (col d t) (col s t) Finset.univ := by
    refine ⟨fun e _ => hs e, fun e _ e' _ h => ?_, fun e _ => ?_, fun e h => absurd (Finset.mem_univ e) h⟩
    · have h : BitVec.ofNat 32 e.val = BitVec.ofNat 32 e'.val := (hd e).symm.trans (h.trans (hd e'))
      have h := congrArg BitVec.toInt h
      rw [toInt_ofNat (by omega), toInt_ofNat (by omega)] at h
      exact Fin.ext (by exact_mod_cast h)
    · show (d (ix2 e t)).toInt < _
      rw [hd, toInt_ofNat (by omega)]
      omega
  obtain ⟨e, -, hl, ⟨c0, c1, c2, c3⟩, s0, s1, s2, s3⟩ := rounds hcol (by rw [Finset.card_univ, Fintype.card_fin]; omega)
  have hkey : keyOf (col d t) (col s t) = posKey (col s t) := funext fun e => by
    unfold keyOf posKey
    rw [show (col d t e).toInt = e.val from by show (d (ix2 e t)).toInt = _; rw [hd, toInt_ofNat (by omega)]]
  rw [hkey, Finset.coe_univ, Set.image_univ] at hl
  refine ⟨e, hl, fun k => ?_⟩
  have he (k : Fin 4) : BitVec.ofNat 32 (e k).val = col d t (e k) := (hd (e k)).symm
  unfold local9 local10
  simp only [setRow_ix]
  match k with
  | 0 => exact ⟨(pay10_apply s t).trans c0, by rw [he, ← s0]; exact pay11_apply d s t i⟩
  | 1 => exact ⟨(pay15_apply d s t).trans c1, by rw [he, ← s1]; exact pay16_apply d s t i⟩
  | 2 => exact ⟨(pay21_apply d s t).trans c2, by rw [he, ← s2]; exact pay22_apply d s t (offW i)⟩
  | 3 => exact ⟨(pay25_apply d s t).trans c3, by rw [he, ← s3]; exact pay26_apply d s t (offW i)⟩

/-- The merge takes the four best rows of the eight. -/
theorem merge_rows {V : Finset (Fin 8)} (h : Column (col y t) (col x t) V) (hV : 4 ≤ V.card) :
    Least4 (keyOf (col y t) (col x t) '' (V : Set (Fin 8))) fun k => mk (merge9 x y (ix2 (lo k) t)) (merge10 x y (ix2 (lo k) t)).toInt := by
  obtain ⟨e, -, hl, ⟨c0, c1, c2, c3⟩, s0, s1, s2, s3⟩ := rounds h hV
  have hk : (fun k => mk (merge9 x y (ix2 (lo k) t)) (merge10 x y (ix2 (lo k) t)).toInt) = keyOf (col y t) (col x t) ∘ e := funext fun k => by
    show mk _ _ = mk _ _
    have : merge9 x y (ix2 (lo k) t) = col x t (e k) ∧ merge10 x y (ix2 (lo k) t) = col y t (e k) := by
      unfold merge9 merge10
      simp only [setRow_ix]
      match k with
      | 0 => exact ⟨(pay30_apply x t).trans c0, (pay31_apply y x t).trans s0⟩
      | 1 => exact ⟨(pay35_apply y x t).trans c1, (pay36_apply y x t).trans s1⟩
      | 2 => exact ⟨(pay41_apply y x t).trans c2, (pay42_apply y x t).trans s2⟩
      | 3 => exact ⟨(pay45_apply y x t).trans c3, (pay46_apply y x t).trans s3⟩
    rw [this.1, this.2]
  rw [hk]
  exact hl

end step

/-! ## A batch's two points -/

/-- A block's keys, its columns numbered from `base`. -/
def blockKeys {n : ℕ} (f : Fin n → EReal) (base : ℕ) : Set Key := Set.range fun e : Fin n => mk (f e) (base + e.val : ℕ)

/-- Column `t` of the buffers' first four rows holds the four best of `S`. -/
def Holds (S : Set Key) (x : Vec Ideal S8x256 .f32) (y : Vec Ideal S8x256 .i32) (t : Fin 256) : Prop :=
  Least4 S fun k => mk (x (ix2 (lo k) t)) (y (ix2 (lo k) t)).toInt

section steps
variable (i : grid0.Coords) (s : Vec Ideal S4096x256 .f32) (d : Vec Ideal S4096x256 .i32) (x : Vec Ideal S8x256 .f32) (y : Vec Ideal S8x256 .i32) (t : Fin 256)

/-- The point's own four as keys. -/
theorem local_keys (hs : ∀ e, floor < s (ix2 e t)) (hd : ∀ e : Fin 4096, d (ix2 e t) = BitVec.ofNat 32 e.val) :
    ∃ e : Fin 4 → Fin 4096, Least4 (blockKeys (col s t) (place i)) (fun k => keyOf (col (local10 i s d y) t) (col (local9 s d x) t) (hi k))
      ∧ Function.Injective e
      ∧ ∀ k, local9 s d x (ix2 (hi k) t) = s (ix2 (e k) t) ∧ local10 i s d y (ix2 (hi k) t) = BitVec.ofNat 32 (place i + (e k).val) := by
  obtain ⟨e, hl, he⟩ := local_rows i s d x y t hs hd
  have h0 := coord0_lt i
  have h1 := coord1_lt i
  have hp : place i < 65536 := by show (i 1).val * 4096 + (i 0).val * 8192 < 65536; omega
  refine ⟨e, ?_, fun a b hab => hl.mono.injective (congrArg (posKey (col s t)) hab), fun k => ⟨(he k).1, by rw [(he k).2, offW_eq]⟩⟩
  have hm := hl.map (shift (place i)) (shift_mono _)
  have e1 : shift (place i) '' Set.range (posKey (col s t)) = blockKeys (col s t) (place i) := by
    unfold blockKeys
    rw [← Set.range_comp]
    refine congrArg Set.range (funext fun a => ?_)
    show mk _ _ = mk _ _
    refine congrArg (mk _) ?_
    push_cast
    show (a.val : ℤ) + _ = _
    ring
  have e2 : shift (place i) ∘ posKey (col s t) ∘ e = fun k => keyOf (col (local10 i s d y) t) (col (local9 s d x) t) (hi k) := funext fun k => by
    unfold keyOf col
    rw [(he k).1, (he k).2, offW_eq, toInt_ofNat (by have := (e k).isLt; omega)]
    show mk _ _ = mk _ _
    refine congrArg (mk _) ?_
    push_cast
    show ((e k).val : ℤ) + _ = _
    push_cast
    ring
  rw [← e1, ← e2]
  exact hm

/-- The point at a batch's first half, from reset buffers. -/
theorem step_first (hs : ∀ e, floor < s (ix2 e t)) (hd : ∀ e : Fin 4096, d (ix2 e t) = BitVec.ofNat 32 e.val)
    (hx : ∀ k, x (ix2 (lo k) t) = floor) (hy : ∀ k, y (ix2 (lo k) t) = big) :
    Holds (blockKeys (col s t) (place i)) (merge9 (local9 s d x) (local10 i s d y)) (merge10 (local9 s d x) (local10 i s d y)) t := by
  obtain ⟨e, hl, hinj, he⟩ := local_keys i s d x y t hs hd
  have h0 := coord0_lt i
  have h1 := coord1_lt i
  have hp : place i < 65536 := by show (i 1).val * 4096 + (i 0).val * 8192 < 65536; omega
  have hcol : Column (col (local10 i s d y) t) (col (local9 s d x) t) (Finset.univ.image hi) := by
    refine ⟨?_, ?_, ?_, ?_⟩
    · intro r hr
      obtain ⟨k, -, rfl⟩ := Finset.mem_image.mp hr
      show floor < local9 s d x (ix2 (hi k) t)
      rw [(he k).1]
      exact hs _
    · intro r hr r' hr' h
      obtain ⟨k, -, rfl⟩ := Finset.mem_image.mp hr
      obtain ⟨k', -, rfl⟩ := Finset.mem_image.mp hr'
      have h : local10 i s d y (ix2 (hi k) t) = local10 i s d y (ix2 (hi k') t) := h
      rw [(he k).2, (he k').2] at h
      have h := congrArg BitVec.toInt h
      have b := (e k).isLt
      have b' := (e k').isLt
      rw [toInt_ofNat (by omega), toInt_ofNat (by omega)] at h
      have h : place i + (e k).val = place i + (e k').val := by exact_mod_cast h
      exact congrArg hi (hinj (Fin.ext (by omega)))
    · intro r hr
      obtain ⟨k, -, rfl⟩ := Finset.mem_image.mp hr
      show (local10 i s d y (ix2 (hi k) t)).toInt < _
      have b := (e k).isLt
      rw [(he k).2, toInt_ofNat (by omega)]
      omega
    · intro r hr
      rcases lo_or_hi r with ⟨k, rfl⟩ | ⟨k, rfl⟩
      · exact ⟨(local9_lo s d x t k).trans (hx k), (local10_lo i s d y t k).trans (hy k)⟩
      · exact absurd (Finset.mem_image.mpr ⟨k, Finset.mem_univ _, rfl⟩) hr
  have hm := merge_rows (local9 s d x) (local10 i s d y) t hcol (by decide)
  rw [show keyOf (col (local10 i s d y) t) (col (local9 s d x) t) '' ((Finset.univ.image hi : Finset (Fin 8)) : Set (Fin 8))
      = Set.range fun k => keyOf (col (local10 i s d y) t) (col (local9 s d x) t) (hi k) from by
    rw [Finset.coe_image, Finset.coe_univ, Set.image_univ, ← Set.range_comp]; rfl] at hm
  unfold Holds
  rw [hl.range hm]
  exact hl

/-- The point at a batch's second half. -/
theorem step_next {n : ℕ} (f : Fin n → EReal) (base : ℕ) (hf : ∀ e, floor < f e) (hbase : base + n ≤ place i)
    (hs : ∀ e, floor < s (ix2 e t)) (hd : ∀ e : Fin 4096, d (ix2 e t) = BitVec.ofNat 32 e.val) (h : Holds (blockKeys f base) x y t) :
    Holds (blockKeys f base ∪ blockKeys (col s t) (place i)) (merge9 (local9 s d x) (local10 i s d y)) (merge10 (local9 s d x) (local10 i s d y)) t := by
  obtain ⟨e, hl, hinj, he⟩ := local_keys i s d x y t hs hd
  have h0 := coord0_lt i
  have h1 := coord1_lt i
  have hp : place i < 65536 := by show (i 1).val * 4096 + (i 0).val * 8192 < 65536; omega
  have hlo (k : Fin 4) : ∃ a : Fin n, local9 s d x (ix2 (lo k) t) = f a ∧ (local10 i s d y (ix2 (lo k) t)).toInt = (base + a.val : ℕ) := by
    obtain ⟨a, ha⟩ := h.mem k
    rw [local9_lo, local10_lo]
    have := mk_inj.mp ha
    exact ⟨a, this.1.symm, this.2.symm⟩
  have hhi (k : Fin 4) : (local10 i s d y (ix2 (hi k) t)).toInt = (place i + (e k).val : ℕ) := by
    have b := (e k).isLt
    rw [(he k).2, toInt_ofNat (by omega)]
  have hkl : (fun k => mk (x (ix2 (lo k) t)) (y (ix2 (lo k) t)).toInt) = fun k => keyOf (col (local10 i s d y) t) (col (local9 s d x) t) (lo k) := funext fun k => by
    unfold keyOf col
    rw [local9_lo, local10_lo]
  have h' := h
  unfold Holds at h'
  rw [hkl] at h'
  have hcol : Column (col (local10 i s d y) t) (col (local9 s d x) t) Finset.univ := by
    refine ⟨?_, ?_, ?_, fun r hr => absurd (Finset.mem_univ r) hr⟩
    · intro r _
      rcases lo_or_hi r with ⟨k, rfl⟩ | ⟨k, rfl⟩
      · obtain ⟨a, ha, -⟩ := hlo k
        show floor < local9 s d x (ix2 (lo k) t)
        rw [ha]; exact hf a
      · show floor < local9 s d x (ix2 (hi k) t)
        rw [(he k).1]; exact hs _
    · intro r _ r' _ hrr
      have hrr := congrArg BitVec.toInt hrr
      rcases lo_or_hi r with ⟨k, rfl⟩ | ⟨k, rfl⟩ <;> rcases lo_or_hi r' with ⟨k', rfl⟩ | ⟨k', rfl⟩
      · obtain ⟨a, ha, ha'⟩ := hlo k
        obtain ⟨b, hb, hb'⟩ := hlo k'
        have hab : a = b := by
          have : ((base + a.val : ℕ) : ℤ) = (base + b.val : ℕ) := by rw [← ha', ← hb']; exact hrr
          exact Fin.ext (by omega)
        subst hab
        refine congrArg lo (h'.mono.injective ?_)
        unfold keyOf col
        rw [ha, hb, ha', hb']
      · obtain ⟨a, ha, ha'⟩ := hlo k
        have : ((base + a.val : ℕ) : ℤ) = (place i + (e k').val : ℕ) := by rw [← ha', ← hhi]; exact hrr
        omega
      · obtain ⟨a, ha, ha'⟩ := hlo k'
        have : ((place i + (e k).val : ℕ) : ℤ) = (base + a.val : ℕ) := by rw [← ha', ← hhi]; exact hrr
        omega
      · have : ((place i + (e k).val : ℕ) : ℤ) = (place i + (e k').val : ℕ) := by rw [← hhi, ← hhi]; exact hrr
        exact congrArg hi (hinj (Fin.ext (by omega)))
    · intro r _
      rcases lo_or_hi r with ⟨k, rfl⟩ | ⟨k, rfl⟩
      · obtain ⟨a, ha, ha'⟩ := hlo k
        show (local10 i s d y (ix2 (lo k) t)).toInt < _
        rw [ha']
        omega
      · show (local10 i s d y (ix2 (hi k) t)).toInt < _
        have b := (e k).isLt
        rw [hhi]
        omega
  have hm := merge_rows (local9 s d x) (local10 i s d y) t hcol (by decide)
  rw [show keyOf (col (local10 i s d y) t) (col (local9 s d x) t) '' ((Finset.univ : Finset (Fin 8)) : Set (Fin 8))
      = (Set.range fun k => keyOf (col (local10 i s d y) t) (col (local9 s d x) t) (lo k)) ∪ Set.range fun k => keyOf (col (local10 i s d y) t) (col (local9 s d x) t) (hi k) from by
    rw [Finset.coe_univ, Set.image_univ]
    ext z
    constructor
    · rintro ⟨r, rfl⟩
      rcases lo_or_hi r with ⟨k, rfl⟩ | ⟨k, rfl⟩
      · exact .inl ⟨k, rfl⟩
      · exact .inr ⟨k, rfl⟩
    · rintro (⟨k, rfl⟩ | ⟨k, rfl⟩)
      · exact ⟨_, rfl⟩
      · exact ⟨_, rfl⟩] at hm
  exact h'.merge hl hm

/-- The two halves' keys are the whole batch's. -/
theorem blockKeys_halves (f : Fin 8192 → EReal) (base : ℕ) :
    blockKeys (fun e : Fin 4096 => f ⟨e.val, by omega⟩) base ∪ blockKeys (fun e : Fin 4096 => f ⟨4096 + e.val, by omega⟩) (4096 + base) = blockKeys f base := by
  ext z
  constructor
  · rintro (⟨e, rfl⟩ | ⟨e, rfl⟩)
    · exact ⟨⟨e.val, by omega⟩, rfl⟩
    · exact ⟨⟨4096 + e.val, by omega⟩, congrArg (mk _) (by push_cast; ring)⟩
  · rintro ⟨e, rfl⟩
    by_cases he : e.val < 4096
    · exact .inl ⟨⟨e.val, he⟩, rfl⟩
    · refine .inr ⟨⟨e.val - 4096, by omega⟩, ?_⟩
      have : (⟨4096 + (e.val - 4096), by omega⟩ : Fin 8192) = e := Fin.ext (by show 4096 + (e.val - 4096) = e.val; omega)
      show mk (f ⟨4096 + (e.val - 4096), _⟩) _ = _
      rw [this]
      refine congrArg (mk _) ?_
      show ((4096 + base + (e.val - 4096) : ℕ) : ℤ) = (base + e.val : ℕ)
      omega

/-- The numbers held at the end of a batch: the table rows of its four best columns. -/
theorem held_numbers (f : Fin 8192 → EReal) (base : ℕ) (hb : base + 8192 ≤ 2 ^ 31) (h : Holds (blockKeys f base) x y t)
    {j : Fin 4 → Fin 8192} (hj : Least4 (Set.range (posKey f)) (posKey f ∘ j)) (k : Fin 4) :
    y (ix2 (lo k) t) = BitVec.ofNat 32 (base + (j k).val) := by
  have hm := hj.map (shift base) (shift_mono _)
  rw [show shift base '' Set.range (posKey f) = blockKeys f base from by
    unfold blockKeys
    rw [← Set.range_comp]
    refine congrArg Set.range (funext fun a => ?_)
    show mk _ _ = mk _ _
    refine congrArg (mk _) ?_
    push_cast
    show (a.val : ℤ) + _ = _
    ring] at hm
  have e := congrFun (h.unique hm) k
  have e2 := (mk_inj.mp e).2
  refine BitVec.eq_of_toInt_eq ?_
  have b := (j k).isLt
  rw [toInt_ofNat (by omega)]
  refine e2.trans ?_
  show ((j k).val : ℤ) + _ = _
  push_cast
  ring

end steps

end Cert.Proof.StepValue

end
-- ==== Proof.ProjRegion.lean ====
/-
  The projection and selection call as one step of the whole program: what each of its eight points leaves, the step's
  two result arrays, and the step itself from all of the device's arrays to all of them.
-/
module

public import proofs.«01_k».proof.Proof.ProjBody
public import proofs.«01_k».proof.Proof.Gen.KernelIdeal.Points
public import Idealize.ShloMosaic.Lib.Pipeline.Frame
public import Idealize.ShloMosaic.Lib.Pipeline.FrameTail
public import Idealize.ShloMosaic.Lib.Pipeline.FrameBody
public import Idealize.ShloMosaic.Lib.Pipeline.RegionArrays
public import Idealize.ShloMosaic.Lib.Pipeline.Regions

@[expose] public section

set_option maxRecDepth 16384

noncomputable section

namespace Cert.Proof.ProjRegion

open Cert.KernelIdeal Cert.KernelIdeal.Gen Cert.Proof.WholeBase Cert.Proof.ProjBody
open Idealize.ShloMosaic.SparseCore.Cfg (HIx)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (Dat Cfg Window BodyObligation cellOf ucRefs arrRefs arrRef)

variable {F : FTy → Type} [FloatOps F]

local notation "𝕄" => MT nD τ sig (HIx 1) (Elt F) ℕ UU ℕ

variable (V : Dev nD → Valuation τ sig (Elt F))

/-! ## The points -/

theorem first_iff (t : Fin cfg0.N) : first (grid0.coords t) ↔ t.val % 2 = 0 := by
  rcases fin_N0 t with h | h | h | h | h | h | h | h <;> subst h <;> decide

/-- Window `w`'s block at point `t`, of the arrays as the step finds them. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (arrRef spec0 w)))

/-- The two small buffers as the first point of a batch sets them. -/
def blank : Vec F S8x256 .f32 × Vec F S8x256 .i32 := (k0_pay5, k0_pay6)

/-- The two small buffers after point `t`, from what it finds in them. -/
def stepAt (c : Dev nD) (t : Fin cfg0.N) (p : Vec F S8x256 .f32 × Vec F S8x256 .i32) : Vec F S8x256 .f32 × Vec F S8x256 .i32 :=
  (step9 (grid0.coords t) (iblk V c 0 t) (iblk V c 1 t) (iblk V c 3 t) p.1 p.2,
   step10 (grid0.coords t) (iblk V c 0 t) (iblk V c 1 t) (iblk V c 3 t) p.1 p.2)

/-- The two small buffers after the point at position `n`. -/
def acc (c : Dev nD) : (n : ℕ) → n < cfg0.N → Vec F S8x256 .f32 × Vec F S8x256 .i32
  | 0, h => stepAt V c ⟨0, h⟩ blank
  | n + 1, h => stepAt V c ⟨n + 1, h⟩ (if (n + 1) % 2 = 0 then blank else acc c n (Nat.lt_of_succ_lt h))

theorem acc_even (c : Dev nD) (t : Fin cfg0.N) (h : t.val % 2 = 0) : acc V c t.val t.isLt = stepAt V c t blank := by
  obtain ⟨n, hn⟩ := t
  cases n with
  | zero => rfl
  | succ n => exact congrArg (stepAt V c ⟨n + 1, hn⟩) (if_pos h)

theorem acc_odd (c : Dev nD) (t : Fin cfg0.N) (h : ¬ t.val % 2 = 0) :
    acc V c t.val t.isLt = stepAt V c t (acc V c (t.val - 1) (by have := t.isLt; omega)) := by
  obtain ⟨n, hn⟩ := t
  cases n with
  | zero => exact absurd rfl h
  | succ n => exact congrArg (stepAt V c ⟨n + 1, hn⟩) (if_neg h)

/-! ## The scratch between points -/

abbrev sc0 : Memref sig .tc .vmem S4096x256 .f32 := Memref.whole cc0_scratch0
abbrev sc1 : Memref sig .tc .vmem S8x256 .f32 := Memref.whole cc0_scratch1
abbrev sc2 : Memref sig .tc .vmem S8x256 .i32 := Memref.whole cc0_scratch2

/-- Before the first point the scratch buffers hold anything; after a point the two small ones hold `acc`. -/
def Inv (c : Dev nD) : (n : ℕ) → n ≤ cfg0.N → sProp 𝕄
  | 0, _ => iprop((∃ d, owns (c : Thread nD τ) sc0 fullShare d) ∗ (∃ d, owns (c : Thread nD τ) sc1 fullShare d) ∗ (∃ d, owns (c : Thread nD τ) sc2 fullShare d))
  | n + 1, h => iprop((∃ d, owns (c : Thread nD τ) sc0 fullShare d) ∗ owns (c : Thread nD τ) sc1 fullShare (acc V c n h).1 ∗ owns (c : Thread nD τ) sc2 fullShare (acc V c n h).2)

theorem Inv_any (c : Dev nD) (n : ℕ) (h : n ≤ cfg0.N) :
    Inv V c n h ⊢ iprop((∃ d, owns (c : Thread nD τ) sc0 fullShare d) ∗ (∃ d, owns (c : Thread nD τ) sc1 fullShare d) ∗ (∃ d, owns (c : Thread nD τ) sc2 fullShare d)) := by
  cases n with
  | zero => exact .rfl
  | succ n =>
    unfold Inv
    iintro ⟨H0, H1, H2⟩
    isplitl [H0]; · iexact H0
    isplitl [H1]
    · iexists _; iexact H1
    iexists _; iexact H2

theorem Inv_pos (c : Dev nD) (n : ℕ) (h : n ≤ cfg0.N) (hz : n ≠ 0) :
    Inv V c n h = iprop((∃ d, owns (c : Thread nD τ) sc0 fullShare d) ∗ owns (c : Thread nD τ) sc1 fullShare (acc V c (n - 1) (by omega)).1
      ∗ owns (c : Thread nD τ) sc2 fullShare (acc V c (n - 1) (by omega)).2) := by
  cases n with
  | zero => exact absurd rfl hz
  | succ n => rfl

theorem scratch_eq (c : Dev nD) :
    (Pipeline.scopedRest (Ix := HIx 1) (Name := ℕ) (U := UU) (Lvl := ℕ) (Val := Elt F) spec0 c : sProp 𝕄)
      = iprop((∃ d, owns (c : Thread nD τ) sc0 fullShare d) ∗ (∃ d, owns (c : Thread nD τ) sc1 fullShare d) ∗ (∃ d, owns (c : Thread nD τ) sc2 fullShare d)) := by
  rw [scopedRest0_eq]; simp only [sc0, sc1, sc2, owns_whole]; try rfl

theorem scratch_in (c : Dev nD) :
    (Pipeline.scopedRest (Ix := HIx 1) (Name := ℕ) (U := UU) (Lvl := ℕ) (Val := Elt F) spec0 c : sProp 𝕄) ⊢ Inv V c 0 (Nat.zero_le _) := by
  rw [scratch_eq]
  exact .rfl

/-! ## The step's proof data -/

def dats (_ : Fin 1) (c : Dev nD) : Dat τ (Elt F) (HIx 1) ℕ UU ℕ cfg0 c where
  A w := V c (Proc.devRef .tc (arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay3 (iblk V c 1 t) (iblk V c 2 t)
    | ⟨5, _⟩ => outIds (F := F) (acc V c t.val t.isLt).2
  Φ t := Inv V c t.val (Nat.le_of_lt_succ t.isLt)
  q _ := fullShare
  owed _ := (K (F := F)).Otc c 0
  recorded _ := {p | (K (F := F)).lev ((c : Thread nD τ), p.1) p.2 ≤ 0}

theorem A_eq (c : Dev nD) (w : Fin cfg0.W) : (dats V 0 c).A w = V c (Proc.devRef .tc (arrRef spec0 w)) := by
  dsimp only [dats]
theorem Inv_castSucc (c : Dev nD) (t : Fin cfg0.N) : (dats V 0 c).Φ t.castSucc = Inv V c t.val (Nat.le_of_lt t.isLt) := by
  dsimp only [dats]; exact Dat.Φ_castSucc (Inv V c) t
theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = k0_pay3 (iblk V c 1 t) (iblk V c 2 t) := by dsimp only [dats]
theorem after0_5 (c : Dev nD) (t : Fin cfg0.N) : (dats V 0 c).after 5 t = outIds (F := F) (acc V c t.val t.isLt).2 := by dsimp only [dats]

theorem before_0 (c : Dev nD) (t : Fin cfg0.N) (d) : (dats V 0 c).before 0 t d = iblk V c 0 t :=
  ((dats V 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
theorem before_1 (c : Dev nD) (t : Fin cfg0.N) (d) : (dats V 0 c).before 1 t d = iblk V c 1 t :=
  ((dats V 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)
theorem before_2 (c : Dev nD) (t : Fin cfg0.N) (d) : (dats V 0 c).before 2 t d = iblk V c 2 t :=
  ((dats V 0 c).before_in_eq_fetched 2 rfl (fun _ => rfl) (fun _ _ _ => rfl) (fun t => by rw [after0_2]; unfold Dat.blockOf iblk; rw [A_eq]) t d).trans
    (by unfold Dat.fetched Dat.blockOf iblk; rw [A_eq]; rfl)
theorem before_3 (c : Dev nD) (t : Fin cfg0.N) (d) : (dats V 0 c).before 3 t d = iblk V c 3 t :=
  ((dats V 0 c).before_in_eq_fetched 3 rfl (fun _ => rfl) (fun _ _ _ => rfl) (fun t => by rw [after0_3]; unfold Dat.blockOf iblk; rw [A_eq]) t d).trans
    (by unfold Dat.fetched Dat.blockOf iblk; rw [A_eq]; rfl)

/-! ## The body at a point -/

def bodyPre (c : Dev nD) (t : Fin cfg0.N) : sProp 𝕄 :=
  iprop((dats V 0 c).Φ t.castSucc ∗ (dats V 0 c).owesAt none t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d))
    ∗ (∃ d, owns (c : Thread nD τ) (st0_3 t) fullShare ((dats V 0 c).before 3 t d))
    ∗ (∃ d, owns (c : Thread nD τ) (st0_4 t) fullShare ((dats V 0 c).before 4 t d))
    ∗ (∃ d, owns (c : Thread nD τ) (st0_5 t) fullShare ((dats V 0 c).before 5 t d)))

def bodyPost (c : Dev nD) (t : Fin cfg0.N) : sProp 𝕄 :=
  iprop((dats V 0 c).Φ t.succ ∗ (dats V 0 c).owesAt none t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t)
    ∗ owns (c : Thread nD τ) (st0_3 t) fullShare ((dats V 0 c).after 3 t)
    ∗ owns (c : Thread nD τ) (st0_4 t) fullShare ((dats V 0 c).after 4 t)
    ∗ owns (c : Thread nD τ) (st0_5 t) fullShare ((dats V 0 c).after 5 t))

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dats V 0 c).owesAt none t.succ = (dats V 0 c).owesAt none t.castSucc from rfl,
    after0_0, after0_1, after0_2, after0_3, after0_4, after0_5]
  rw [show (dats V 0 c).Φ t.succ = iprop((∃ d, owns (c : Thread nD τ) sc0 fullShare d) ∗ owns (c : Thread nD τ) sc1 fullShare (acc V c t.val t.isLt).1
    ∗ owns (c : Thread nD τ) sc2 fullShare (acc V c t.val t.isLt).2) from rfl]
  rw [Inv_castSucc V c t]
  by_cases h0 : t.val % 2 = 0
  · rw [acc_even V c t h0]
    refine (sep_mono (Inv_any V c t.val _) .rfl).trans ?_
    iintro ⟨⟨HS0, HS1, HS2⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ _ _ _ _ ((first_iff t).mpr h0) (iblk V c 0 t) (iblk V c 1 t) (iblk V c 2 t) (iblk V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2]
    · isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    rw [acc_odd V c t h0, Inv_pos V c _ _ hz]
    iintro ⟨⟨HS0, HS1, HS2⟩, Ho, ⟨%d0, H0⟩, ⟨%d1, H1⟩, ⟨%d2, H2⟩, ⟨%d3, H3⟩, ⟨%d4, H4⟩, ⟨%d5, H5⟩⟩
    iapply (body_next c (grid0.coords t) _ _ _ _ _ _ _ _ _ _ _ _ _ _ _ _ _ _ (fun h => h0 ((first_iff t).mp h)) (iblk V c 0 t) (iblk V c 1 t) (iblk V c 2 t) (iblk V c 3 t)
      (acc V c (t.val - 1) (by have := t.isLt; omega)).1 (acc V c (t.val - 1) (by have := t.isLt; omega)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2]
    · isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  rfl

theorem body_obligation (c : Dev nD) : BodyObligation (dats V 0 c) (defs₀ (F := F)) Variants.none none Set.univ := fun t => by
  rw [bigSep_W0, bigSep_W0, defs₀_row]
  exact triple_restated (sound_body V c t) rfl .rfl fun _ => .rfl

/-! ## The step -/

abbrev adm : (p : Fin 1) → (pcfgs (F := F) p).Adm := fun p => (cfgs p).toPCfg_adm

/-- All of the device's arrays after the step. -/
def afterV (c : Dev nD) : Valuation τ sig (Elt F) := Pipeline.afterRegion (dats V 0 c) (V c)

theorem arrRefs_sub : arrRefs (τ := τ) spec0 ⊆ ucRefs τ sig := Pipeline.arrRefs_sub_ucRefs spec0 (by decide)

/-- What the core owes through the step: its waits so far all below the calls'. -/
abbrev owing (c : Dev nD) : sProp 𝕄 :=
  iprop(∃ W, ⌜(K (F := F)).WBelow (c : Thread nD τ) W 0⌝ ∗ owes (c : Thread nD τ) ((K (F := F)).Otc c 0) W)

theorem arrays_in (c : Dev nD) :
    ((dats V 0 c).arrays ((dats V 0 c).arrAt · 0) : sProp 𝕄) = held (c : Thread nD τ) (arrRefs spec0) (V c) :=
  Pipeline.arrays_held (pcfgs (F := F)) adm (dats V) 0 launch0.toP c ((dats V 0 c).share_full fun _ => rfl) _ (V c) fun w => by
    rfl

theorem arrays_out (c : Dev nD) :
    ((dats V 0 c).arrays ((dats V 0 c).arrAt · cfg0.N) : sProp 𝕄) = held (c : Thread nD τ) (arrRefs spec0) (afterV V c) :=
  Pipeline.arrays_held (pcfgs (F := F)) adm (dats V) 0 launch0.toP c ((dats V 0 c).share_full fun _ => rfl) _ (afterV V c) fun w =>
    (Pipeline.afterRegion_arr (dats V 0 c) (V c) launch0.win.arr_inj w).symm

theorem rest_eq (c : Dev nD) :
    (held (c : Thread nD τ) (ucRefs τ sig \ arrRefs spec0) (afterV V c) : sProp 𝕄) = held (c : Thread nD τ) (ucRefs τ sig \ arrRefs spec0) (V c) :=
  StableHlo.held_congr _ fun b hb => by
    unfold afterV Pipeline.afterRegion
    rw [dif_neg]
    rintro ⟨w, hw⟩
    exact (Finset.mem_sdiff.1 hb).2 (hw ▸ Finset.mem_map.mpr ⟨_, Finset.mem_image.mpr ⟨w, Finset.mem_univ _, rfl⟩, rfl⟩)

def reg : Pipeline.RegionSeg (pcfgs (F := F)) adm (dats V) (none : HIx 1) (defs₀ (F := F)) 𝒱₀ (K (F := F)).L (K (F := F)).lev 0 where
  win := launch0.toP.to₀.win
  block_pos := launch0.block_pos
  stage_whole := launch0.stage_whole
  K := PEmpty
  osem k := k.elim
  ho := Pipeline.OwnSemFacts.none _
  hbody c := (body_obligation V c).loose
  hwaits c := Pipeline.cellsWaits_of_cut (Pipeline.pin (pcfgs (F := F)) adm) (dats V) none 0 c 0 ((K (F := F)).Otc c 0) (fun _ => rfl)
    (fun _ _ => Finset.mem_univ _) (fun _ _ => le_of_eq ((K (F := F)).lev_none _))
    (fun g i h => ⟨Finset.mem_univ _, lt_of_lt_of_le (Nat.succ_pos _) ((K (F := F)).lev_of_Otc_pos h)⟩)
  pre c := iprop(held (c : Thread nD τ) (ucRefs τ sig) (V c) ∗ owing c)
  post c := iprop(held (c : Thread nD τ) (ucRefs τ sig) (afterV V c) ∗ owing c)
  X _ := iprop(emp)
  Y _ := iprop(emp)
  Z c := held (c : Thread nD τ) (ucRefs τ sig \ arrRefs spec0) (V c)
  hentry c := by
    rw [Pipeline.ownSems0_none, Pipeline.prefHeld_of_none _ rfl, held_sub_split (c : Thread nD τ) arrRefs_sub, ← arrays_in]
    iintro ⟨⟨⟨Ha, HR⟩, HO⟩, -, -⟩
    imodintro
    isplitl [Ha]; · iexact Ha
    isplitr; · iempintro
    isplitl [HO]
    · unfold Dat.owesAt Pipeline.owesWithin Dat.bound
      icases HO with ⟨%W, %hW, HO⟩; iexists W; isplitr
      · ipureintro; exact fun p hp => Or.inl (hW p hp)
      iexact HO
    isplitr; · iempintro
    iexact HR
  hin c := (sep_elim_right.trans sep_elim_right).trans (scratch_in V c)
  hout c := by
    refine (show _ ⊢ Inv V c cfg0.N le_rfl from .rfl).trans ((Inv_any V c _ _).trans ?_)
    rw [← scratch_eq, Pipeline.ownSems0_none]
    iintro Hr
    isplitr; · iempintro
    isplitr; · iempintro
    iexact Hr
  hexit c := by
    rw [held_sub_split (c : Thread nD τ) arrRefs_sub, ← arrays_out, rest_eq]
    iintro ⟨Ha, HO, -, HR⟩
    imodintro
    isplitl [Ha HR]
    · isplitl [Ha]; · iexact Ha
      iexact HR
    unfold Dat.owesAt Pipeline.owesWithin Dat.bound
    icases HO with ⟨%W, %hW, HO⟩; iexists W; isplitr
    · ipureintro
      intro p hp
      rcases hW hp with h | ⟨w, s, rfl⟩
      · exact h
      · exact le_of_eq ((K (F := F)).lev_none _)
    iexact HO

end Cert.Proof.ProjRegion

end
-- ==== Proof.ProjArrays.lean ====
/-
  The projection and selection call's blocks and result arrays, element by element, over the extended reals: where each
  block lies in its array, the projected table at an index, and the numbers at an index as the buffers of the last point
  of the batch hold them.
-/
module

public import proofs.«01_k».proof.Proof.StepValue
public import proofs.«01_k».proof.Proof.ProjRegion
public import Idealize.ShloMosaic.Lib.Pipeline.Value
public import Idealize.ShloMosaic.Lib.Pipeline.ValueKit

@[expose] public section

set_option maxRecDepth 16384

noncomputable section

namespace Cert.Proof.ProjArrays

open Cert.KernelIdeal Cert.KernelIdeal.Gen Cert.Proof.WholeBase Cert.Proof.ProjBody Cert.Proof.ProjRegion Cert.Proof.StepValue
open Idealize.ShloMosaic hiding floor
open Idealize.ShloMosaic.TcCoe
open Idealize.ShloMosaic.Pipeline (Dat arrRef)

variable (V : Dev nD → Valuation τ sig (Elt Ideal)) (c : Dev nD)

abbrev rf (r : Ref sig .tc) : DevRef τ sig := Proc.devRef .tc r

/-! ## The blocks -/

theorem at0 : ∀ t : Fin cfg0.N, win0_0.index t = ![t.val / 2, 0, 0] := (by decide +kernel : ∀ t : Fin grid0.N, _)
theorem at1 : ∀ t : Fin cfg0.N, win0_1.index t = ![t.val / 2, 0, t.val % 2] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val / 2, t.val % 2, 0] := (by decide +kernel : ∀ t : Fin grid0.N, _)
theorem at5 : ∀ t : Fin cfg0.N, win0_5.index t = ![t.val / 2, 0, 0] := (by decide +kernel : ∀ t : Fin grid0.N, _)
theorem coords_eq : ∀ t : Fin cfg0.N, ((grid0.coords t) 0).val = t.val / 2 ∧ ((grid0.coords t) 1).val = t.val % 2 :=
  (by decide +kernel : ∀ t : Fin grid0.N, _)
theorem points : cfg0.N = 8 := by decide +kernel

/-- The batch and the half of a point. -/
def batch (t : Fin cfg0.N) : Fin 4 := ⟨t.val / 2, by have := t.isLt; have := points; omega⟩
def column (t : Fin cfg0.N) (e : Fin 4096) : Fin 8192 := ⟨t.val % 2 * 4096 + e.val, by omega⟩

theorem iblk0_apply (t : Fin cfg0.N) (k : Fin 768) (j : Fin 256) :
    iblk V c 0 t (ix3 0 k j) = V c (rf main_arg0) (ix3 (batch t) k j) := by
  unfold batch
  blk_ext [iblk, at0 t]

theorem iblk1_apply (t : Fin cfg0.N) (k : Fin 768) (e : Fin 4096) :
    iblk V c 1 t (ix3 0 k e) = V c (rf main_arg1) (ix3 (batch t) k (column t e)) := by
  unfold batch column
  blk_ext [iblk, at1 t]

theorem iblk2_apply (t : Fin cfg0.N) (k : Fin 768) (o : Fin 128) :
    iblk V c 2 t (ix2 k o) = V c (rf main_v1) (ix2 k o) := by
  blk_ext [iblk, at2 t]

theorem iblk3_apply (t : Fin cfg0.N) (e : Fin 4096) (j : Fin 256) :
    iblk V c 3 t (ix2 e j) = V c (rf main_v4) (ix2 e j) := by
  blk_ext [iblk, at3 t]

/-! ## The result arrays -/

/-- The columns to match, the table's columns and the padded weights, as the call finds them. -/
def xOf : S4x768x256.Idx → EReal := V c (rf main_arg0)
def lutOf : S4x768x8192.Idx → EReal := V c (rf main_arg1)
def wtOf : S768x128.Idx → EReal := V c (rf main_v1)

/-- The projected table. -/
def projected : S4x8192x128.Idx → EReal := fun i => ∑ k : Fin 768, lutOf V c (ix3 (i 0) k (i 1)) * wtOf V c (ix2 k (i 2))

/-- The numbers. -/
def numbers : S4x4x256.Idx → BitVec 32 := fun i =>
  (acc V c (2 * (i 0).val + 1) (by have h : (i 0).val < 4 := (i 0).isLt; have := points; omega)).2 (ix2 (lo (i 1)) (i 2))

theorem table_eq : (dats V 0 c).arrAt 4 cfg0.N = projected V c := by
  refine (dats V 0 c).arrAt_eq_of_covers 4 _ (by decide +kernel) fun t hf y => ?_
  blk_simp
  rw [after0_4]
  obtain ⟨a, e, o, rfl⟩ : ∃ (a : Fin 1) (e : Fin 4096) (o : Fin 128), y = ix3 a e o := ⟨y 0, y 1, y 2, eq_ix3 y⟩
  obtain rfl : a = 0 := Subsingleton.elim _ _
  have h : ((cfg0.win 4).blk t).view.emb (ix3 0 e o) = (ix3 (batch t) (column t e) o : S4x8192x128.Idx) := by
    unfold batch column
    blk_ext [at4 t]
  rw [h]
  have key : (k0_pay3 (iblk V c 1 t) (iblk V c 2 t) (ix3 0 e o) : EReal) = projected V c (ix3 (batch t) (column t e) o) := by
    rw [pay3_apply]
    exact Finset.sum_congr rfl fun k _ => by rw [iblk1_apply, iblk2_apply]; rfl
  exact key

theorem acc_congr {n n' : ℕ} (h : n = n') (hn : n < cfg0.N) (hn' : n' < cfg0.N) : acc V c n hn = acc V c n' hn' := by
  subst h; rfl

theorem numbers_eq : (dats V 0 c).arrAt 5 cfg0.N = numbers V c := by
  refine (dats V 0 c).arrAt_eq_of_covers 5 _ (by decide +kernel) fun t hf y => ?_
  blk_simp
  rw [after0_5]
  obtain ⟨a, k, j, rfl⟩ : ∃ (a : Fin 1) (k : Fin 4) (j : Fin 256), y = ix3 a k j := ⟨y 0, y 1, y 2, eq_ix3 y⟩
  obtain rfl : a = 0 := Subsingleton.elim _ _
  have h : ((cfg0.win 5).blk t).view.emb (ix3 0 k j) = (ix3 (batch t) k j : S4x4x256.Idx) := by
    unfold batch
    blk_ext [at5 t]
  have ht : t.val % 2 = 1 := (flush0_5 t).mp hf
  rw [h]
  unfold numbers
  rw [acc_congr V c (show 2 * ((ix3 (batch t) k j : S4x4x256.Idx) 0).val + 1 = t.val from by show 2 * (t.val / 2) + 1 = t.val; omega) _ t.isLt]
  unfold outIds
  pointwise [k0_pay1]
  refine congrArg (acc V c t.val t.isLt).2 (funext fun a => Fin.ext ?_)
  match a with
  | 0 => show 0 + 1 * k.val = k.val; omega
  | 1 => show 0 + 1 * j.val = j.val; omega

theorem after_v5_0 : afterV V c (rf main_v5_0) = projected V c := by
  refine (Pipeline.afterRegion_arr (dats V 0 c) (V c) launch0.win.arr_inj 4).trans ?_
  exact table_eq V c

theorem after_v5_1 : afterV V c (rf main_v5_1) = numbers V c := by
  refine (Pipeline.afterRegion_arr (dats V 0 c) (V c) launch0.win.arr_inj 5).trans ?_
  exact numbers_eq V c

/-! ## A batch's numbers -/

/-- The similarity of column `j` of batch `b` with the batch's table column `e`. -/
def sim (b : Fin 4) (j : Fin 256) (e : Fin 8192) : EReal :=
  simOf (fun k => xOf V c (ix3 b k j)) fun k => lutOf V c (ix3 b k e)

/-- A point's similarities are the batch's, of the point's half of the table. -/
theorem point_sims (t : Fin cfg0.N) (j : Fin 256) :
    col (k0_pay4 (iblk V c 0 t) (iblk V c 1 t)) j = fun e => sim V c (batch t) j (column t e) := by
  funext e
  show k0_pay4 (iblk V c 0 t) (iblk V c 1 t) (ix2 e j) = _
  rw [pay4_apply]
  unfold sim
  congr 1
  · funext k; exact iblk0_apply V c t k j
  · funext k; exact iblk1_apply V c t k e

theorem blank_rows (j : Fin 256) (k : Fin 4) :
    (blank (F := Ideal)).1 (ix2 (lo k) j) = Select.floor ∧ (blank (F := Ideal)).2 (ix2 (lo k) j) = Select.big := by
  unfold blank
  constructor
  · show k0_pay5 (F := Ideal) (ix2 (lo k) j) = _
    pointwise [k0_pay5]
  · show k0_pay6 (ix2 (lo k) j) = _
    pointwise [k0_pay6]

variable (hids : ∀ (e : Fin 4096) (j : Fin 256), V c (rf main_v4) (ix2 e j) = BitVec.ofNat 32 e.val)
  (hsim : ∀ b j e, Select.floor < sim V c b j e)
include hids hsim

/-- After a batch's second point the buffers hold, column by column, the four best of the batch. -/
theorem batch_held (b : Fin 4) (j : Fin 256) (h : 2 * b.val + 1 < cfg0.N) :
    Holds (blockKeys (sim V c b j) (b.val * 8192)) (acc V c (2 * b.val + 1) h).1 (acc V c (2 * b.val + 1) h).2 j := by
  have hd (t : Fin cfg0.N) (e : Fin 4096) : k0_pay7 (F := Ideal) (iblk V c 3 t) (ix2 e j) = BitVec.ofNat 32 e.val := by
    rw [pay7_apply, iblk3_apply]; exact hids e j
  have hs (t : Fin cfg0.N) (e : Fin 4096) : Select.floor < k0_pay4 (iblk V c 0 t) (iblk V c 1 t) (ix2 e j) := by
    have := congrFun (point_sims V c t j) e
    rw [show k0_pay4 (iblk V c 0 t) (iblk V c 1 t) (ix2 e j) = _ from this]
    exact hsim _ _ _
  have h0 : 2 * b.val < cfg0.N := by omega
  have first := step_first (grid0.coords ⟨2 * b.val, h0⟩) (k0_pay4 (iblk V c 0 ⟨2 * b.val, h0⟩) (iblk V c 1 ⟨2 * b.val, h0⟩)) (k0_pay7 (F := Ideal) (iblk V c 3 ⟨2 * b.val, h0⟩))
    (blank (F := Ideal)).1 (blank (F := Ideal)).2 j (hs _) (hd _) (fun k => (blank_rows j k).1) (fun k => (blank_rows j k).2)
  have p0 : place (grid0.coords ⟨2 * b.val, h0⟩) = b.val * 8192 := by
    have := coords_eq ⟨2 * b.val, h0⟩
    unfold place
    rw [this.1, this.2]
    show 2 * b.val % 2 * 4096 + 2 * b.val / 2 * 8192 = _
    omega
  have p1 : place (grid0.coords ⟨2 * b.val + 1, h⟩) = 4096 + b.val * 8192 := by
    have := coords_eq ⟨2 * b.val + 1, h⟩
    unfold place
    rw [this.1, this.2]
    show (2 * b.val + 1) % 2 * 4096 + (2 * b.val + 1) / 2 * 8192 = _
    omega
  have b0 : batch ⟨2 * b.val, h0⟩ = b := Fin.ext (by show 2 * b.val / 2 = b.val; omega)
  have b1 : batch ⟨2 * b.val + 1, h⟩ = b := Fin.ext (by show (2 * b.val + 1) / 2 = b.val; omega)
  have c0 (e : Fin 4096) : column ⟨2 * b.val, h0⟩ e = ⟨e.val, by omega⟩ := Fin.ext (by show 2 * b.val % 2 * 4096 + e.val = e.val; omega)
  have c1 (e : Fin 4096) : column ⟨2 * b.val + 1, h⟩ e = ⟨4096 + e.val, by omega⟩ := Fin.ext (by show (2 * b.val + 1) % 2 * 4096 + e.val = 4096 + e.val; omega)
  rw [p0, point_sims, b0] at first
  simp only [c0] at first
  have a0 : acc V c (2 * b.val) h0 = stepAt V c ⟨2 * b.val, h0⟩ blank := acc_even V c ⟨2 * b.val, h0⟩ (by show 2 * b.val % 2 = 0; omega)
  have a1 : acc V c (2 * b.val + 1) h = stepAt V c ⟨2 * b.val + 1, h⟩ (acc V c (2 * b.val) h0) :=
    acc_odd V c ⟨2 * b.val + 1, h⟩ (by show ¬ (2 * b.val + 1) % 2 = 0; omega)
  have first : Holds (blockKeys (fun e : Fin 4096 => sim V c b j ⟨e.val, by omega⟩) (b.val * 8192)) (acc V c (2 * b.val) h0).1 (acc V c (2 * b.val) h0).2 j := by
    rw [a0]
    exact first
  have next := step_next (grid0.coords ⟨2 * b.val + 1, h⟩) (k0_pay4 (iblk V c 0 ⟨2 * b.val + 1, h⟩) (iblk V c 1 ⟨2 * b.val + 1, h⟩)) (k0_pay7 (F := Ideal) (iblk V c 3 ⟨2 * b.val + 1, h⟩))
    (acc V c (2 * b.val) h0).1 (acc V c (2 * b.val) h0).2 j (fun e : Fin 4096 => sim V c b j ⟨e.val, by omega⟩) (b.val * 8192) (fun e => hsim _ _ _) (by rw [p1]; omega) (hs _) (hd _) first
  rw [p1, point_sims, b1] at next
  simp only [c1] at next
  rw [blockKeys_halves (sim V c b j) (b.val * 8192)] at next
  rw [a1]
  exact next

/-- The numbers of a batch's column: the table rows of its four best columns. -/
theorem numbers_apply (b : Fin 4) (j : Fin 256) {best : Fin 4 → Fin 8192}
    (hb : Select.Least4 (Set.range (Select.posKey (sim V c b j))) (Select.posKey (sim V c b j) ∘ best)) (k : Fin 4) :
    numbers V c (ix3 b k j) = BitVec.ofNat 32 (b.val * 8192 + (best k).val) :=
  held_numbers _ _ j (sim V c b j) (b.val * 8192) (by omega) (batch_held V c hids hsim b j _) hb k

end Cert.Proof.ProjArrays

end
-- ==== Proof.WholeTile.lean ====
/-
  Inside the whole kernel, one task of the gather-and-average SparseCore call, on a symbolic vector subcore: the bias and the task's 128 row
  numbers fetched, the 128 rows of the table gathered by the indirect copy, each group of four rows averaged and the
  bias added in the counted loop, the 32 results copied out. The task's post states the values it leaves.
-/
module

public import proofs.«01_k».proof.Proof.WholeBase
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.WritesUnit
public import Idealize.ShloMosaic.Lib.ValueIdxCore
public import proofs.«01_k».proof.Proof.Gen.KernelIdeal
public import proofs.«01_k».proof.Proof.Gen.KernelIdeal.Skeleton

@[expose] public section

noncomputable section

namespace Cert.Proof.WholeTile

open Cert.KernelIdeal Cert.KernelIdeal.Gen Cert.Proof.WholeBase

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 1) (Elt F) ℕ UU ℕ

/-! ## The call's arrays and the tasks' parts of them -/

abbrev iRef : Ref sig .tc := main_v8
abbrev xRef : Ref sig .tc := main_v7
abbrev bRef : Ref sig .tc := main_arg3
abbrev oRef : Ref sig .tc := main_v9
abbrev iRefV : Ref sig .scVector := main_v8_scv
abbrev xRefV : Ref sig .scVector := main_v7_scv
abbrev bRefV : Ref sig .scVector := main_arg3_scv
abbrev oRefV : Ref sig .scVector := main_v9_scv

abbrev iLoc (d : Dev nD) : Loc nD τ sig := (SparseCore.T d).loc iRef
abbrev xLoc (d : Dev nD) : Loc nD τ sig := (SparseCore.T d).loc xRef
abbrev bLoc (d : Dev nD) : Loc nD τ sig := (SparseCore.T d).loc bRef
abbrev oLoc (d : Dev nD) : Loc nD τ sig := (SparseCore.T d).loc oRef

abbrev iV : Memref sig Kind.scVector Space.hbm S4096 EltTy.i32 := Memref.whole iRefV
abbrev xV : Memref sig Kind.scVector Space.hbm S32768x128 EltTy.f32 := Memref.whole xRefV
abbrev bV : Memref sig Kind.scVector Space.hbm S96 EltTy.f32 := Memref.whole bRefV
abbrev oV : Memref sig Kind.scVector Space.hbm S1024x96 EltTy.f32 := Memref.whole oRefV
abbrev sV : Memref sig Kind.scVector Space.vmem S128 EltTy.i32 := Memref.whole cc1_scratch0
abbrev rV : Memref sig Kind.scVector Space.vmem S128x128 EltTy.f32 := Memref.whole cc1_scratch1
abbrev cV : Memref sig Kind.scVector Space.vmem S96 EltTy.f32 := Memref.whole cc1_scratch2
abbrev aV : Memref sig Kind.scVector Space.vmem S32x96 EltTy.f32 := Memref.whole cc1_scratch3

theorem idiv : 32 ∣ S4096.size 0 := ⟨128, rfl⟩
theorem odiv : 32 ∣ S1024x96.size 0 := ⟨32, rfl⟩
/-- Task `t`'s 128 row numbers and its 32 result rows. -/
abbrev iRowSet (t : Fin 32) : Finset S4096.Idx := (Rect.part (s := S4096) (a₀ := 0) idiv t).set
abbrev oRowSet (t : Fin 32) : Finset S1024x96.Idx := (Rect.part (s := S1024x96) (a₀ := 0) odiv t).set
/-- Task `t`'s share of the table and of the bias. -/
abbrev shr (t : Fin 32) : PosShare TreeShare := leaf 5 fullShare t

/-- The task that vector subcore `s` of SparseCore `c` runs. -/
abbrev task (c : Fin 2) (s : Fin 16) : Fin 32 := ⟨2 * s.val + c.val, by omega⟩

variable [FloatOps F]

/-! ## The values -/

/-- The table's row that entry `n` of the list names. -/
def rowOf (ci : S4096.Idx → BitVec 32) (n : Fin 4096) : Fin 32768 := ⟨(ci (ix1 n)).toNat % 32768, Nat.mod_lt _ (by decide)⟩

/-- The four rows averaged and the bias added, in the task's order of operations. -/
def meanOf (r0 r1 r2 r3 b : F .f32) : F .f32 :=
  FloatOps.addf (FloatOps.mulf (FloatOps.addf (FloatOps.addf (FloatOps.addf r0 r1) r2) r3) (Scalar.ofBits .f32 0x3E800000#32)) b

/-- The call's result, from the list, the table and the bias. -/
def outVal (ci : S4096.Idx → BitVec 32) (cx : S32768x128.Idx → F .f32) (cb : S96.Idx → F .f32) : S1024x96.Idx → F .f32 :=
  fun y =>
    have h0 : (y 0).val < 1024 := (y 0).isLt
    have h1 : (y 1).val < 96 := (y 1).isLt
    let g : (k : Fin 4) → F .f32 := fun k => cx (ix2 (rowOf ci ⟨4 * (y 0).val + k.val, by omega⟩) ⟨(y 1).val, by omega⟩)
    meanOf (g 0) (g 1) (g 2) (g 3) (cb (ix1 ⟨(y 1).val, h1⟩))

/-- The same of the task's own scratch: rows `4i … 4i+3` of the gathered rows averaged, the bias added. -/
def accVal (rv : S128x128.Idx → F .f32) (bv : S96.Idx → F .f32) : S32x96.Idx → F .f32 :=
  fun y =>
    have h0 : (y 0).val < 32 := (y 0).isLt
    have h1 : (y 1).val < 96 := (y 1).isLt
    let g : (k : Fin 4) → F .f32 := fun k => rv (ix2 ⟨4 * (y 0).val + k.val, by omega⟩ ⟨(y 1).val, by omega⟩)
    meanOf (g 0) (g 1) (g 2) (g 3) (bv (ix1 ⟨(y 1).val, h1⟩))

/-! ## The task -/

section Tile

variable (d : Dev nD) (L : grid1.Coords)

abbrev cT (L : grid1.Coords) : Fin τ.nSC := (L 0).castLE hcore1
abbrev jT (L : grid1.Coords) : Fin τ.nSub := (L 1).castLE hsub1
abbrev tT (L : grid1.Coords) : Fin 32 := task (L 0) (L 1)
abbrev vT (d : Dev nD) (L : grid1.Coords) : Thread nD τ := V d (cT L) (jT L)

abbrev iRowK (L : grid1.Coords) : Memref sig .scVector .hbm S128 .i32 := (iV).slice (Rect.unit (s := S4096) (k1_off1 L) S128.size (k1_off1_inb L)) (fun _ => rfl)
abbrev oRowK (L : grid1.Coords) : Memref sig .scVector .hbm S32x96 .f32 := (oV).slice (Rect.unit (s := S1024x96) (k1_off20 L) S32x96.size (k1_off20_inb L)) (fun _ => rfl)
abbrev xAllK : Memref sig .scVector .hbm S32768x128 .f32 := (xV).slice (Rect.unit (s := S32768x128) ![0, 0] S32768x128.size inb_S32768x128_S32768x128_0_0) (fun _ => rfl)

omit [FloatOps F] in
theorem set_iRowK : (iRowK L).view.set = iRowSet (tT L) := by
  show ((View.whole iRefV).slice (Rect.unit (s := S4096) (k1_off1 L) S128.size (k1_off1_inb L))).set = _
  rw [View.set_slice]
  refine Finset.map_refl.trans (congrArg (fun r : Rect _ => r.set) ?_)
  unfold Rect.part Rect.block
  congr 1 <;> funext a
  · rw [k1_off1_eq]
    match a with
    | 0 => simp [Shape.partIx, Shape.partSize]; omega
  · match a with
    | 0 => simp [Shape.partSize]
omit [FloatOps F] in
theorem set_oRowK : (oRowK L).view.set = oRowSet (tT L) := by
  show ((View.whole oRefV).slice (Rect.unit (s := S1024x96) (k1_off20 L) S32x96.size (k1_off20_inb L))).set = _
  rw [View.set_slice]
  refine Finset.map_refl.trans (congrArg (fun r : Rect _ => r.set) ?_)
  unfold Rect.part Rect.block
  congr 1 <;> funext a
  · rw [k1_off20_eq]
    match a with
    | 0 => simp [Shape.partIx, Shape.partSize]; omega
    | 1 => simp [Shape.partIx, Shape.partSize]
  · match a with
    | 0 => simp [Shape.partSize]
    | 1 => simp [Shape.partSize]

abbrev cell (n : DmaSems sig S_) (d : Dev nD) (L : grid1.Coords) : GSem nD τ sig := (vT d L, .dma n.sem)

omit [FloatOps F] in
theorem ownSems0_V :
    (ownSems0 (vT d L) : sProp 𝕄)
      = iprop(semVal (cell cc1_scoped0 d L) 0 ∗ semVal (cell cc1_scoped1 d L) 0 ∗ semVal (cell cc1_scratch4 d L) 0 ∗ semVal (cell cc1_scoped2 d L) 0
          ∗ bigSep (((((ownCells (vT d L)).erase (cell cc1_scoped0 d L)).erase (cell cc1_scoped1 d L)).erase (cell cc1_scratch4 d L)).erase (cell cc1_scoped2 d L))
              fun g => semVal g 0) := by
  unfold SparseCore.Cfg.ownSems0
  have key : ∀ n : DmaSems sig S_, (SemLoc.dma n.sem : SemLoc sig).isScoped .scVector = true → cell n d L ∈ ownCells (vT d L) :=
    fun n h => (mem_ownCells (g := cell n d L)).mpr ⟨rfl, h⟩
  rw [SparseCore.bigSep_erase' (key cc1_scoped0 (by decide)),
    SparseCore.bigSep_erase' (Finset.mem_erase.mpr ⟨by simp [cell]; decide, key cc1_scoped1 (by decide)⟩),
    SparseCore.bigSep_erase' (Finset.mem_erase.mpr ⟨by simp [cell]; decide, Finset.mem_erase.mpr ⟨by simp [cell]; decide, key cc1_scratch4 (by decide)⟩⟩),
    SparseCore.bigSep_erase' (Finset.mem_erase.mpr ⟨by simp [cell]; decide, Finset.mem_erase.mpr ⟨by simp [cell]; decide,
      Finset.mem_erase.mpr ⟨by simp [cell]; decide, key cc1_scoped2 (by decide)⟩⟩⟩)]

abbrev dref (L : grid1.Coords) (r : Ref sig .scVector) : DevRef τ sig := (Proc.scVector (cT L) (jT L)).devRef r

omit [FloatOps F] in
theorem ownBufs_V :
    (ownBufs (vT d L) : sProp 𝕄)
      = iprop((∃ f, (vT d L).loc cc1_scratch0 ↦{fullShare} f) ∗ (∃ f, (vT d L).loc cc1_scratch1 ↦{fullShare} f)
          ∗ (∃ f, (vT d L).loc cc1_scratch2 ↦{fullShare} f) ∗ (∃ f, (vT d L).loc cc1_scratch3 ↦{fullShare} f)
          ∗ bigSep (((((ownRefs (τ := τ) (.scVector (cT L) (jT L))).erase (dref L cc1_scratch0)).erase (dref L cc1_scratch1)).erase (dref L cc1_scratch2)).erase (dref L cc1_scratch3))
              fun b => iprop(∃ f, ((d, b) : Loc nD τ sig) ↦{fullShare} f)) := by
  unfold SparseCore.Cfg.ownBufs
  have key : ∀ r : Ref sig .scVector, (dref L r).owner = .proc (.scVector (cT L) (jT L)) → dref L r ∈ ownRefs (τ := τ) (.scVector (cT L) (jT L)) :=
    fun r h => SparseCore.Cfg.mem_ownRefs_of_owner (p := Proc.scVector (cT L) (jT L)) (b := dref L r) h
  have ne : ∀ r r' : Ref sig .scVector, r ≠ r' → dref L r ≠ dref L r' := fun r r' h e => h (Proc.devRef_injective _ e)
  refine (SparseCore.bigSep_erase' (key cc1_scratch0 rfl)).trans ?_
  rw [SparseCore.bigSep_erase' (Finset.mem_erase.mpr ⟨ne cc1_scratch1 cc1_scratch0 (by decide), key cc1_scratch1 rfl⟩),
    SparseCore.bigSep_erase' (Finset.mem_erase.mpr ⟨ne cc1_scratch2 cc1_scratch1 (by decide), Finset.mem_erase.mpr ⟨ne cc1_scratch2 cc1_scratch0 (by decide), key cc1_scratch2 rfl⟩⟩),
    SparseCore.bigSep_erase' (Finset.mem_erase.mpr ⟨ne cc1_scratch3 cc1_scratch2 (by decide), Finset.mem_erase.mpr ⟨ne cc1_scratch3 cc1_scratch1 (by decide),
      Finset.mem_erase.mpr ⟨ne cc1_scratch3 cc1_scratch0 (by decide), key cc1_scratch3 rfl⟩⟩⟩)]

variable (ci : (d : Dev nD) → Buf (Elt F) (iLoc d)) (cx : (d : Dev nD) → Buf (Elt F) (xLoc d))
  (cb : (d : Dev nD) → Buf (Elt F) (bLoc d)) (co : (d : Dev nD) → Buf (Elt F) (oLoc d))

abbrev iRowPts (d : Dev nD) (t : Fin 32) : sProp 𝕄 := iLoc d ↦[iRowSet t]{fullShare} ci d
abbrev xShPts (d : Dev nD) (t : Fin 32) : sProp 𝕄 := xLoc d ↦{shr t} cx d
abbrev bShPts (d : Dev nD) (t : Fin 32) : sProp 𝕄 := bLoc d ↦{shr t} cb d
abbrev oRowPts (d : Dev nD) (t : Fin 32) (f : Buf (Elt F) (oLoc d)) : sProp 𝕄 := oLoc d ↦[oRowSet t]{fullShare} f
/-- The result array's contents after the call. -/
abbrev outC (d : Dev nD) : Buf (Elt F) (oLoc d) := outVal (ci d) (cx d) (cb d)

/-- What the proof asks of the list: every word names a row of the table. -/
def InRange : Prop := ∀ (d : Dev nD) (j : S4096.Idx), (ci d j : BitVec 32).toNat < 32768

omit [FloatOps F] in
theorem pts_iRowK (f : Buf (Elt F) (iLoc d)) :
    ((iRowK L).view.loc (vT d L) ↦[(iRowK L).view.set]{fullShare} f : sProp 𝕄) = iLoc d ↦[iRowSet (tT L)]{fullShare} f := by
  rw [set_iRowK]
omit [FloatOps F] in
theorem pts_oRowK (f : Buf (Elt F) (oLoc d)) :
    ((oRowK L).view.loc (vT d L) ↦[(oRowK L).view.set]{fullShare} f : sProp 𝕄) = oLoc d ↦[oRowSet (tT L)]{fullShare} f := by
  rw [set_oRowK]
omit [FloatOps F] in
theorem pts_xV (q : PosShare TreeShare) (f : Buf (Elt F) (xLoc d)) : ((xV).view.loc (vT d L) ↦{q} f : sProp 𝕄) = xLoc d ↦{q} f := rfl
omit [FloatOps F] in
theorem pts_bV (q : PosShare TreeShare) (f : Buf (Elt F) (bLoc d)) : ((bV).view.loc (vT d L) ↦{q} f : sProp 𝕄) = bLoc d ↦{q} f := rfl
omit [FloatOps F] in
theorem pts_sV (f : Buf (Elt F) ((vT d L).loc cc1_scratch0)) : ((sV).view.loc (vT d L) ↦{fullShare} f : sProp 𝕄) = (vT d L).loc cc1_scratch0 ↦{fullShare} f := rfl
omit [FloatOps F] in
theorem pts_rV (f : Buf (Elt F) ((vT d L).loc cc1_scratch1)) : ((rV).view.loc (vT d L) ↦{fullShare} f : sProp 𝕄) = (vT d L).loc cc1_scratch1 ↦{fullShare} f := rfl
omit [FloatOps F] in
theorem pts_cV (f : Buf (Elt F) ((vT d L).loc cc1_scratch2)) : ((cV).view.loc (vT d L) ↦{fullShare} f : sProp 𝕄) = (vT d L).loc cc1_scratch2 ↦{fullShare} f := rfl
omit [FloatOps F] in
theorem pts_aV (f : Buf (Elt F) ((vT d L).loc cc1_scratch3)) : ((aV).view.loc (vT d L) ↦{fullShare} f : sProp 𝕄) = (vT d L).loc cc1_scratch3 ↦{fullShare} f := rfl

omit [FloatOps F] in
theorem cast_row (h : S16.ShapeCasts S1x16) (j : Fin 16) : Shape.reshapeEquiv h (ix2 (0 : Fin 1) j : S1x16.Idx) = (ix1 j : S16.Idx) := by
  revert h j; decide +kernel
omit [FloatOps F] in
theorem cast_flat (h : S1x16.ShapeCasts S16) (j : Fin 16) : Shape.reshapeEquiv h (ix1 j : S16.Idx) = (ix2 (0 : Fin 1) j : S1x16.Idx) := by
  revert h j; decide +kernel
omit [FloatOps F] in
theorem cast_same (h : S16.ShapeCasts S16) (j : Fin 16) : Shape.reshapeEquiv h (ix1 j : S16.Idx) = (ix1 j : S16.Idx) := by
  revert h j; decide +kernel

omit [FloatOps F] in
/-- A row's sixteen columns read out of the gathered rows. -/
theorem read_row (rv : S128x128.Idx → F .f32) {off : Fin 2 → ℕ} (inb : ∀ a, off a + S1x16.size a ≤ S128x128.size a) (a b : ℕ) (h : off = ![a, b])
    (ha : a < 128) (j : Fin 16) (hb : b + j.val < 128) :
    View.readAt (Elt F) (rV).view (Rect.unit (s := S128x128) off S1x16.size inb).toLoadRect rv (ix2 (0 : Fin 1) j : S1x16.Idx)
      = rv (ix2 ⟨a, ha⟩ ⟨b + j.val, hb⟩) := by
  subst h
  refine congrArg rv (funext fun x => Fin.ext ?_)
  match x with
  | ⟨0, _⟩ => show a + 1 * 0 = a; omega
  | ⟨1, _⟩ => show b + 1 * j.val = b + j.val; omega

omit [FloatOps F] in
theorem read_bias (bv : S96.Idx → F .f32) (b : ℕ) (inb : ∀ a, (![b] : Fin 1 → ℕ) a + S16.size a ≤ S96.size a) (j : Fin 16) (hb : b + j.val < 96) :
    View.readAt (Elt F) (cV).view (Rect.unit (s := S96) ![b] S16.size inb).toLoadRect bv (ix1 j : S16.Idx) = bv (ix1 ⟨b + j.val, hb⟩) := by
  refine congrArg bv (funext fun x => Fin.ext ?_)
  match x with
  | ⟨0, _⟩ => show b + 1 * j.val = b + j.val; omega

/-- The sixteen results a store writes, at the place it writes them. -/
theorem acc_at (rv : S128x128.Idx → F .f32) (bv : S96.Idx → F .f32) {off : Fin 2 → ℕ} {inb : ∀ a, off a + S1x16.size a ≤ S32x96.size a} (k c : ℕ)
    (h : off = ![k, c]) (j : Fin 16) (hk : 4 * k + 3 < 128) (hc : c + j.val < 96) {w : F .f32}
    (hw : w = meanOf (rv (ix2 ⟨4 * k, by omega⟩ ⟨c + j.val, by omega⟩)) (rv (ix2 ⟨4 * k + 1, by omega⟩ ⟨c + j.val, by omega⟩))
          (rv (ix2 ⟨4 * k + 2, by omega⟩ ⟨c + j.val, by omega⟩)) (rv (ix2 ⟨4 * k + 3, by omega⟩ ⟨c + j.val, by omega⟩)) (bv (ix1 ⟨c + j.val, hc⟩))) :
    w = accVal rv bv ((Rect.unit (s := S32x96) off S1x16.size inb).emb (ix2 (0 : Fin 1) j : S1x16.Idx)) := by
  subst h
  rw [hw]
  have e0 : (((Rect.unit (s := S32x96) ![k, c] S1x16.size inb).emb (ix2 (0 : Fin 1) j : S1x16.Idx)) 0).val = k := by
    show k + 1 * 0 = k; omega
  have e1 : (((Rect.unit (s := S32x96) ![k, c] S1x16.size inb).emb (ix2 (0 : Fin 1) j : S1x16.Idx)) 1).val = c + j.val := by
    show c + 1 * j.val = c + j.val; omega
  unfold accVal
  simp only [e0, e1]
  rfl

/-- A store's sixteen results from the reads before it. -/
theorem pay_at (v0 v1 v2 v3 : Vec F S1x16 .f32) (b : Vec F S16 .f32) (j : Fin 16) :
    k1_pay2 v0 v1 v2 v3 b (ix2 (0 : Fin 1) j : S1x16.Idx)
      = meanOf (v0 (ix2 (0 : Fin 1) j : S1x16.Idx)) (v1 (ix2 (0 : Fin 1) j : S1x16.Idx)) (v2 (ix2 (0 : Fin 1) j : S1x16.Idx))
          (v3 (ix2 (0 : Fin 1) j : S1x16.Idx)) (b (ix1 j : S16.Idx)) := by
  have e : k1_pay2 v0 v1 v2 v3 b = shapeCast S1x16 (fun i : S16.Idx => meanOf (shapeCast S16 v0 shapeCasts_S1x16_S16 i) (shapeCast S16 v1 shapeCasts_S1x16_S16 i)
      (shapeCast S16 v2 shapeCasts_S1x16_S16 i) (shapeCast S16 v3 shapeCasts_S1x16_S16 i) (shapeCast S16 b shapeCasts_S16_S16 i)) shapeCasts_S16_S1x16 := rfl
  rw [e]
  simp only [shapeCast, cast_row, cast_flat, cast_same]

omit [FloatOps F] in
theorem mem_at (k c : ℕ) {off : Fin 2 → ℕ} {inb : ∀ a, off a + S1x16.size a ≤ S32x96.size a} (h : off = ![k, c]) (y : S32x96.Idx)
    (h0 : (y 0).val = k) (h1 : c ≤ (y 1).val) (h2 : (y 1).val < c + 16) : y ∈ (Rect.unit (s := S32x96) off S1x16.size inb).set := by
  subst h
  refine Rect.mem_set_unit.mpr fun a => ?_
  match a with
  | ⟨0, _⟩ => exact ⟨le_of_eq h0.symm, (by have : (y 0).val < k + 1 := by omega
                                           exact this)⟩
  | ⟨1, _⟩ => exact ⟨h1, h2⟩

omit [FloatOps F] in
theorem row_of_mem (k c : ℕ) {off : Fin 2 → ℕ} (inb : ∀ a, off a + S1x16.size a ≤ S32x96.size a) (h : off = ![k, c]) (y : S32x96.Idx)
    (hm : y ∈ (Rect.unit (s := S32x96) off S1x16.size inb).set) : (y 0).val = k := by
  subst h
  have h0 : k ≤ (y 0).val ∧ (y 0).val < k + 1 := (Rect.mem_set_unit.mp hm) 0
  omega

theorem k1_trips : k1_t1_loop.trips = 32 := by decide

set_option maxHeartbeats 4000000 in
/-- One trip of the counted loop: six stores fill row `k` of the results. -/
theorem trip (k : Fin k1_t1_loop.trips) (rv : S128x128.Idx → F .f32) (bv : S96.Idx → F .f32) (f : S32x96.Idx → F .f32)
    (hf : ∀ y : S32x96.Idx, (y 0).val < k.val → f y = accVal rv bv y) :
    iprop(((rV).view.loc (vT d L) ↦{fullShare} (rv : Buf (Elt F) ((vT d L).loc cc1_scratch1)))
        ∗ ((cV).view.loc (vT d L) ↦{fullShare} (bv : Buf (Elt F) ((vT d L).loc cc1_scratch2)))
        ∗ ((aV).view.loc (vT d L) ↦{fullShare} (f : Buf (Elt F) ((vT d L).loc cc1_scratch3)) : sProp 𝕄))
      ⊢ wp frame (wpE (defs₀ (F := F)) 𝒱₀ (vT d L) none) Set.univ
          (k1_t1_body L iV (Memref.isWhole_whole _) xV (Memref.isWhole_whole _) bV (Memref.isWhole_whole _) oV (Memref.isWhole_whole _)
            sV (Memref.isWhole_whole _) rV (Memref.isWhole_whole _) cV (Memref.isWhole_whole _) aV (Memref.isWhole_whole _)
            cc1_scratch4 cc1_scoped0 cc1_scoped1 cc1_scoped2 k ⟨⟩)
          fun _ => iprop(((rV).view.loc (vT d L) ↦{fullShare} (rv : Buf (Elt F) ((vT d L).loc cc1_scratch1)))
            ∗ ((cV).view.loc (vT d L) ↦{fullShare} (bv : Buf (Elt F) ((vT d L).loc cc1_scratch2)))
            ∗ ∃ f' : Buf (Elt F) ((vT d L).loc cc1_scratch3), ⌜∀ y : S32x96.Idx, (y 0).val < k.val + 1 → f' y = accVal rv bv y⌝
                ∗ (aV).view.loc (vT d L) ↦{fullShare} f') := by
  unfold k1_t1_body
  iintro ⟨Hr, Hc, Ha⟩
  sl_exec
  sl_step
  isplitl [Hr]; · iexact Hr
  isplitl [Hc]; · iexact Hc
  iexists _; isplitr
  swap; · iexact Ha
  ipureintro
  have hk : k.val < 32 := lt_of_lt_of_eq k.isLt k1_trips
  have hx : ∀ x : S1x16.Idx, ∃ j : Fin 16, x = ix2 (0 : Fin 1) j := fun x => ⟨x 1, by
    rw [eq_ix2 x]; congr 1; exact Subsingleton.elim (α := Fin 1) _ _⟩
  intro y hy
  have hy1 : (y 1).val < 96 := (y 1).isLt
  have ew : ∀ L, (aV).view.writes (Elt F) f L = (aV).view.read (Elt F) ((aV).view.writes (Elt F) f L) := fun L => (View.read_whole (Val := Elt F) cc1_scratch3 _).symm
  by_cases hyk : (y 0).val = k.val
  · refine (congrFun (ew _) y).trans ?_
    refine (View.read_writes_apply_of_pieces (Val := Elt F) (s := S32x96) (e := .f32) (aV).view f (accVal rv bv) _ ?_ y ?_)
    · refine List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩
      all_goals
        intro x
        obtain ⟨j, rfl⟩ := hx x
        have hj : j.val < 16 := j.isLt
      · refine acc_at rv bv (inb := k1_off19_inb k) k.val 80 (k1_off19_eq k) j (by omega) (by omega) ?_
        have e0 := read_row rv (k1_off17_inb k) _ _ (k1_off17_eq k) (by omega) j (by omega)
        have e1 := read_row rv (k1_off18_inb k 0) _ _ (k1_off18_eq k 0) (by show _ + 0 + 1 < _; omega) j (by omega)
        have e2 := read_row rv (k1_off18_inb k 1) _ _ (k1_off18_eq k 1) (by show _ + 1 + 1 < _; omega) j (by omega)
        have e3 := read_row rv (k1_off18_inb k 2) _ _ (k1_off18_eq k 2) (by show _ + 2 + 1 < _; omega) j (by omega)
        have e4 := read_bias bv 80 inb_S96_S16_80 j (by omega)
        rw [← e4]
        refine Eq.trans ?_ (congr (congr (congr (congr (congrArg meanOf e0) e1) e2) e3) rfl)
        refine Eq.trans ?_ (pay_at (F := F) _ _ _ _ _ j)
        rfl
      · refine acc_at rv bv (inb := k1_off16_inb k) k.val 64 (k1_off16_eq k) j (by omega) (by omega) ?_
        have e0 := read_row rv (k1_off14_inb k) _ _ (k1_off14_eq k) (by omega) j (by omega)
        have e1 := read_row rv (k1_off15_inb k 0) _ _ (k1_off15_eq k 0) (by show _ + 0 + 1 < _; omega) j (by omega)
        have e2 := read_row rv (k1_off15_inb k 1) _ _ (k1_off15_eq k 1) (by show _ + 1 + 1 < _; omega) j (by omega)
        have e3 := read_row rv (k1_off15_inb k 2) _ _ (k1_off15_eq k 2) (by show _ + 2 + 1 < _; omega) j (by omega)
        have e4 := read_bias bv 64 inb_S96_S16_64 j (by omega)
        rw [← e4]
        refine Eq.trans ?_ (congr (congr (congr (congr (congrArg meanOf e0) e1) e2) e3) rfl)
        refine Eq.trans ?_ (pay_at (F := F) _ _ _ _ _ j)
        rfl
      · refine acc_at rv bv (inb := k1_off13_inb k) k.val 48 (k1_off13_eq k) j (by omega) (by omega) ?_
        have e0 := read_row rv (k1_off11_inb k) _ _ (k1_off11_eq k) (by omega) j (by omega)
        have e1 := read_row rv (k1_off12_inb k 0) _ _ (k1_off12_eq k 0) (by show _ + 0 + 1 < _; omega) j (by omega)
        have e2 := read_row rv (k1_off12_inb k 1) _ _ (k1_off12_eq k 1) (by show _ + 1 + 1 < _; omega) j (by omega)
        have e3 := read_row rv (k1_off12_inb k 2) _ _ (k1_off12_eq k 2) (by show _ + 2 + 1 < _; omega) j (by omega)
        have e4 := read_bias bv 48 inb_S96_S16_48 j (by omega)
        rw [← e4]
        refine Eq.trans ?_ (congr (congr (congr (congr (congrArg meanOf e0) e1) e2) e3) rfl)
        refine Eq.trans ?_ (pay_at (F := F) _ _ _ _ _ j)
        rfl
      · refine acc_at rv bv (inb := k1_off10_inb k) k.val 32 (k1_off10_eq k) j (by omega) (by omega) ?_
        have e0 := read_row rv (k1_off8_inb k) _ _ (k1_off8_eq k) (by omega) j (by omega)
        have e1 := read_row rv (k1_off9_inb k 0) _ _ (k1_off9_eq k 0) (by show _ + 0 + 1 < _; omega) j (by omega)
        have e2 := read_row rv (k1_off9_inb k 1) _ _ (k1_off9_eq k 1) (by show _ + 1 + 1 < _; omega) j (by omega)
        have e3 := read_row rv (k1_off9_inb k 2) _ _ (k1_off9_eq k 2) (by show _ + 2 + 1 < _; omega) j (by omega)
        have e4 := read_bias bv 32 inb_S96_S16_32 j (by omega)
        rw [← e4]
        refine Eq.trans ?_ (congr (congr (congr (congr (congrArg meanOf e0) e1) e2) e3) rfl)
        refine Eq.trans ?_ (pay_at (F := F) _ _ _ _ _ j)
        rfl
      · refine acc_at rv bv (inb := k1_off7_inb k) k.val 16 (k1_off7_eq k) j (by omega) (by omega) ?_
        have e0 := read_row rv (k1_off5_inb k) _ _ (k1_off5_eq k) (by omega) j (by omega)
        have e1 := read_row rv (k1_off6_inb k 0) _ _ (k1_off6_eq k 0) (by show _ + 0 + 1 < _; omega) j (by omega)
        have e2 := read_row rv (k1_off6_inb k 1) _ _ (k1_off6_eq k 1) (by show _ + 1 + 1 < _; omega) j (by omega)
        have e3 := read_row rv (k1_off6_inb k 2) _ _ (k1_off6_eq k 2) (by show _ + 2 + 1 < _; omega) j (by omega)
        have e4 := read_bias bv 16 inb_S96_S16_16 j (by omega)
        rw [← e4]
        refine Eq.trans ?_ (congr (congr (congr (congr (congrArg meanOf e0) e1) e2) e3) rfl)
        refine Eq.trans ?_ (pay_at (F := F) _ _ _ _ _ j)
        rfl
      · refine acc_at rv bv (inb := k1_off4_inb k) k.val 0 (k1_off4_eq k) j (by omega) (by omega) ?_
        have e0 := read_row rv (k1_off2_inb k) _ _ (k1_off2_eq k) (by omega) j (by omega)
        have e1 := read_row rv (k1_off3_inb k 0) _ _ (k1_off3_eq k 0) (by show _ + 0 + 1 < _; omega) j (by omega)
        have e2 := read_row rv (k1_off3_inb k 1) _ _ (k1_off3_eq k 1) (by show _ + 1 + 1 < _; omega) j (by omega)
        have e3 := read_row rv (k1_off3_inb k 2) _ _ (k1_off3_eq k 2) (by show _ + 2 + 1 < _; omega) j (by omega)
        have e4 := read_bias bv 0 inb_S96_S16_0 j (by omega)
        rw [← e4]
        refine Eq.trans ?_ (congr (congr (congr (congr (congrArg meanOf e0) e1) e2) e3) rfl)
        refine Eq.trans ?_ (pay_at (F := F) _ _ _ _ _ j)
        rfl
    · have hc : (y 1).val / 16 < 6 := by omega
      rcases (by omega : (y 1).val / 16 = 5 ∨ (y 1).val / 16 = 4 ∨ (y 1).val / 16 = 3 ∨ (y 1).val / 16 = 2 ∨ (y 1).val / 16 = 1 ∨ (y 1).val / 16 = 0)
        with h | h | h | h | h | h
      · exact ⟨_, List.mem_cons_self, mem_at (inb := k1_off19_inb k) k.val 80 (k1_off19_eq k) y hyk (by omega) (by omega)⟩
      · exact ⟨_, List.mem_cons_of_mem _ (List.mem_cons_self), mem_at (inb := k1_off16_inb k) k.val 64 (k1_off16_eq k) y hyk (by omega) (by omega)⟩
      · exact ⟨_, List.mem_cons_of_mem _ (List.mem_cons_of_mem _ (List.mem_cons_self)), mem_at (inb := k1_off13_inb k) k.val 48 (k1_off13_eq k) y hyk (by omega) (by omega)⟩
      · exact ⟨_, List.mem_cons_of_mem _ (List.mem_cons_of_mem _ (List.mem_cons_of_mem _ (List.mem_cons_self))), mem_at (inb := k1_off10_inb k) k.val 32 (k1_off10_eq k) y hyk (by omega) (by omega)⟩
      · exact ⟨_, List.mem_cons_of_mem _ (List.mem_cons_of_mem _ (List.mem_cons_of_mem _ (List.mem_cons_of_mem _ (List.mem_cons_self)))), mem_at (inb := k1_off7_inb k) k.val 16 (k1_off7_eq k) y hyk (by omega) (by omega)⟩
      · exact ⟨_, List.mem_cons_of_mem _ (List.mem_cons_of_mem _ (List.mem_cons_of_mem _ (List.mem_cons_of_mem _ (List.mem_cons_of_mem _ (List.mem_cons_self))))), mem_at (inb := k1_off4_inb k) k.val 0 (k1_off4_eq k) y hyk (by omega) (by omega)⟩
  · rw [← hf y (by omega)]
    refine (congrFun (ew _) y).trans ?_
    refine (View.read_writes_apply_of_forall_not_mem (Val := Elt F) (s := S32x96) (e := .f32) (aV).view f y _ ?_)
    refine List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩
    · exact fun hm => hyk (row_of_mem k.val 80 (k1_off19_inb k) (k1_off19_eq k) y hm)
    · exact fun hm => hyk (row_of_mem k.val 64 (k1_off16_inb k) (k1_off16_eq k) y hm)
    · exact fun hm => hyk (row_of_mem k.val 48 (k1_off13_inb k) (k1_off13_eq k) y hm)
    · exact fun hm => hyk (row_of_mem k.val 32 (k1_off10_inb k) (k1_off10_eq k) y hm)
    · exact fun hm => hyk (row_of_mem k.val 16 (k1_off7_inb k) (k1_off7_eq k) y hm)
    · exact fun hm => hyk (row_of_mem k.val 0 (k1_off4_inb k) (k1_off4_eq k) y hm)

omit [FloatOps F] in
/-- The offsets the indirect copy reads are in range: what the fetch landed is the task's part of the list. -/
theorem inb_of_pre (hpre : InRange ci) (fs : Buf (Elt F) ((vT d L).loc cc1_scratch0)) (pay : S128.Idx → Elt F .i32)
    (hpay : pay = (iRowK L).view.read (Elt F) (ci d)) :
    ∀ x, ((sV).view.read (Elt F) (View.write (Elt F) (sV).view fs pay Finset.univ) x).toNat < S32768x128.size gathers_S32768x128_S128x128.axis := by
  subst hpay; intro x
  rw [View.write_whole_univ]
  simp only [Memref.view_whole, View.read_whole]
  rw [show ∀ j, (iRowK L).view.read (Elt F) (ci d) j = ci d ((iRowK L).view.emb j) from fun j => (View.read_apply _ _).trans (cast_eq _ _)]
  exact hpre d _

end Tile

end Cert.Proof.WholeTile

end
-- ==== Proof.WholeBody.lean ====
/-
  Inside the whole kernel, one task of the gather-and-average SparseCore call, run: what the task is handed, and what it leaves with the values.
-/
module

public import proofs.«01_k».proof.Proof.WholeTile

@[expose] public section

noncomputable section

namespace Cert.Proof.WholeTile

open Cert.KernelIdeal Cert.KernelIdeal.Gen Cert.Proof.WholeBase

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 1) (Elt F) ℕ UU ℕ

section Tile
variable (d : Dev nD) (L : grid1.Coords)
variable (ci : (d : Dev nD) → Buf (Elt F) (iLoc d)) (cx : (d : Dev nD) → Buf (Elt F) (xLoc d))
  (cb : (d : Dev nD) → Buf (Elt F) (bLoc d)) (co : (d : Dev nD) → Buf (Elt F) (oLoc d))

/-- The 128 rows task `t` gathers. -/
def gath (ci : S4096.Idx → BitVec 32) (cx : S32768x128.Idx → F .f32) (t : Fin 32) : S128x128.Idx → F .f32 :=
  fun y =>
    have h0 : (y 0).val < 128 := (y 0).isLt
    cx (ix2 (rowOf ci ⟨128 * t.val + (y 0).val, by omega⟩) (y 1))

omit [FloatOps F] in
theorem gathered (hpre : InRange ci) (fs : Buf (Elt F) ((vT d L).loc cc1_scratch0)) (hn : S128.numel = S128x128.size gathers_S32768x128_S128x128.axis')
    (h : ∀ x, ((sV).view.read (Elt F) (View.write (Elt F) (sV).view fs ((iRowK L).view.read (Elt F) (ci d)) Finset.univ) x).toNat
      < S32768x128.size gathers_S32768x128_S128x128.axis) :
    SparseCore.gatherPayload (F := F) (e := .f32) gathers_S32768x128_S128x128 ((xAllK).view.read (Elt F) (cx d))
        (SparseCore.rows ((sV).view.read (Elt F) (View.write (Elt F) (sV).view fs ((iRowK L).view.read (Elt F) (ci d)) Finset.univ)) hn h)
      = gath (ci d) (cx d) (tT L) := by
  funext y
  have h0 : (y 0).val < 128 := (y 0).isLt
  refine congrArg (cx d) (funext fun a => Fin.ext ?_)
  match a with
  | ⟨0, _⟩ =>
    show 0 + 1 * (((sV).view.read (Elt F) (View.write (Elt F) (sV).view fs ((iRowK L).view.read (Elt F) (ci d)) Finset.univ)
      (S128.rowMajor.symm ((y 0).cast hn.symm))).toNat) = _
    rw [View.write_whole_univ]
    show 0 + 1 * (ci d ((iRowK L).view.emb (S128.rowMajor.symm ((y 0).cast hn.symm)))).toNat = (ci d (ix1 _)).toNat % 32768
    have e : (iRowK L).view.emb (S128.rowMajor.symm ((y 0).cast hn.symm)) = (ix1 ⟨128 * (tT L).val + (y 0).val, by omega⟩ : S4096.Idx) := by
      have e1 := Shape.rowMajor_val_one (d := ![128]) (S128.rowMajor.symm ((y 0).cast hn.symm))
      funext a
      match a with
      | ⟨0, _⟩ =>
        refine Fin.ext ?_
        show k1_off1 L 0 + 1 * ((S128.rowMajor.symm ((y 0).cast hn.symm)) 0).val = 128 * (2 * (L 1).val + (L 0).val) + (y 0).val
        rw [k1_off1_eq, ← e1]
        show _ + 1 * (S128.rowMajor (S128.rowMajor.symm ((y 0).cast hn.symm))).val = _
        rw [Equiv.apply_symm_apply]
        show 256 * (L 1).val + 128 * (L 0).val + 1 * (y 0).val = _
        omega
    rw [e, Nat.mod_eq_of_lt (hpre d _)]; omega
  | ⟨1, _⟩ => show 0 + 1 * (y 1).val = (y 1).val; omega

/-- The averages of the gathered rows are the result's rows. -/
theorem acc_gath (y : S32x96.Idx) :
    accVal (gath (ci d) (cx d) (tT L)) (cb d) y = outC ci cx cb d ((oRowK L).view.emb y) := by
  have h0 : (y 0).val < 32 := (y 0).isLt
  have e0 : (((oRowK L).view.emb y : S1024x96.Idx) 0).val = 32 * (tT L).val + (y 0).val := by
    show k1_off20 L 0 + 1 * (y 0).val = 32 * (2 * (L 1).val + (L 0).val) + (y 0).val
    rw [k1_off20_eq]
    show 64 * (L 1).val + 32 * (L 0).val + 1 * (y 0).val = _
    omega
  have e1 : (((oRowK L).view.emb y : S1024x96.Idx) 1).val = (y 1).val := by
    show k1_off20 L 1 + 1 * (y 1).val = (y 1).val
    rw [k1_off20_eq]
    show 0 + 1 * (y 1).val = _
    omega
  unfold accVal outC outVal gath
  have er : ∀ k : Fin 4, 128 * (tT L).val + (4 * (y 0).val + k.val) = 4 * (((oRowK L).view.emb y : S1024x96.Idx) 0).val + k.val := by
    intro k; rw [e0]; omega
  dsimp only
  simp only [e1, ← er]

/-- The counted loop's invariant: the first `k` rows of the task's results are in place. -/
def inv (k : ℕ) (_ : PUnit) : sProp 𝕄 :=
  iprop(((rV).view.loc (vT d L) ↦{fullShare} (gath (ci d) (cx d) (tT L) : Buf (Elt F) ((vT d L).loc cc1_scratch1)))
    ∗ ((cV).view.loc (vT d L) ↦{fullShare} (cb d : Buf (Elt F) ((vT d L).loc cc1_scratch2)))
    ∗ ∃ f : Buf (Elt F) ((vT d L).loc cc1_scratch3),
        ⌜∀ y : S32x96.Idx, (y 0).val < k → f y = accVal (gath (ci d) (cx d) (tT L)) (cb d) y⌝ ∗ (aV).view.loc (vT d L) ↦{fullShare} f)

/-- What the copy out leaves in the task's part of the result. -/
theorem out_rows (f : S32x96.Idx → F .f32) (hf : ∀ y : S32x96.Idx, f y = accVal (gath (ci d) (cx d) (tT L)) (cb d) y) (i : S1024x96.Idx)
    (hi : i ∈ (oRowK L).view.set) :
    (oRowK L).view.writes (Elt F) (co d) [⟨Rect.whole S32x96, f⟩] i = outC ci cx cb d i := by
  obtain ⟨x, -, rfl⟩ := Finset.mem_map.mp hi
  have h := View.read_writes_cons_emb (v := (oRowK L).view) (f := co d) (Rect.whole S32x96) f [] x
  rw [show (Rect.whole S32x96).emb x = x from Rect.emb_whole_apply S32x96 x] at h
  exact (h.trans (hf x)).trans (acc_gath d L ci cx cb x)

set_option maxHeartbeats 4000000 in
theorem tile_body (hF : (K (F := F)).Facts) (hpre : InRange ci) (O : CellTallies nD τ sig (HIx 1)) (W : Waits sig (HIx 1)) (hO : ∀ g, O g none = 0) :
    iprop(levAts (K (F := F)).L (K (F := F)).lev ∗ emp
        ∗ (iRowPts ci d (tT L) ∗ xShPts cx d (tT L) ∗ bShPts cb d (tT L) ∗ oRowPts d (tT L) (co d))
        ∗ scopedBufs (vT d L) ∗ scopedSems0 (vT d L) ∗ owes (vT d L) O W)
      ⊢ wp frame (wpE (defs₀ (F := F)) 𝒱₀ (vT d L) none) Set.univ
          (cc1_gather_mean L iV (Memref.isWhole_whole _) xV (Memref.isWhole_whole _) bV (Memref.isWhole_whole _) oV (Memref.isWhole_whole _)
            sV (Memref.isWhole_whole _) rV (Memref.isWhole_whole _) cV (Memref.isWhole_whole _) aV (Memref.isWhole_whole _)
            cc1_scratch4 cc1_scoped0 cc1_scoped1 cc1_scoped2)
          fun _ => iprop((iRowPts ci d (tT L) ∗ xShPts cx d (tT L) ∗ bShPts cb d (tT L) ∗ oRowPts d (tT L) (outC ci cx cb d))
            ∗ scopedBufs (vT d L) ∗ scopedSems0 (vT d L)
            ∗ ∃ W', ⌜∀ p ∈ W', p ∈ W ∨ p.2 = none⌝ ∗ owes (vT d L) O W') := by
  simp only [cc1_gather_mean_eq_skeleton]; unfold cc1_gather_mean_skel
  rw [(K (F := F)).scopedBufs_V hF d (cT L) (jT L), SparseCore.Cfg.scopedSems0_V (Val := Elt F) d (cT L) (jT L), ownSems0_V, ownBufs_V]
  iintro ⟨#Hlv, -, ⟨Hi, Hx, Hbi, Ho⟩, ⟨⟨%fs, Hs⟩, ⟨%fr, Hr⟩, ⟨%fc, Hc⟩, ⟨%fa, Ha⟩, Hbufs⟩, ⟨HsemA, HsemB, HsemC, HsemD, Hsems⟩, HO⟩
  ihave Hmw := (show levAts (K (F := F)).L (K (F := F)).lev ⊢ Transfers.MayWaits (vT d L) (default : HIx 1) O from
    (K (F := F)).mayWaits_none (thr := vT d L) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hbi' := (Entails.of_eq (pts_bV (F := F) d L _ _).symm) $$ Hbi
  ihave Hs' := (Entails.of_eq (pts_sV (F := F) d L _).symm) $$ Hs
  ihave Hr' := (Entails.of_eq (pts_rV (F := F) d L _).symm) $$ Hr
  ihave Hc' := (Entails.of_eq (pts_cV (F := F) d L _).symm) $$ Hc
  ihave Ha' := (Entails.of_eq (pts_aV (F := F) d L _).symm) $$ Ha
  sl_exec
  -- the indirect copy, its list's words in range by the precondition
  ihave Hxs := (pointsTo_split_subset (q := shr (tT L)) (f := cx d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (vT d L) ↦{fullShare} fr : sProp 𝕄)
      = (rV).view.loc (vT d L) ↦[(rV).view.set]{fullShare} fr by rw [hrs])) $$ Hr'
  ihave Hs'' := (Entails.of_eq (show ((sV).view.loc (vT d L) ↦{fullShare} View.write (Elt F) (sV).view fs (tile_body.sl.dma0_1 d L ci) Finset.univ : sProp 𝕄)
      = (sV).view.loc (vT d L) ↦[(sV).view.set]{fullShare} View.write (Elt F) (sV).view fs (tile_body.sl.dma0_1 d L ci) Finset.univ
      by rw [hss])) $$ Hs'
  have hN : ∀ h : S32768x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (vT d L) none (hg := gathers_S32768x128_S128x128) (default : HIx 1)
      (rV).view.dmaCredit (hN _) (by decide) (inb_of_pre d L ci hpre fs _ rfl)) $$ [Hxs Hr'' Hs'' HsemC]
  · isplitl [Hxs]; · iexact Hxs
    isplitl [Hr'']; · iexact Hr''
    isplitl [Hs'']; · iexact Hs''
    iexact HsemC
  iintro Hfl
  sl_exec
  iapply (Transfers.wp_waitLocalO countersEmb 𝒱₀ (vT d L) none (default : HIx 1) (rfl : (rV).view.dmaCredit = _)) $$ [Hfl HO]
  · isplitl [Hfl]; · iexact Hfl
    isplitl [HO]; · iexact HO
    iapply (Transfers.MayWaits.elim (SemLoc.dma cc1_scratch4.sem)) $$ Hmw
  iintro ⟨⟨Hr', Hxs, Hs'⟩, HsemC, HO⟩
  ihave Hx' := (pointsTo_split_subset (q := shr (tT L)) (f := cx d) (S := Finset.univ) (Finset.subset_univ (xAllK).view.set)).2 $$ [Hxs Hxr]; · isplitl [Hxs] <;> iassumption
  ihave Hr3 := (Entails.of_eq (show ((rV).view.loc (vT d L) ↦[(rV).view.set]{fullShare} _ : sProp 𝕄)
      = (rV).view.loc (vT d L) ↦{fullShare} _ by rw [hrs])) $$ Hr'
  ihave Hs3 := (Entails.of_eq (show ((sV).view.loc (vT d L) ↦[(sV).view.set]{fullShare} _ : sProp 𝕄)
      = (sV).view.loc (vT d L) ↦{fullShare} _ by rw [hss])) $$ Hs'
  have hn : S128.numel = S128x128.size gathers_S32768x128_S128x128.axis' := by decide
  ihave Hr4 := (Entails.of_eq (show ((rV).view.loc (vT d L) ↦{fullShare} View.write (Elt F) (rV).view fr _ Finset.univ : sProp 𝕄)
      = (rV).view.loc (vT d L) ↦{fullShare} (gath (ci d) (cx d) (tT L) : Buf (Elt F) ((vT d L).loc cc1_scratch1))
      from congrArg (fun f : Buf (Elt F) ((vT d L).loc cc1_scratch1) => ((vT d L).loc cc1_scratch1 ↦{fullShare} f : sProp 𝕄))
        ((View.write_whole_univ (Val := Elt F) cc1_scratch1 _ _).trans (gathered d L ci cx hpre fs hn (inb_of_pre d L ci hpre fs _ rfl))))) $$ Hr3
  ihave Hc4 := (Entails.of_eq (show ((cV).view.loc (vT d L) ↦{fullShare} View.write (Elt F) (cV).view fc (tile_body.sl.dma0 d cb) Finset.univ : sProp 𝕄)
      = (cV).view.loc (vT d L) ↦{fullShare} (cb d : Buf (Elt F) ((vT d L).loc cc1_scratch2))
      from congrArg (fun f : Buf (Elt F) ((vT d L).loc cc1_scratch2) => ((vT d L).loc cc1_scratch2 ↦{fullShare} f : sProp 𝕄))
        ((View.write_whole_univ (Val := Elt F) cc1_scratch2 _ _).trans rfl))) $$ Hc'
  sl_exec
  sl_for (inv d L ci cx cb) $$ [Hr4 Hc4 Ha']
  case region =>
    intro k _
    unfold inv
    iintro ⟨Hr, Hc, %f, %hf, Ha⟩
    iapply (trip d L k (gath (ci d) (cx d) (tT L)) (cb d) f hf)
    isplitl [Hr]; · iexact Hr
    isplitl [Hc]; · iexact Hc
    iexact Ha
  · unfold inv
    isplitl [Hr4]; · iexact Hr4
    isplitl [Hc4]; · iexact Hc4
    iexists fa; isplitr
    · ipureintro; intro y hy; exact absurd hy (Nat.not_lt_zero _)
    · iexact Ha'
  iintro %acc
  unfold inv
  iintro ⟨Hr, Hc, %f, %hf, Ha⟩
  sl_exec
  sl_step
  have hf' : ∀ y : S32x96.Idx, f y = accVal (gath (ci d) (cx d) (tT L)) (cb d) y := fun y => hf y (lt_of_lt_of_eq (y 0).isLt k1_trips.symm)
  ihave Ho3 := (Entails.of_eq ((pointsTo_congr (f := (oRowK L).view.writes (Elt F) (co d) [⟨Rect.whole S32x96, tile_body.sl.dma0_2 d L f⟩])
    (g := outC ci cx cb d) (fun i hi => out_rows d L ci cx cb co f hf' i hi)).trans (pts_oRowK (F := F) d L _))) $$ Ho'
  isplitl [Hi' Hx' Hbi' Ho3]
  · isplitl [Hi']; · iapply (Entails.of_eq (pts_iRowK (F := F) d L _)); iexact Hi'
    isplitl [Hx']; · iexact Hx'
    isplitl [Hbi']; · iexact Hbi'
    iexact Ho3
  isplitl [Hs3 Hr Hc Ha Hbufs]
  · isplitl [Hs3]; · iexists _; iexact Hs3
    isplitl [Hr]; · iexists _; iexact Hr
    isplitl [Hc]; · iexists _; iexact Hc
    isplitl [Ha]; · iexists _; iexact Ha
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.WholeTile

end
-- ==== Proof.WholeRun.lean ====
/-
  The whole kernel's run: the projection and selection call, the SparseCore call, the host operations before, between and
  after them, and what every unscoped array holds at the end.
-/
module

public import proofs.«01_k».proof.Proof.WholeBody
public import proofs.«01_k».proof.Proof.ProjRegion
public import Idealize.ShloMosaic.Lib.Pipeline.Frame

@[expose] public section

noncomputable section

namespace Cert.Proof.WholeTile

open Cert.KernelIdeal Cert.KernelIdeal.Gen Cert.Proof.WholeBase

open Cert.Proof.ProjRegion (afterV dats adm reg owing)

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held held_sub_split wp_seq seqK seq_bind_seqK after)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 1) (Elt F) ℕ UU ℕ

/-! ## What passes at the call -/

section Call
variable (ci : (d : Dev nD) → Buf (Elt F) (iLoc d)) (cx : (d : Dev nD) → Buf (Elt F) (xLoc d))
  (cb : (d : Dev nD) → Buf (Elt F) (bLoc d)) (co : (d : Dev nD) → Buf (Elt F) (oLoc d))

theorem nCore_zero : (K (F := F)).nCore 0 = 2 := rfl
theorem nSub_zero : (K (F := F)).nSub 0 = 16 := rfl

/-- Task `t`'s part of the four arrays, the result rows at `f`. -/
abbrev part (d : Dev nD) (f : Buf (Elt F) (oLoc d)) (t : Fin 32) : sProp 𝕄 :=
  iprop(iRowPts ci d t ∗ xShPts cx d t ∗ bShPts cb d t ∗ oRowPts d t f)

/-- The sixteen parts a SparseCore takes. -/
abbrev parts (d : Dev nD) (f : Buf (Elt F) (oLoc d)) (c : Fin 2) : sProp 𝕄 :=
  bigSep Finset.univ fun s : Fin 16 => part ci cx cb d f (task c s)

/-- Each SparseCore takes its tasks' parts, each task its own, and brings it back with its result rows written. -/
def P : (K (F := F)).Pay (nD := nD) (Val := Elt F) (Name := ℕ) (U := UU) where
  st := fun q d c => match q with | 0 => parts ci cx cb d (co d) (Fin.cast nCore_zero c)
  dn := fun q d c => match q with | 0 => parts ci cx cb d (outC ci cx cb d) (Fin.cast nCore_zero c)
  go := fun q d c i => match q with | 0 => part ci cx cb d (co d) (task (Fin.cast nCore_zero c) (Fin.cast nSub_zero i))
  td := fun q d c i => match q with | 0 => part ci cx cb d (outC ci cx cb d) (task (Fin.cast nCore_zero c) (Fin.cast nSub_zero i))
  x := fun _ _ => iprop(emp)

instance P_storable : (P (F := F) ci cx cb co).IsStorable where
  st q d c := match q with
    | 0 => (inferInstance : BI.Storable (upEmb : UEmb _ 𝕄) (parts ci cx cb d (co d) (Fin.cast nCore_zero c)))
  dn q d c := match q with
    | 0 => (inferInstance : BI.Storable (upEmb : UEmb _ 𝕄) (parts ci cx cb d (outC ci cx cb d) (Fin.cast nCore_zero c)))
  go q d c i := match q with
    | 0 => (inferInstance : BI.Storable (upEmb : UEmb _ 𝕄) (part ci cx cb d (co d) (task (Fin.cast nCore_zero c) (Fin.cast nSub_zero i))))
  td q d c i := match q with
    | 0 => (inferInstance : BI.Storable (upEmb : UEmb _ 𝕄) (part ci cx cb d (outC ci cx cb d) (task (Fin.cast nCore_zero c) (Fin.cast nSub_zero i))))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_mean (coordsV c s)
          iV (Memref.isWhole_whole _) xV (Memref.isWhole_whole _) bV (Memref.isWhole_whole _) oV (Memref.isWhole_whole _)
          sV (Memref.isWhole_whole _) rV (Memref.isWhole_whole _) cV (Memref.isWhole_whole _) aV (Memref.isWhole_whole _)
          cc1_scratch4 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  iframe HA HB HC
  iexists W'
  isplitr
  · ipureintro; intro p hp; rcases h p hp with h' | h'
    · exact Or.inl h'
    · exact Or.inr (Or.inl h')
  · iexact HO

set_option maxRecDepth 16384 in
theorem tileObl (hF : (K (F := F)).Facts) (hpre : InRange ci) : (K (F := F)).TileObl (D (F := F)) 𝒱 (P ci cx cb co) v₀ 0 := by
  intro d c i O W hO _ _
  simp only [show (P ci cx cb co).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) ci cx cb co hF hpre O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P ci cx cb co) 0 := by
  intro d c
  show parts ci cx cb d (co d) (Fin.cast nCore_zero c) ⊢ |={Set.univ}=> iprop(
      (bigSep Finset.univ fun i : Fin ((K (F := F)).nSub 0) => part ci cx cb d (co d) (task (Fin.cast nCore_zero c) (Fin.cast nSub_zero i)))
      ∗ ((bigSep Finset.univ fun i : Fin ((K (F := F)).nSub 0) => part ci cx cb d (outC ci cx cb d) (task (Fin.cast nCore_zero c) (Fin.cast nSub_zero i)))
          -∗ parts ci cx cb d (outC ci cx cb d) (Fin.cast nCore_zero c)))
  rw [bigSep_tasks (fun i => part ci cx cb d (co d) (task (Fin.cast nCore_zero c) i)),
    bigSep_tasks (fun i => part ci cx cb d (outC ci cx cb d) (task (Fin.cast nCore_zero c) i))]
  iintro H; imodintro
  isplitl [H]; · iexact H
  iintro H; iexact H

/-! ## The whole arrays are the tasks' parts -/

/-- A pair of SparseCore and vector subcore, numbered as the kernel numbers its tasks. -/
theorem bigSep_pairs (Φ : Fin 32 → sProp 𝕄) :
    (bigSep Finset.univ fun c : Fin 2 => bigSep Finset.univ fun s : Fin 16 => Φ (task c s)) = bigSep Finset.univ Φ := by
  rw [← bigSep_univ_prod (fun p : Fin 2 × Fin 16 => Φ (task p.1 p.2))]
  let e : Fin 2 × Fin 16 ↪ Fin 32 := ⟨fun p => task p.1 p.2, by decide⟩
  have he : (Finset.univ : Finset (Fin 2 × Fin 16)).map e = Finset.univ := by decide
  rw [← he, Idealize.SL.BI.bigSep_map]; rfl

theorem irows_disjoint : ∀ i ∈ (Finset.univ : Finset (Fin 32)), ∀ j ∈ (Finset.univ : Finset (Fin 32)), i ≠ j → Disjoint (iRowSet i) (iRowSet j) :=
  fun _ _ _ _ h => Rect.part_disjoint idiv h
theorem orows_disjoint : ∀ i ∈ (Finset.univ : Finset (Fin 32)), ∀ j ∈ (Finset.univ : Finset (Fin 32)), i ≠ j → Disjoint (oRowSet i) (oRowSet j) :=
  fun _ _ _ _ h => Rect.part_disjoint odiv h

omit [FloatOps F] in
theorem iPts_rows (d : Dev nD) (f : Buf (Elt F) (iLoc d)) :
    (iLoc d ↦{fullShare} f : sProp 𝕄) = bigSep Finset.univ fun i : Fin 32 => iLoc d ↦[iRowSet i]{fullShare} f := by
  rw [← pointsTo_biUnion Finset.univ (ℓ := iLoc d) iRowSet irows_disjoint, show (Finset.univ : Finset (Fin 32)).biUnion iRowSet = Finset.univ from Rect.biUnion_part idiv]
omit [FloatOps F] in
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, show (Finset.univ : Finset (Fin 32)).biUnion oRowSet = Finset.univ from Rect.biUnion_part odiv]

/-- The four arrays whole, the result at `f`. -/
abbrev wholes (d : Dev nD) (f : Buf (Elt F) (oLoc d)) : sProp 𝕄 :=
  iprop((iLoc d ↦{fullShare} ci d) ∗ (xLoc d ↦{fullShare} cx d) ∗ (bLoc d ↦{fullShare} cb d) ∗ oLoc d ↦{fullShare} f)

theorem wholes_eq (d : Dev nD) (f : Buf (Elt F) (oLoc d)) :
    (bigSep Finset.univ fun c : Fin 2 => parts ci cx cb d f c) = wholes ci cx cb d f := by
  unfold parts wholes
  rw [bigSep_pairs (part ci cx cb d f), iPts_rows, oPts_rows,
    show (xLoc d ↦{fullShare} cx d : sProp 𝕄) = bigSep Finset.univ fun t : Fin 32 => xLoc d ↦{shr t} cx d from pointsTo_leaves Finset.univ (cx d) 5 fullShare,
    show (bLoc d ↦{fullShare} cb d : sProp 𝕄) = bigSep Finset.univ fun t : Fin 32 => bLoc d ↦{shr t} cb d from pointsTo_leaves Finset.univ (cb d) 5 fullShare,
    ← bigSep_sep', ← bigSep_sep', ← bigSep_sep']

theorem st0_eq (d : Dev nD) : (bigSep Finset.univ fun c : Fin ((K (F := F)).nCore 0) => (P ci cx cb co).st 0 d c) = wholes ci cx cb d (co d) :=
  (bigSep_cores (parts ci cx cb d (co d))).trans (wholes_eq ci cx cb d (co d))
theorem dn0_eq (d : Dev nD) : (bigSep Finset.univ fun c : Fin ((K (F := F)).nCore 0) => (P ci cx cb co).dn 0 d c) = wholes ci cx cb d (outC ci cx cb d) :=
  (bigSep_cores (parts ci cx cb d (outC ci cx cb d))).trans (wholes_eq ci cx cb d (outC ci cx cb d))

/-! ## The launch element of the ghost state -/

/-- The pipelined step's configuration, as its rules name it. -/
abbrev pins : Fin 1 → Pipeline.Cfg sig Λ₀ := Pipeline.pin (pcfgs (F := F)) adm
theorem pins_inj : Function.Injective (Pipeline.cellOf (nD := nD) (τ := τ) (pins (F := F))) := (launch0.toP (Val := Elt F)).cellOf_inj adm

/-- The launch element of the pipelined step. -/
abbrev uP : UR sig nD τ := initOf (Pipeline.cells (nD := nD) (τ := τ) (pins (F := F)) pins_inj) (Pipeline.launchToks (nD := nD) (τ := τ) (pins (F := F)) pins_inj)

def u₀ : UU := (initOf (K (F := F)).hsCells (K (F := F)).hsToks, (uP (F := F), 1))

omit [FloatOps F] in
theorem bigSep_nothing {I : Type} (s : Finset I) : (bigSep s fun _ => iprop(emp)) = (iprop(emp) : sProp 𝕄) := bigSep_emp_const s

/-- What the launch deals a TensorCore for its pipelined step. -/
abbrev dealt (d : Dev nD) : sProp 𝕄 := iprop(Pipeline.cellsGhost (nD := nD) (τ := τ) (pins (F := F)) EP 0 d ∗ Pipeline.toksInit (nD := nD) (τ := τ) (pins (F := F)) EP 0 d)

theorem deal : (BI.own (EP (uP (F := F))) : sProp 𝕄) ⊢ |==> bigSep Finset.univ fun d : Dev nD => dealt d := by
  refine (Pipeline.fund_ghost (pins (F := F)) EP pins_inj).trans (bupd_mono ?_)
  rw [← bigSep_sep', bigSep_congr fun (d : Dev nD) _ => show _ = dealt (F := F) d from by
    rw [bigSep_univ_of_subsingleton (0 : Fin 1), bigSep_univ_of_subsingleton (0 : Fin 1)]]
  exact fun _ h => h

theorem hu₀ : (ownU (u₀ (F := F)) : sProp 𝕄)
    ⊢ |={Set.univ}=> iprop(BI.own (EH (initOf (K (F := F)).hsCells (K (F := F)).hsToks)) ∗ (bigSep Finset.univ fun d : Dev nD => dealt d)
        ∗ bigSep Finset.univ fun thr : Thread nD τ => bigSep Finset.univ fun q : Fin 1 => (P ci cx cb co).x q thr) := by
  unfold u₀
  iintro Hu
  ihave H := (ownU_pair (initOf (K (F := F)).hsCells (K (F := F)).hsToks) _) $$ Hu
  icases H with ⟨HH, HR⟩
  ihave H := (own_pair_emb embR (uP (F := F)) (1 : Counters)) $$ HR
  icases H with ⟨HP, -⟩
  ihave HP := (deal (F := F)) $$ HP
  imod HP
  imodintro
  isplitl [HH]; · iexact HH
  isplitl [HP]; · iexact HP
  rw [show (bigSep Finset.univ fun thr : Thread nD τ => bigSep Finset.univ fun q : Fin 1 => (P (F := F) ci cx cb co).x q thr) = bigSep Finset.univ fun _ => iprop(emp) from
    bigSep_congr fun _ _ => bigSep_univ_of_subsingleton (0 : Fin 1), bigSep_nothing]
  iempintro

end Call

/-! ## @main: the contents step by step -/

/-- The host operations before the first call, between the two calls, and after the second. -/
abbrev pre : List (HloOp τ sig (Elt F)) :=
  [StableHlo.unary main_arg2 main_v0 ((transpose S768x96 [1, 0] · transposes_S96x768_S768x96_1_0) : (⟨S96x768, .f32⟩ : BufTy).Contents (Elt F) → (⟨S768x96, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_v0 : StableHlo.TRef sig ⟨S768x96, .f32⟩) main_call0.v0 main_call0.v1 (fun x v => pad S768x128 ![0, 0] ![0, 32] ![0, 0] x v pads_S768x96_S768x128_000_0320 h_S_),
   StableHlo.nullary main_v2 (iotaInDim S4096 32 0),
   StableHlo.unary main_v2 main_v3 (broadcastInDim S4096x1 ![0] bcast_S4096_S4096x1_0 : (⟨S4096, .i32⟩ : BufTy).Contents (Elt F) → (⟨S4096x1, .i32⟩ : BufTy).Contents (Elt F)),
   StableHlo.unary main_v3 main_v4 (broadcastInDim S4096x256 ![0, 1] bcast_S4096x1_S4096x256_0_1 : (⟨S4096x1, .i32⟩ : BufTy).Contents (Elt F) → (⟨S4096x256, .i32⟩ : BufTy).Contents (Elt F))]
abbrev mid : List (HloOp τ sig (Elt F)) :=
  [StableHlo.unary main_v5_1 main_v6 ((transpose S4x256x4 [0, 2, 1] · transposes_S4x4x256_S4x256x4_0_2_1) : (⟨S4x4x256, .i32⟩ : BufTy).Contents (Elt F) → (⟨S4x256x4, .i32⟩ : BufTy).Contents (Elt F)),
   StableHlo.reshape main_v5_0 main_v7 (rfl : (.f32 : EltTy) = .f32) shapeCasts_S4x8192x128_S32768x128,
   StableHlo.reshape main_v6 main_v8 (rfl : (.i32 : EltTy) = .i32) shapeCasts_S4x256x4_S4096]
abbrev suf : List (HloOp τ sig (Elt F)) :=
  [StableHlo.reshape main_v9 main_v10 (rfl : (.f32 : EltTy) = .f32) shapeCasts_S1024x96_S4x256x96,
   StableHlo.unary main_v10 main_v11 ((transpose S4x96x256 [0, 2, 1] · transposes_S4x256x96_S4x96x256_0_2_1) : (⟨S4x256x96, .f32⟩ : BufTy).Contents (Elt F) → (⟨S4x96x256, .f32⟩ : BufTy).Contents (Elt F))]

/-- The projection and selection call, as the pipeline library names it. -/
abbrev callP : Prog (TpuEff nD τ sig (Elt F) (ΛP (F := F)) .tc) PUnit := .op (.customCall (Pipeline.entry 0) ()) fun _ => .ret ⟨⟩

theorem main_seq (d : Dev nD) :
    main (F := F) d = seqK pre (SparseCore.liftProg (callP (F := F)) >>= fun _ => seqK mid ((sc (F := F)).run d 0 >>= fun _ => seqK suf (pure ⟨⟩))) := rfl

abbrev rf (r : Ref sig .tc) : DevRef τ sig := Proc.devRef .tc r

variable (m : (ℓ : Loc nD τ sig) → Buf (Elt F) ℓ) (ρ : Dev nD → PrngReg)

def V0 (d : Dev nD) : Valuation τ sig (Elt F) := fun b => m (d, b)
/-- Before the first call, after it, and before the second. -/
def Va (d : Dev nD) : Valuation τ sig (Elt F) := after pre (V0 m d)
def Vb (d : Dev nD) : Valuation τ sig (Elt F) := afterV (Va m) d
def V1 (d : Dev nD) : Valuation τ sig (Elt F) := after mid (Vb m d)
def ci (d : Dev nD) : Buf (Elt F) (iLoc d) := V1 m d (rf iRef)
def cx (d : Dev nD) : Buf (Elt F) (xLoc d) := V1 m d (rf xRef)
def cb (d : Dev nD) : Buf (Elt F) (bLoc d) := V1 m d (rf bRef)
def co (d : Dev nD) : Buf (Elt F) (oLoc d) := V1 m d (rf oRef)
def V2 (d : Dev nD) : Valuation τ sig (Elt F) := Function.update (V1 m d) (rf oRef) (outC (ci m) (cx m) (cb m) d)
def V3 (d : Dev nD) : Valuation τ sig (Elt F) := after suf (V2 m d)

/-- The call's arrays. -/
abbrev callRefs : Finset (DevRef τ sig) := {rf iRef, rf xRef, rf bRef, rf oRef}

theorem callRefs_sub : callRefs ⊆ ucRefs τ sig := by decide

omit [FloatOps F] in
theorem held_call (d : Dev nD) (W : Valuation τ sig (Elt F)) :
    (held (SparseCore.T d) callRefs W : sProp 𝕄)
      = iprop((iLoc d ↦{fullShare} W (rf iRef)) ∗ (xLoc d ↦{fullShare} W (rf xRef)) ∗ (bLoc d ↦{fullShare} W (rf bRef)) ∗ oLoc d ↦{fullShare} W (rf oRef)) := by
  unfold held callRefs
  rw [SparseCore.bigSep_insert' (by decide), SparseCore.bigSep_insert' (by decide), SparseCore.bigSep_insert' (by decide), bigSep_singleton]

theorem held_before (d : Dev nD) :
    (held (SparseCore.T d) (ucRefs τ sig) (V1 m d) : sProp 𝕄)
      = iprop(wholes (ci m) (cx m) (cb m) d (co m d) ∗ held (SparseCore.T d) (ucRefs τ sig \ callRefs) (V1 m d)) := by
  rw [held_sub_split (SparseCore.T d) callRefs_sub, held_call]; rfl

theorem held_after (d : Dev nD) :
    (held (SparseCore.T d) (ucRefs τ sig) (V2 m d) : sProp 𝕄)
      = iprop(wholes (ci m) (cx m) (cb m) d (outC (ci m) (cx m) (cb m) d) ∗ held (SparseCore.T d) (ucRefs τ sig \ callRefs) (V1 m d)) := by
  rw [held_sub_split (SparseCore.T d) callRefs_sub, held_call]
  have e (r : DevRef τ sig) (h : r ≠ rf oRef) : V2 m d r = V1 m d r := Function.update_of_ne h _ _
  rw [e _ (by decide), e _ (by decide), e _ (by decide), show V2 m d (rf oRef) = outC (ci m) (cx m) (cb m) d from Function.update_self ..]
  refine congrArg (fun X : sProp 𝕄 => iprop(wholes (ci m) (cx m) (cb m) d (outC (ci m) (cx m) (cb m) d) ∗ X)) ?_
  unfold held
  refine bigSep_congr fun b hb => ?_
  rw [e b fun h => (Finset.mem_sdiff.1 hb).2 (h ▸ by decide)]

abbrev FIN (d : Dev nD) : sProp 𝕄 := held (SparseCore.T d) (ucRefs τ sig) (V3 m d)

theorem pre_sub : ∀ op ∈ (pre : List (HloOp τ sig (Elt F))), op.bufs ⊆ ucRefs τ sig := by
  refine List.forall_iff_forall_mem.mp ⟨?_, ?_, ?_, ?_, ?_, ?_, ?_⟩
  · exact sub_ucRefs _ (by simp only [StableHlo.unary_bufs_sub])
  · exact sub_ucRefs _ (by simp only [StableHlo.nullary_bufs_sub])
  · exact sub_ucRefs _ (by simp only [StableHlo.TRef.unary, StableHlo.unary_bufs_sub])
  · exact sub_ucRefs _ (by simp only [StableHlo.TRef.binary, StableHlo.binary_bufs_sub])
  · exact sub_ucRefs _ (by simp only [StableHlo.nullary_bufs_sub])
  · exact sub_ucRefs _ (by simp only [StableHlo.unary_bufs_sub])
  · exact sub_ucRefs _ (by simp only [StableHlo.unary_bufs_sub])
theorem mid_sub : ∀ op ∈ (mid : List (HloOp τ sig (Elt F))), op.bufs ⊆ ucRefs τ sig := by
  intro op h
  fin_cases h <;> exact sub_ucRefs _ (by simp only [StableHlo.unary_bufs_sub, StableHlo.reshape_bufs_sub])
theorem suf_sub : ∀ op ∈ (suf : List (HloOp τ sig (Elt F))), op.bufs ⊆ ucRefs τ sig := by
  intro op h
  fin_cases h <;> exact sub_ucRefs _ (by simp only [StableHlo.unary_bufs_sub, StableHlo.reshape_bufs_sub])
theorem pre_fresh : ∀ op ∈ (pre : List (HloOp τ sig (Elt F))), op.fresh = ∅ :=
  List.forall_iff_forall_mem.mp ⟨rfl, rfl, rfl, rfl, rfl, rfl, rfl⟩
theorem mid_fresh : ∀ op ∈ (mid : List (HloOp τ sig (Elt F))), op.fresh = ∅ := by
  intro op h
  fin_cases h <;> rfl
theorem suf_fresh : ∀ op ∈ (suf : List (HloOp τ sig (Elt F))), op.fresh = ∅ := by
  intro op h
  fin_cases h <;> rfl

/-- The rest of the TensorCore's launch state, beside what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) : ((K (F := F)).tcSt EH d 0 : sProp 𝕄) = iprop(owing d ∗ tcRest d) := rfl
theorem tcSt_open (d : Dev nD) : ((K (F := F)).tcSt EH d 0 : sProp 𝕄) ⊢ iprop(owing d ∗ tcRest d) := by
  rw [tcSt_eq]

theorem tcSt_close (d : Dev nD) : iprop(owing d ∗ tcRest d) ⊢ ((K (F := F)).tcSt EH d 0 : sProp 𝕄) := by
  rw [tcSt_eq]

/-- The first call run in the TensorCore's own program. -/
theorem region_run (V : Dev nD → Valuation τ sig (Elt F)) (d : Dev nD) (Φ : PUnit → sProp 𝕄) :
    iprop(((boundary (SparseCore.T d : Thread nD τ) ∗ held (SparseCore.T d) (ucRefs τ sig) (afterV V d) ∗ owing d) -∗ Φ ⟨⟩)
        ∗ boundary (SparseCore.T d : Thread nD τ) ∗ (held (SparseCore.T d) (ucRefs τ sig) (V d) ∗ owing d) ∗ levAts (K (F := F)).L (K (F := F)).lev ∗ dealt d)
      ⊢ wp frame (wpE (D (F := F)) 𝒱 (SparseCore.T d) none) Set.univ (callP (F := F)) Φ := by
  have h := Pipeline.RegionSeg.wp (pcfgs (F := F)) adm (dats V) none (pins_inj (F := F)) EP (defs₀ (F := F)) 𝒱₀ (K (F := F)).L (K (F := F)).lev (reg V) d none
    (fun u hu => absurd hu (by simp)) (fun _ => .ret ⟨⟩) Φ
  rw [show (reg V).pre d = iprop(held (SparseCore.T d) (ucRefs τ sig) (V d) ∗ owing d) from rfl,
    show (reg V).post d = iprop(held (SparseCore.T d) (ucRefs τ sig) (afterV V d) ∗ owing d) from rfl] at h
  iintro ⟨HΦ, Hb, Hpre, HL, ⟨Hg, Ht⟩⟩
  iapply h
  isplitl [HΦ]
  · iintro H
    rw [wp_ret]
    imodintro
    iapply HΦ
    iexact H
  isplitl [Hb]; · iexact Hb
  isplitl [Hpre]; · iexact Hpre
  isplitl [HL]; · iexact HL
  isplitl [Hg]; · iexact Hg
  iexact Ht

/-- The first call, from all of the device's arrays to all of them. -/
theorem run_call (κ : GSem nD τ sig → ℕ) (d : Dev nD) (Φ : PUnit → sProp 𝕄) :
    iprop((K (F := F)).ctx EH (P (ci m) (cx m) (cb m) (co m)) κ ∗ dealt d ∗ owing d ∗ boundary (SparseCore.T d : Thread nD τ) ∗ held (SparseCore.T d) (ucRefs τ sig) (Va m d)
        ∗ ((owing d ∗ boundary (SparseCore.T d : Thread nD τ) ∗ held (SparseCore.T d) (ucRefs τ sig) (Vb m d)) -∗ Φ ⟨⟩))
      ⊢ wp frame (wpE ((K (F := F)).defs (D (F := F))) 𝒱 (SparseCore.T d) none) Set.univ (SparseCore.liftProg (callP (F := F))) Φ := by
  iintro ⟨Hctx, Hd, HO, Hb, Hh, HΦ⟩
  iapply ((K (F := F)).wp_liftProg (D (F := F)) 𝒱 (SparseCore.T d) Set.univ none (callP (F := F)) Φ)
  iapply (region_run (Va m) d Φ)
  isplitl [HΦ]
  · iintro ⟨Hb, Hh, HO⟩
    iapply HΦ
    isplitl [HO]; · iexact HO
    isplitl [Hb]; · iexact Hb
    iexact Hh
  isplitl [Hb]; · iexact Hb
  isplitl [HO Hh]
  · isplitl [Hh]; · iexact Hh
    iexact HO
  isplitl [Hctx]
  · unfold SparseCore.Cfg.ctx
    icases Hctx with ⟨HL, -⟩
    iexact HL
  iexact Hd

/-- @main on device `d`'s TensorCore: every unscoped array at the values the steps compute. -/
theorem hmain (κ : GSem nD τ sig → ℕ) (d : Dev nD) :
    iprop((K (F := F)).ctx EH (P (ci m) (cx m) (cb m) (co m)) κ ∗ (K (F := F)).tcSt EH d 0 ∗ (K (F := F)).tcRes m ρ d ∗ dealt d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from unscopedBufs_held d (V0 m d)]
  rw [main_seq, ← seq_bind_seqK]
  iintro ⟨#Hctx, Hst, ⟨Hb, Hh, Hts, -⟩, Hd⟩
  iapply (wp_seq 𝒱 none Set.univ d (ucRefs τ sig) _ pre pre_sub pre_fresh (V0 m d)) $$ [Hb Hh]
  · isplitl [Hb] <;> iassumption
  rw [show after pre (V0 m d) = Va m d from rfl]
  iintro ⟨Hb, Hh⟩
  rw [wp_bind]
  ihave Hst := (tcSt_open d) $$ Hst
  icases Hst with ⟨HO, Hrest⟩
  iapply (run_call m κ d _)
  isplitr; · iexact Hctx
  isplitl [Hd]; · iexact Hd
  isplitl [HO]; · iexact HO
  isplitl [Hb]; · iexact Hb
  isplitl [Hh]; · iexact Hh
  iintro ⟨HO, Hb, Hh⟩
  rw [← seq_bind_seqK]
  iapply (wp_seq 𝒱 none Set.univ d (ucRefs τ sig) _ mid mid_sub mid_fresh (Vb m d)) $$ [Hb Hh]
  · isplitl [Hb] <;> iassumption
  rw [show after mid (Vb m d) = V1 m d from rfl, held_before]
  iintro ⟨Hb, Hw, Hr⟩
  rw [wp_bind]
  iapply ((K (F := F)).wp_run (D (F := F)) 𝒱 (EH := EH) (P := P (ci m) (cx m) (cb m) (co m)) κ d 0) $$ [HO Hrest Hw Hr Hb Hts]
  isplitr; · iexact Hctx
  isplitl [HO Hrest]
  · iapply (tcSt_close d)
    isplitl [HO] <;> iassumption
  isplitl [Hw]
  · rw [st0_eq]; iexact Hw
  rw [dn0_eq]
  iintro ⟨Hst, Hw⟩
  rw [← seq_bind_seqK]
  iapply (wp_seq 𝒱 none Set.univ d (ucRefs τ sig) _ suf suf_sub suf_fresh (V2 m d)) $$ [Hb Hw Hr]
  · rw [held_after]
    isplitl [Hb]; · iexact Hb
    isplitl [Hw] <;> iassumption
  iintro ⟨Hb, Hh⟩
  rw [wp_pure]
  imodintro
  isplitl [Hst]; · iexact Hst
  isplitl [Hh]; · iexact Hh
  isplitl [Hb] <;> iassumption

def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  unfold FIN fq
  have key : ∀ S : Finset (DevRef τ sig), iprop(held (SparseCore.T d) S (V3 m d) ∗ SI s') ⊢ (iprop(⌜∀ b ∈ S, s'.mem.mem (d, b) = V3 m d b⌝ ∗ SI s') : sProp 𝕄) := by
    classical
    intro S
    induction S using Finset.induction_on with
    | empty =>
      iintro ⟨-, HSI⟩
      isplitr; · ipureintro; intro b hb; exact absurd hb (Finset.notMem_empty b)
      iexact HSI
    | insert a S ha ih =>
      unfold held at ih ⊢
      rw [SparseCore.bigSep_insert' ha]
      iintro ⟨⟨Ha, HS⟩, HSI⟩
      ihave H := (persistent_entails_right (SI_pointsTo_agree (st := s') (ℓ := ((SparseCore.T d).1, a)) (I := Finset.univ) (q := fullShare) (f := V3 m d a))) $$ [HSI Ha]
      · isplitl [HSI] <;> iassumption
      icases H with ⟨%h1, HSI, -⟩
      ihave H := ih $$ [HS HSI]
      · isplitl [HS] <;> iassumption
      icases H with ⟨%h2, HSI⟩
      isplitr
      · ipureintro
        intro b hb
        rcases Finset.mem_insert.1 hb with rfl | hb
        · exact funext fun i => h1 i (Finset.mem_univ i)
        · exact h2 b hb
      · iexact HSI
  exact (key _).trans sep_elim_left

/-! ## The program's run -/

def QC : PUnit × MemSt nD τ sig (Elt F) → Prop := fun r => (∀ c : Dev nD, ∀ b ∈ ucRefs τ sig, r.2.mem (c, b) = V3 m c b) ∧ r.2.sem = fun _ => 0

theorem run_main [∀ e, Nonempty (Elt F e)] (hpre : InRange (ci m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ci m) (cx m) (cb m) (co m)) (A := ∅) facts v₀
    (fun q hq => match q with | 0 => nomatch hq)
    (fun q _ => match q with | 0 => tileObl (ci m) (cx m) (cb m) (co m) facts hpre)
    (fun q _ => match q with | 0 => SparseCore.Cfg.VecSplit.of_plain (vecSplit (ci m) (cx m) (cb m) (co m)))
    m ρ main dealt (FIN m) (u₀ (F := F)) (sep_elim_left.trans (hu₀ (ci m) (cx m) (cb m) (co m))) (hmain m ρ) (fq m) (hfin m) (QC m) (fun _ h hz => ⟨h, hz⟩)

end Cert.Proof.WholeTile

end
-- ==== Proof.WholeValue.lean ====
/-
  The whole kernel's result, element by element, over the extended reals: from the arguments to the four rows of the
  projected table that a result averages.
-/
module

public import proofs.«01_k».proof.Proof.ProjArrays
public import proofs.«01_k».proof.Proof.WholeRun
public import Idealize.ShloMosaic.Lib.Claim

@[expose] public section

set_option maxRecDepth 16384

noncomputable section

namespace Cert.Proof.WholeValue

open Cert.KernelIdeal Cert.KernelIdeal.Gen Cert.Proof.WholeBase Cert.Proof.ProjRegion Cert.Proof.ProjArrays Cert.Proof.StepValue
open Cert.Proof.WholeTile (Va Vb V0 V1 V2 V3 ci cx cb co outVal rowOf meanOf InRange pre mid suf)
open Idealize.ShloMosaic hiding floor
open Idealize.ShloMosaic.TcCoe

variable (m : (ℓ : Loc nD τ sig) → Buf (Elt Ideal) ℓ) (d : Dev nD)

/-! ## Before the first call -/

theorem Va_arg0 : Va m d (rf main_arg0) = m ((d : Thread nD τ).loc main_arg0) := by
  unfold Va pre; after_results_simp; rfl
theorem Va_arg1 : Va m d (rf main_arg1) = m ((d : Thread nD τ).loc main_arg1) := by
  unfold Va pre; after_results_simp; rfl
theorem Va_arg2 : Va m d (rf main_arg2) = m ((d : Thread nD τ).loc main_arg2) := by
  unfold Va pre; after_results_simp; rfl
theorem Va_arg3 : Va m d (rf main_arg3) = m ((d : Thread nD τ).loc main_arg3) := by
  unfold Va pre; after_results_simp; rfl

theorem Va_v4 (e : Fin 4096) (j : Fin 256) : Va m d (rf main_v4) (ix2 e j) = BitVec.ofNat 32 e.val := by
  have h : Va m d (rf main_v4) = broadcastInDim S4096x256 ![0, 1] bcast_S4096x1_S4096x256_0_1 (broadcastInDim S4096x1 ![0] bcast_S4096_S4096x1_0 (iotaInDim S4096 32 0)) := by
    unfold Va pre; after_results_simp
  rw [h]
  pointwise

/-- The weights, as the arguments hold them. -/
def wOf : S96x768.Idx → EReal := m ((d : Thread nD τ).loc main_arg2)

theorem Va_v1 (k : Fin 768) (o : Fin 96) : Va m d (rf main_v1) (ix2 k (⟨o.val, by omega⟩ : Fin 128)) = (wOf m d) (ix2 o k) := by
  have h : Va m d (rf main_v1) = pad S768x128 ![0, 0] ![0, 32] ![0, 0] (transpose S768x96 [1, 0] (wOf m d) transposes_S96x768_S768x96_1_0) (sitofp (F := Ideal) .f32 (constantI S_ 32 0#32)) pads_S768x96_S768x128_000_0320 h_S_ := by
    unfold Va pre; after_results_simp; rfl
  rw [h]
  pointwise

/-! ## Between the calls -/

theorem Vb_v5_0 : Vb m d (rf main_v5_0) = projected (Va m) d := after_v5_0 (Va m) d
theorem Vb_v5_1 : Vb m d (rf main_v5_1) = numbers (Va m) d := after_v5_1 (Va m) d
theorem Vb_arg (r : Ref sig .tc) (h : ∀ w, r ≠ Pipeline.arrRef spec0 w) : Vb m d (rf r) = Va m d (rf r) := by
  exact Pipeline.afterRegion_of_not_arr (dats (Va m) 0 d) (Va m d) h

theorem cx_apply (b : Fin 4) (e : Fin 8192) (o : Fin 128) (h : b.val * 8192 + e.val < 32768) :
    cx m d (ix2 (⟨b.val * 8192 + e.val, h⟩ : Fin 32768) o) = projected (Va m) d (ix3 b e o) := by
  have e1 : cx m d = shapeCast S32768x128 (projected (Va m) d) shapeCasts_S4x8192x128_S32768x128 := by
    unfold cx V1 mid
    rw [← Vb_v5_0]
    after_results_simp
    rfl
  rw [e1]
  pointwise

theorem ci_apply (b : Fin 4) (j : Fin 256) (k : Fin 4) (h : (b.val * 256 + j.val) * 4 + k.val < 4096) :
    ci m d (ix1 (⟨(b.val * 256 + j.val) * 4 + k.val, h⟩ : Fin 4096)) = numbers (Va m) d (ix3 b k j) := by
  have e1 : ci m d = shapeCast S4096 (transpose S4x256x4 [0, 2, 1] (numbers (Va m) d) transposes_S4x4x256_S4x256x4_0_2_1) shapeCasts_S4x256x4_S4096 := by
    unfold ci V1 mid
    rw [← Vb_v5_1]
    after_results_simp
    rfl
  rw [e1]
  pointwise

theorem cb_eq : cb m d = m ((d : Thread nD τ).loc main_arg3) := by
  have e1 : cb m d = Vb m d (rf main_arg3) := by
    unfold cb V1 mid
    after_results_simp
  rw [e1, Vb_arg m d main_arg3 (by decide), Va_arg3]

/-! ## After the second call -/

theorem V2_out : V2 m d (rf main_v9) = outVal (F := Ideal) (ci m d) (cx m d) (cb m d) := by
  unfold V2
  exact Function.update_self (rf main_v9) _ _

theorem V3_result (b : Fin 4) (o : Fin 96) (j : Fin 256) :
    V3 m d (rf main_v11) (ix3 b o j) = outVal (F := Ideal) (ci m d) (cx m d) (cb m d) (ix2 (⟨b.val * 256 + j.val, by omega⟩ : Fin 1024) o) := by
  have e1 : V3 m d (rf main_v11) = transpose S4x96x256 [0, 2, 1] (shapeCast S4x256x96 (outVal (F := Ideal) (ci m d) (cx m d) (cb m d)) shapeCasts_S1024x96_S4x256x96) transposes_S4x256x96_S4x96x256_0_2_1 := by
    unfold V3 suf
    rw [show outVal (F := Ideal) (ci m d) (cx m d) (cb m d) = V2 m d (rf main_v9) from (V2_out m d).symm]
    after_results_simp
    rfl
  rw [e1]
  pointwise

/-! ## The result from the arguments -/

/-- The columns to match, the table's columns and the bias, as the arguments hold them. -/
def xArg : S4x768x256.Idx → EReal := m ((d : Thread nD τ).loc main_arg0)
def lutArg : S4x768x8192.Idx → EReal := m ((d : Thread nD τ).loc main_arg1)
def bArg : S96.Idx → EReal := m ((d : Thread nD τ).loc main_arg3)

/-- The similarities. -/
def simA (b : Fin 4) (j : Fin 256) (e : Fin 8192) : EReal :=
  simOf (fun k => xArg m d (ix3 b k j)) fun k => lutArg m d (ix3 b k e)

theorem sim_eq (b : Fin 4) (j : Fin 256) : sim (Va m) d b j = simA m d b j := by
  funext e
  unfold sim simA xOf lutOf xArg lutArg
  rw [Va_arg0, Va_arg1]

/-- Row `e` of batch `b` of the projected table, at output channel `o`. -/
def rowA (b : Fin 4) (e : Fin 8192) (o : Fin 96) : EReal := ∑ k : Fin 768, lutArg m d (ix3 b k e) * wOf m d (ix2 o k)

theorem projected_apply (b : Fin 4) (e : Fin 8192) (o : Fin 96) :
    projected (Va m) d (ix3 b e (⟨o.val, by omega⟩ : Fin 128)) = rowA m d b e o := by
  unfold projected rowA
  refine Finset.sum_congr rfl fun k _ => ?_
  have e1 : lutOf (Va m) d (ix3 b k e) = lutArg m d (ix3 b k e) := by unfold lutOf lutArg; rw [Va_arg1]
  have e2 : wtOf (Va m) d (ix2 k (⟨o.val, by omega⟩ : Fin 128)) = wOf m d (ix2 o k) := Va_v1 m d k o
  rw [← e1, ← e2]
  rfl

/-- The four best of a column, in some order of the equal ones' positions. -/
theorem best_exists (f : Fin 8192 → EReal) : ∃ best : Fin 4 → Fin 8192, Select.Least4 (Set.range (Select.posKey f)) (Select.posKey f ∘ best) :=
  ⟨_, Select.sortedFrom_least f (fun a b => decide (f b < f a)) (fun a b => decide_eq_true_iff) (by omega)⟩

variable (hsim : ∀ b j e, Select.floor < simA m d b j e)
include hsim

theorem ci_best (b : Fin 4) (j : Fin 256) {best : Fin 4 → Fin 8192}
    (hb : Select.Least4 (Set.range (Select.posKey (simA m d b j))) (Select.posKey (simA m d b j) ∘ best)) (k : Fin 4)
    (h : (b.val * 256 + j.val) * 4 + k.val < 4096) :
    ci m d (ix1 (⟨(b.val * 256 + j.val) * 4 + k.val, h⟩ : Fin 4096)) = BitVec.ofNat 32 (b.val * 8192 + (best k).val) := by
  rw [ci_apply m d b j k h]
  refine numbers_apply (Va m) d (Va_v4 m d) (fun b j e => ?_) b j ?_ k
  · rw [sim_eq]; exact hsim b j e
  · rw [sim_eq]; exact hb

/-- Every row number the first call leaves names a row of the table. -/
theorem ci_lt (n : S4096.Idx) : (ci m d n : BitVec 32).toNat < 32768 := by
  obtain ⟨i, rfl⟩ : ∃ i : Fin 4096, n = ix1 i := ⟨n 0, eq_ix1 n⟩
  have hi := i.isLt
  obtain ⟨best, hb⟩ := best_exists (simA m d ⟨i.val / 1024, by omega⟩ ⟨i.val / 4 % 256, by omega⟩)
  have e := ci_best m d hsim ⟨i.val / 1024, by omega⟩ ⟨i.val / 4 % 256, by omega⟩ hb ⟨i.val % 4, by omega⟩ (by show (i.val / 1024 * 256 + i.val / 4 % 256) * 4 + i.val % 4 < 4096; omega)
  have hi' : (⟨(i.val / 1024 * 256 + i.val / 4 % 256) * 4 + i.val % 4, by omega⟩ : Fin 4096) = i := Fin.ext (by show (i.val / 1024 * 256 + i.val / 4 % 256) * 4 + i.val % 4 = i.val; omega)
  rw [show ci m d (ix1 i) = _ from (congrArg (fun a => ci m d (ix1 a)) hi'.symm).trans e, BitVec.toNat_ofNat]
  have := (best ⟨i.val % 4, by omega⟩).isLt
  refine lt_of_le_of_lt (Nat.mod_le _ _) ?_
  show i.val / 1024 * 8192 + _ < 32768
  omega

/-- A result: the four best rows of the projected table added, a quarter taken, the bias added. -/
theorem result_apply (b : Fin 4) (o : Fin 96) (j : Fin 256) {best : Fin 4 → Fin 8192}
    (hb : Select.Least4 (Set.range (Select.posKey (simA m d b j))) (Select.posKey (simA m d b j) ∘ best)) :
    V3 m d (rf main_v11) (ix3 b o j)
      = ((rowA m d b (best 0) o + rowA m d b (best 1) o + rowA m d b (best 2) o + rowA m d b (best 3) o) * Ideal.ofBits .f32 0x3E800000#32 + bArg m d (ix1 o) : EReal) := by
  rw [V3_result]
  have row (k : Fin 4) (h : 4 * (b.val * 256 + j.val) + k.val < 4096) :
      cx m d (ix2 (rowOf (ci m d) ⟨4 * (b.val * 256 + j.val) + k.val, h⟩) (⟨o.val, by omega⟩ : Fin 128)) = rowA m d b (best k) o := by
    have hk := (best k).isLt
    have hr : rowOf (ci m d) ⟨4 * (b.val * 256 + j.val) + k.val, h⟩ = ⟨b.val * 8192 + (best k).val, by omega⟩ := by
      refine Fin.ext ?_
      have e1 : (⟨4 * (b.val * 256 + j.val) + k.val, h⟩ : Fin 4096) = ⟨(b.val * 256 + j.val) * 4 + k.val, by omega⟩ := Fin.ext (by show 4 * (b.val * 256 + j.val) + k.val = (b.val * 256 + j.val) * 4 + k.val; omega)
      unfold rowOf
      rw [e1]
      show (BitVec.toNat (ci m d (ValueIdx.ix1 _))) % 32768 = b.val * 8192 + (best k).val
      rw [← ix1_eq_valueIdx, ci_best m d hsim b j hb k, BitVec.toNat_ofNat]
      show (b.val * 8192 + (best k).val) % 2 ^ 32 % 32768 = b.val * 8192 + (best k).val
      omega
    rw [hr, cx_apply, projected_apply]
  have key : (outVal (F := Ideal) (ci m d) (cx m d) (cb m d) (ix2 (⟨b.val * 256 + j.val, by omega⟩ : Fin 1024) o) : EReal)
      = ((rowA m d b (best 0) o + rowA m d b (best 1) o + rowA m d b (best 2) o + rowA m d b (best 3) o) * Ideal.ofBits .f32 0x3E800000#32 + bArg m d (ix1 o) : EReal) := by
    rw [← row 0 (by show 4 * (b.val * 256 + j.val) + 0 < 4096; omega), ← row 1 (by show 4 * (b.val * 256 + j.val) + 1 < 4096; omega),
      ← row 2 (by show 4 * (b.val * 256 + j.val) + 2 < 4096; omega), ← row 3 (by show 4 * (b.val * 256 + j.val) + 3 < 4096; omega)]
    unfold bArg
    rw [← cb_eq m d]
    rfl
  exact key

end Cert.Proof.WholeValue

end
-- ==== Proof.WholeRef.lean ====
/-
  The whole reference's result as one function of its arguments, cut at the similarities and at the row numbers.
-/
module

public import proofs.«01_k».proof.Defs
public import proofs.«01_k».proof.Proof.Gen.ReferenceIdeal.Run

@[expose] public section

noncomputable section

namespace Cert.Proof.WholeRef

open Cert.ReferenceIdeal Cert.ReferenceIdeal.Gen
open Idealize.ShloMosaic Idealize.SL.Sem

/-- The columns of the two inputs, divided by their norms and multiplied: every token's similarity with every entry. -/
def sims {F : FTy → Type} [FloatOps F] (x : FVec F S4x768x256 .f32) (lut : FVec F S4x768x8192 .f32) : FVec F S4x256x8192 .f32 :=
  Host.dotGeneral dot_S4x256x768_S4x768x8192_S4x256x8192_2_1_1_2_0_0 none (Host.divf (transpose S4x256x768 [0, 2, 1] x transposes_S4x768x256_S4x256x768_0_2_1) (broadcastInDim S4x256x768 ![0, 1, 2] bcast_S4x256x1_S4x256x768_0_1_2 (Host.sqrt (broadcastInDim S4x256x1 ![0, 1] bcast_S4x256_S4x256x1_0_1 (Host.reduceAdd (mulf (transpose S4x256x768 [0, 2, 1] x transposes_S4x768x256_S4x256x768_0_2_1) (transpose S4x256x768 [0, 2, 1] x transposes_S4x768x256_S4x256x768_0_2_1)) (constant S_ .f32 0x00000000#32) reducesTo_S4x256x768_S4x256_d2 h_S_))))) (transpose S4x768x8192 [0, 2, 1] (Host.divf (transpose S4x8192x768 [0, 2, 1] lut transposes_S4x768x8192_S4x8192x768_0_2_1) (broadcastInDim S4x8192x768 ![0, 1, 2] bcast_S4x8192x1_S4x8192x768_0_1_2 (Host.sqrt (broadcastInDim S4x8192x1 ![0, 1] bcast_S4x8192_S4x8192x1_0_1 (Host.reduceAdd (mulf (transpose S4x8192x768 [0, 2, 1] lut transposes_S4x768x8192_S4x8192x768_0_2_1) (transpose S4x8192x768 [0, 2, 1] lut transposes_S4x768x8192_S4x8192x768_0_2_1)) (constant S_ .f32 0x00000000#32) reducesTo_S4x8192x768_S4x8192_d2 h_S_))))) transposes_S4x8192x768_S4x768x8192_0_2_1)

/-- The numbers of the four entries with the greatest similarities. -/
def nums {F : FTy → Type} [FloatOps F] (s : FVec F S4x256x8192 .f32) : IVec S4x256x4 32 :=
  (Host.topK S4x256x4 2 (FloatOps.cmpfTotal .gt) s sliceFits_S4x256x8192_S4x256x4).2

/-- The mean of the entries so numbered, projected, with the bias. -/
def mixed {F : FTy → Type} [FloatOps F] (i : IVec S4x256x4 32) (lut : FVec F S4x768x8192 .f32) (W : FVec F S96x768 .f32) (b : FVec F S96 .f32) : FVec F S4x96x256 .f32 :=
  addf (transpose S4x96x256 [0, 2, 1] (Host.dotGeneral dot_S4x768x256_S96x768_S4x256x96_1_1_02_0_n_n none (transpose S4x768x256 [0, 2, 1] (Host.divf (Host.reduceAdd (Host.gather gather_S4x8192x768_S4x256x4x1_S4x256x4x768_3_1_0_0_1_3_11768 (transpose S4x8192x768 [0, 2, 1] lut transposes_S4x768x8192_S4x8192x768_0_2_1) (broadcastInDim S4x256x4x1 ![0, 1, 2] bcast_S4x256x4_S4x256x4x1_0_1_2 (select (cmpi .slt i (broadcastInDim S4x256x4 ![] bcast_S_S4x256x4 (constantI S_ 32 0#32))) (addi i (broadcastInDim S4x256x4 ![] bcast_S_S4x256x4 (constantI S_ 32 8192#32))) i))) (constant S_ .f32 0x00000000#32) reducesTo_S4x256x4x768_S4x256x768_d2 h_S_) (broadcastInDim S4x256x768 ![] bcast_S_S4x256x768 (constant S_ .f32 0x40800000#32))) transposes_S4x256x768_S4x768x256_0_2_1) W) transposes_S4x256x96_S4x96x256_0_2_1) (broadcastInDim S4x96x256 ![0, 1, 2] bcast_S1x96x1_S4x96x256_0_1_2 (broadcastInDim S1x96x1 ![1] bcast_S96_S1x96x1_1 b))

/-- The reference's result as a function of the four arguments. -/
def rval {F : FTy → Type} [FloatOps F] (x : FVec F S4x768x256 .f32) (lut : FVec F S4x768x8192 .f32) (W : FVec F S96x768 .f32) (b : FVec F S96 .f32) : FVec F S4x96x256 .f32 :=
  mixed (nums (sims x lut)) lut W b

/-- Its run: the result, the arguments unchanged. -/
theorem run_values {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = rval (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.Proof.WholeRef

end
-- ==== Proof.WholeRefValue.lean ====
/-
  The whole reference's result over the extended reals, element by element.
-/
module

public import proofs.«01_k».proof.Proof.WholeRef
public import proofs.«01_k».proof.Proof.StepValue
public import Idealize.ShloMosaic.Lib.Pointwise

@[expose] public section

set_option maxRecDepth 16384

noncomputable section

namespace Cert.Proof.WholeRef

open Cert.ReferenceIdeal Cert.ReferenceIdeal.Gen
open Cert.Proof.StepValue (simOf)
open Idealize.ShloMosaic hiding floor

/-! ## Rows taken batch by batch -/

section Rows
variable {α : Type} {N C A B K w : Nat}

/-- The dimension numbers of taking whole rows of `A` tables `[N, C]` at row numbers `[A, B, K, 1]`, each batch from its own table. -/
abbrev batchDims (N C A B K : Nat)
    (wf : GatherDims.WF ⟨3, ![A, N, C]⟩ ⟨4, ![A, B, K, 1]⟩ ⟨4, ![A, B, K, C]⟩ [3] [1] [0] [1] [0] 3 ![1, 1, C]) :
    GatherDims ⟨3, ![A, N, C]⟩ ⟨4, ![A, B, K, 1]⟩ ⟨4, ![A, B, K, C]⟩ where
  offsetDims := [3]
  collapsedSliceDims := [1]
  operandBatchingDims := [0]
  startIndicesBatchingDims := [0]
  startIndexMap := [1]
  indexVectorDim := 3
  sliceSizes := ![1, 1, C]
  wf := wf

/-- Taking rows batch by batch, at an index. -/
theorem gather_batch (hN : 0 < N)
    (wf : GatherDims.WF ⟨3, ![A, N, C]⟩ ⟨4, ![A, B, K, 1]⟩ ⟨4, ![A, B, K, C]⟩ [3] [1] [0] [1] [0] 3 ![1, 1, C])
    (x : (⟨3, ![A, N, C]⟩ : Shape).Idx → α) (idx : IVec ⟨4, ![A, B, K, 1]⟩ w) (a : Fin A) (b : Fin B) (k : Fin K) (c : Fin C) :
    Host.gather (batchDims N C A B K wf) x idx (ix4 a b k c)
      = x (ix3 a ⟨min (idx (ix4 a b k 0)).toInt.toNat (N - 1), by omega⟩ c) := by
  unfold Host.gather
  congr 1
  funext e
  refine Fin.ext ?_
  show (batchDims N C A B K wf).start (ix4 a b k c) idx e + (batchDims N C A B K wf).batchCoord (ix4 a b k c) e
      + (batchDims N C A B K wf).offCoord (ix4 a b k c) e = _
  have h012 : e = 0 ∨ e = 1 ∨ e = 2 := by
    match e with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (batchDims N C A B K wf).startIndexMap from List.mem_singleton.mpr rfl)]
    have hsi : (batchDims N C A B K wf).siIdx (ix4 a b k c) ⟨List.idxOf (1 : Fin 3) (batchDims N C A B K wf).startIndexMap,
        List.idxOf_lt_length_iff.2 (List.mem_singleton.mpr rfl)⟩ = ix4 a b k 0 := by
      funext f; refine Fin.ext ?_
      match f with
      | ⟨0, _⟩ => rfl
      | ⟨1, _⟩ => rfl
      | ⟨2, _⟩ => rfl
      | ⟨3, _⟩ => rfl
    rw [hsi]
    rfl
  · rw [GatherDims.batchCoord_eq_zero _ _ _ (fun h => by simp at h)]
    unfold GatherDims.start
    rw [dif_neg (show ¬ (2 : Fin 3) ∈ (batchDims N C A B K wf).startIndexMap from fun h => absurd (congrArg Fin.val (List.mem_singleton.1 h)) (show ¬ 2 = 1 by decide))]
    simp only [Nat.zero_add]
    rfl

end Rows

/-! ## The similarities and the four entries -/

theorem sims_apply (x : FVec Ideal S4x768x256 .f32) (lut : FVec Ideal S4x768x8192 .f32) (b : Fin 4) (t : Fin 256) (e : Fin 8192) :
    sims x lut (ix3 b t e) = simOf (fun k => x (ix3 b k t)) fun k => lut (ix3 b k e) := by
  pointwise [sims]
  unfold simOf
  exact Finset.sum_congr rfl fun k _ => mul_comm _ _

/-- The positions of one token's entries, those of greater similarity first. -/
def best (f : Fin 8192 → EReal) (k : Fin 4) : Fin 8192 :=
  sortedFrom (fun a a' => decide (f a' < f a)) (Fin.castLE (by omega) k)

theorem best_least (f : Fin 8192 → EReal) : Select.Least4 (Set.range (Select.posKey f)) (Select.posKey f ∘ best f) :=
  Select.sortedFrom_least f (fun a b => decide (f b < f a)) (fun a b => decide_eq_true_iff) (by omega)

theorem gt_bit (x y : EReal) : (FloatOps.cmpfTotal (F := Ideal) (φ := .f32) .gt x y == 1#1) = decide (y < x) := by
  rw [Ideal.cmpfTotal_def]
  show (BitVec.ofBool (decide (y < x)) == 1#1) = _
  cases decide (y < x) <;> rfl

section Top
variable {A B n K : Nat}

theorem along_apply (i : (⟨3, ![A, B, n]⟩ : Shape).Idx) (b : Fin A) (t : Fin B) (h0 : (i 0).val = b.val) (h1 : (i 1).val = t.val) (e : Fin n) :
    Shape.Idx.along i 2 e = ix3 b t e := by
  funext a
  refine Fin.ext ?_
  match a with
  | ⟨0, _⟩ => exact h0
  | ⟨1, _⟩ => exact h1
  | ⟨2, _⟩ => rfl

/-- The positions of the greatest elements along the last of three axes, at an index. -/
theorem top_apply (s : (⟨3, ![A, B, n]⟩ : Shape).Idx → EReal) (h : (⟨3, ![A, B, n]⟩ : Shape).Slices (fun _ => 0) ⟨3, ![A, B, K]⟩)
    (hn : K ≤ n) (b : Fin A) (t : Fin B) (k : Fin K) :
    (Host.topK ⟨3, ![A, B, K]⟩ 2 (FloatOps.cmpfTotal (F := Ideal) (φ := .f32) .gt) s h).2 (ix3 b t k)
      = BitVec.ofNat 32 (sortedFrom (fun a a' : Fin n => decide (s (ix3 b t a') < s (ix3 b t a))) (Fin.castLE hn k)).val := by
  unfold Host.topK Host.sort2 extractStridedSlice
  simp only [dif_pos (show 2 < (⟨3, ![A, B, n]⟩ : Shape).rank from (by decide : 2 < 3))]
  generalize hi : (fun a : Fin (⟨3, ![A, B, n]⟩ : Shape).rank => (⟨_, _⟩ : Fin ((⟨3, ![A, B, n]⟩ : Shape).size a))) = i
  have h0 : (i 0).val = b.val := by rw [← hi]; exact Nat.zero_add _
  have h1 : (i 1).val = t.val := by rw [← hi]; exact Nat.zero_add _
  have hR : (fun a a' : Fin n => FloatOps.cmpfTotal (F := Ideal) (φ := .f32) .gt (s (Shape.Idx.along i 2 a)) (s (Shape.Idx.along i 2 a')) == 1#1)
      = fun a a' => decide (s (ix3 b t a') < s (ix3 b t a)) := by
    funext a a'
    rw [along_apply i b t h0 h1 a, along_apply i b t h0 h1 a']
    exact gt_bit _ _
  have hp (p : Fin n) (hp : p.val = 0 + k.val) : sortedFrom (fun a a' : Fin n => FloatOps.cmpfTotal (F := Ideal) (φ := .f32) .gt (s (Shape.Idx.along i 2 a)) (s (Shape.Idx.along i 2 a')) == 1#1) p
      = sortedFrom (fun a a' : Fin n => decide (s (ix3 b t a') < s (ix3 b t a))) (Fin.castLE hn k) := by
    rw [hR, show p = Fin.castLE hn k from Fin.ext (hp.trans (Nat.zero_add _))]
  exact congrArg (fun q : Fin n => BitVec.ofNat 32 q.val) (hp ⟨0 + k.val, by omega⟩ rfl)

end Top

theorem nums_apply (s : FVec Ideal S4x256x8192 .f32) (b : Fin 4) (t : Fin 256) (k : Fin 4) :
    nums s (ix3 b t k) = BitVec.ofNat 32 (best (fun e => s (ix3 b t e)) k).val :=
  top_apply s sliceFits_S4x256x8192_S4x256x4 (by omega) b t k

/-- A word below the number of entries is itself when read signed, and is not wrapped. -/
theorem word_entry (w : BitVec 32) (h : w.toNat < 8192) :
    (Scalar.select (IntOp.cmpi .slt w 0#32) (IntOp.addi w 8192#32) w).toInt.toNat = w.toNat := by
  have e : IntOp.cmpi .slt w 0#32 = 0#1 := by
    simp only [IntOp.cmpi, BitVec.slt_eq_decide, BitVec.toInt_eq_toNat_cond, BitVec.toNat_ofNat]
    rw [decide_eq_false (by omega)]; rfl
  rw [e]
  show w.toInt.toNat = _
  rw [BitVec.toInt_eq_toNat_cond, if_pos (by omega)]; rfl

/-- The mean of four numbered entries, projected, with the bias, at an index. -/
theorem mixed_apply (i : IVec S4x256x4 32) (lut : FVec Ideal S4x768x8192 .f32) (W : FVec Ideal S96x768 .f32) (bias : FVec Ideal S96 .f32)
    (b : Fin 4) (o : Fin 96) (t : Fin 256) (n : Fin 4 → Fin 8192) (hn : ∀ k, i (ix3 b t k) = BitVec.ofNat 32 (n k).val) :
    mixed i lut W bias (ix3 b o t)
      = ((∑ c : Fin 768, Ideal.div (∑ k : Fin 4, lut (ix3 b c (n k))) (Ideal.ofBits .f32 0x40800000#32) * W (ix2 o c)) + bias (ix1 o) : EReal) := by
  pointwise [mixed]
  refine congrArg (fun x => x + bias (ix1 o)) (Finset.sum_congr rfl fun c _ => ?_)
  refine congrArg (fun x => Ideal.div x _ * W (ix2 o c)) (Finset.sum_congr rfl fun k _ => ?_)
  rw [show gather_S4x8192x768_S4x256x4x1_S4x256x4x768_3_1_0_0_1_3_11768
    = batchDims 8192 768 4 256 4 gather_S4x8192x768_S4x256x4x1_S4x256x4x768_3_1_0_0_1_3_11768_wf from rfl, gather_batch (by decide)]
  have hk := (n k).isLt
  have e : ∀ w : BitVec 32, w = Scalar.select (IntOp.cmpi .slt (i (ix3 b t k)) 0#32) (IntOp.addi (i (ix3 b t k)) 8192#32) (i (ix3 b t k)) →
      min w.toInt.toNat (8192 - 1) = (n k).val := by
    rintro w rfl
    have hw : (i (ix3 b t k)).toNat = (n k).val := by rw [hn, BitVec.toNat_ofNat, Nat.mod_eq_of_lt (by omega)]
    rw [word_entry _ (by omega), hw]; omega
  have hrow : ∀ r : Fin 8192, r = n k → transpose S4x8192x768 [0, 2, 1] lut transposes_S4x768x8192_S4x8192x768_0_2_1 (ix3 b r c) = lut (ix3 b c (n k)) := by
    rintro r rfl
    pointwise
  refine hrow _ (Fin.ext ?_)
  show min _ _ = (n k).val
  refine e _ ?_
  pointwise

end Cert.Proof.WholeRef

end
-- ==== Proof.PreWhole.lean ====
/-
  The precondition of the whole kernel's claims, read back: no column of either input is zero, and the table and the
  weights are finite.
-/
module

public import proofs.«01_k».proof.Pre_finite_without_zero_columns
public import Idealize.ShloMosaic.Lib.ReduceAll
public import Idealize.ShloMosaic.Lib.Pointwise

@[expose] public section

noncomputable section

namespace Cert.Proof.PreWhole

open Cert.Pre_finite_without_zero_columns
open Idealize.ShloMosaic

/-- The side conditions that the precondition states. -/
instance facts : Facts where
  bcast_S_S4x768x256 := by decide
  reducesTo_S4x768x256_S4x256_d1 := by decide
  h_S_ := by decide
  reducesTo_S4x256_S_d0_1 := by decide
  bcast_S_S4x768x8192 := by decide
  reducesTo_S4x768x8192_S4x8192_d1 := by decide
  reducesTo_S4x8192_S_d0_1 := by decide
  reducesTo_S4x768x8192_S_d0_1_2 := by decide
  bcast_S_S96x768 := by decide
  reducesTo_S96x768_S_d0_1 := by decide

/-- A left fold by `or` from 0 that came out 1 met a 1. -/
theorem foldl_ori {ι : Type} (f : ι → BitVec 1) :
    ∀ (l : List ι) (init : BitVec 1), l.foldl (fun r n => IntOp.ori r (f n)) init = 1#1 → init = 1#1 ∨ ∃ n ∈ l, f n = 1#1
  | [], _, h => .inl h
  | a :: l, init, h => by
    rcases foldl_ori f l _ h with h | ⟨n, hn, e⟩
    · exact (IntOp.ori_eq_one.mp h).imp id fun e => ⟨a, List.mem_cons_self, e⟩
    · exact .inr ⟨n, List.mem_cons_of_mem _ hn, e⟩

/-- `jnp.any` along some axes: a reduce by `or` from 0 that is 1 at `j` had a 1 at an index that reduces into `j`. -/
theorem reduce_ori {s t u : Shape} {axes : List (Fin s.rank)} (x : s.Idx → BitVec 1) (init : u.Idx → BitVec 1) (h : s.ReducesTo axes t)
    (hu : 0 < u.numel) (j : t.Idx) (h0 : init (Shape.Idx.first hu) = 0#1) (e : Host.reduce IntOp.ori x init h hu j = 1#1) :
    ∃ i, h.drop i = j ∧ x i = 1#1 := by
  rw [Host.reduce_eq_foldl] at e
  rcases foldl_ori x _ _ e with h1 | ⟨i, hi, h1⟩
  · rw [h0] at h1; exact absurd h1 (by decide)
  · exact ⟨i, by simpa using (List.mem_filter.mp hi).2, h1⟩

theorem une_zero (x : EReal) (h : FloatOps.cmpf (F := Ideal) (φ := .f32) .une x (Ideal.ofBits .f32 0x00000000#32) = 1#1) : x ≠ 0 := by
  rw [Ideal.ofBits_zero_f32] at h
  intro e
  rw [Ideal.cmpf_def, e] at h
  exact absurd h (by simp [Ideal.cmp])

theorem abs_lt_top (x : EReal) (h : FloatOps.cmpf (F := Ideal) (φ := .f32) .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht, Ideal.cmpf_def] at h
  induction x with
  | bot => exact absurd h (by simp [Ideal.cmp])
  | coe r => exact ⟨r, rfl⟩
  | top => exact absurd h (by simp [Ideal.cmp])

/-- What the precondition says. -/
theorem read (x : FVec Ideal S4x768x256 .f32) (lut : FVec Ideal S4x768x8192 .f32) (W : FVec Ideal S96x768 .f32) (b : FVec Ideal S96 .f32)
    (h : fn (F := Ideal) x lut W b = fun _ => 1#1) :
    (∀ (c : Fin 4) (j : Fin 256), ∃ k : Fin 768, x (ix3 c k j) ≠ (0 : EReal))
    ∧ (∀ (c : Fin 4) (e : Fin 8192), ∃ k : Fin 768, lut (ix3 c k e) ≠ (0 : EReal))
    ∧ (∀ i, ∃ r : ℝ, lut i = (r : EReal)) ∧ ∀ i, ∃ r : ℝ, W i = (r : EReal) := by
  have e := congrFun h ix0
  unfold fn fn_part1 at e
  obtain ⟨e, h4⟩ := IntOp.andi_eq_one.mp e
  obtain ⟨e, h3⟩ := IntOp.andi_eq_one.mp e
  obtain ⟨h1, h2⟩ := IntOp.andi_eq_one.mp e
  refine ⟨fun c j => ?_, fun c e => ?_, fun i => ?_, fun i => ?_⟩
  · have a := Host.reduce_andi_all _ _ _ _ _ h1 (ix2 c j)
    obtain ⟨i, hi, hx⟩ := reduce_ori _ _ _ _ _ rfl a
    refine ⟨i 1, ?_⟩
    have e0 : i 0 = c := Fin.ext ((Shape.ReducesTo.drop_apply_val_of_eq (Facts.reducesTo_S4x768x256_S4x256_d1) i 0 0).symm.trans (congrArg Fin.val (congrFun hi 0)))
    have e2 : i 2 = j := Fin.ext ((Shape.ReducesTo.drop_apply_val_of_eq (Facts.reducesTo_S4x768x256_S4x256_d1) i 1 2).symm.trans (congrArg Fin.val (congrFun hi 1)))
    have hij : i = ix3 c (i 1) j := (eq_ix3 i).trans (by rw [e0, e2]; rfl)
    exact fun hz => une_zero _ hx ((congrArg x hij).trans hz)
  · have a := Host.reduce_andi_all _ _ _ _ _ h2 (ix2 c e)
    obtain ⟨i, hi, hx⟩ := reduce_ori _ _ _ _ _ rfl a
    refine ⟨i 1, ?_⟩
    have e0 : i 0 = c := Fin.ext ((Shape.ReducesTo.drop_apply_val_of_eq (Facts.reducesTo_S4x768x8192_S4x8192_d1) i 0 0).symm.trans (congrArg Fin.val (congrFun hi 0)))
    have e2 : i 2 = e := Fin.ext ((Shape.ReducesTo.drop_apply_val_of_eq (Facts.reducesTo_S4x768x8192_S4x8192_d1) i 1 2).symm.trans (congrArg Fin.val (congrFun hi 1)))
    have hij : i = ix3 c (i 1) e := (eq_ix3 i).trans (by rw [e0, e2]; rfl)
    exact fun hz => une_zero _ hx ((congrArg lut hij).trans hz)
  · exact abs_lt_top _ (Host.reduce_andi_all _ _ _ _ _ h3 i)
  · exact abs_lt_top _ (Host.reduce_andi_all _ _ _ _ _ h4 i)

end Cert.Proof.PreWhole

end
-- ==== Proof.Bounds.lean ====
/-
  Normalised columns: the entries of a column divided by its norm lie between -1 and 1 whenever the column is not zero,
  also when entries are infinite, so a similarity of two such columns is a real number far above the kernel's floor.
-/
module

public import proofs.«01_k».proof.Proof.StepValue

@[expose] public section

noncomputable section

namespace Cert.Proof.Bounds

open Cert.Proof.StepValue
open Idealize.ShloMosaic hiding floor

theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem coe_sum {n : ℕ} (f : Fin n → ℝ) : ((∑ i, f i : ℝ) : EReal) = ∑ i, (f i : EReal) := by
  exact map_sum (⟨⟨(↑), EReal.coe_zero⟩, EReal.coe_add⟩ : ℝ →+ EReal) f Finset.univ

/-- An entry of a column that is not zero, divided by the column's norm, is a real number between -1 and 1. -/
theorem norm_entry {n : ℕ} (r : Fin n → EReal) (h : ∃ k, r k ≠ 0) (k : Fin n) :
    ∃ y : ℝ, -1 ≤ y ∧ y ≤ 1 ∧ Ideal.div (r k) (Ideal.sqrt (∑ i, r i * r i)) = (y : EReal) := by
  by_cases hf : ∀ i, ∃ s : ℝ, r i = (s : EReal)
  · choose s hs using hf
    obtain ⟨k0, hk0⟩ := h
    have hsum : ∑ i, r i * r i = ((∑ i, s i * s i : ℝ) : EReal) := by
      rw [coe_sum]
      exact Finset.sum_congr rfl fun i _ => by rw [hs i, EReal.coe_mul]
    have hn (i : Fin n) : 0 ≤ s i * s i := mul_self_nonneg _
    have hk0' : s k0 ≠ 0 := fun e => hk0 (by rw [hs, e, EReal.coe_zero])
    have hpos : 0 < ∑ i, s i * s i :=
      lt_of_lt_of_le (mul_self_pos.mpr hk0') (Finset.single_le_sum (f := fun i => s i * s i) (fun i _ => hn i) (Finset.mem_univ k0))
    have hle : s k * s k ≤ ∑ i, s i * s i := Finset.single_le_sum (f := fun i => s i * s i) (fun i _ => hn i) (Finset.mem_univ k)
    have hq : 0 < Real.sqrt (∑ i, s i * s i) := Real.sqrt_pos.mpr hpos
    have habs : |s k| ≤ Real.sqrt (∑ i, s i * s i) := Real.abs_le_sqrt (by rw [sq]; exact hle)
    refine ⟨s k * (1 / Real.sqrt (∑ i, s i * s i)), ?_, ?_, ?_⟩
    · rw [mul_one_div, le_div_iff₀ hq]; have := (abs_le.mp habs).1; linarith
    · rw [mul_one_div, div_le_iff₀ hq]; have := (abs_le.mp habs).2; linarith
    · rw [hsum, Ideal.sqrt_coe, if_neg (not_lt.mpr hpos.le), Ideal.div_coe hq.ne', hs k, EReal.coe_mul]
  · obtain ⟨i0, hi0⟩ := not_forall.mp hf
    have htop : r i0 * r i0 = ⊤ := by
      generalize r i0 = x at hi0
      induction x with
      | bot => rfl
      | coe s => exact absurd ⟨s, rfl⟩ hi0
      | top => rfl
    have hsum : ∑ i, r i * r i = ⊤ := top_le_iff.mp (htop ▸ Finset.single_le_sum (f := fun i => r i * r i) (fun i _ => mul_self_nonneg' _) (Finset.mem_univ i0))
    refine ⟨0, by norm_num, by norm_num, ?_⟩
    rw [hsum, Ideal.sqrt_top, Ideal.div, if_neg EReal.top_ne_zero, EReal.inv_top, mul_zero, EReal.coe_zero]

theorem floor_lt : Select.floor < ((-768 : ℝ) : EReal) := by
  have e : Select.floor = ((-(2 ^ 24 - 1) * 2 ^ 104 : ℝ) : EReal) := by
    unfold Select.floor
    simp [Ideal.ofBits, Ideal.ieee, -EReal.coe_mul]; norm_num
  rw [e, EReal.coe_lt_coe_iff]
  norm_num

/-- The similarity of two columns, neither zero, lies above the kernel's floor. -/
theorem floor_lt_simOf (x r : Fin 768 → EReal) (hx : ∃ k, x k ≠ 0) (hr : ∃ k, r k ≠ 0) : Select.floor < simOf x r := by
  choose a a1 a2 ha using norm_entry x hx
  choose b b1 b2 hb using norm_entry r hr
  have e : simOf x r = ((∑ k, b k * a k : ℝ) : EReal) := by
    unfold simOf
    rw [coe_sum]
    exact Finset.sum_congr rfl fun k _ => by rw [ha, hb, EReal.coe_mul]
  rw [e]
  refine lt_of_lt_of_le floor_lt (EReal.coe_le_coe_iff.mpr ?_)
  have hk (k : Fin 768) : (-1 : ℝ) ≤ b k * a k := by
    have := a1 k; have := a2 k; have := b1 k; have := b2 k
    nlinarith
  calc (-768 : ℝ) = ∑ _k : Fin 768, (-1 : ℝ) := by simp
    _ ≤ _ := Finset.sum_le_sum fun k _ => hk k

end Cert.Proof.Bounds

end
-- ==== Proof.WholeFinal.lean ====
/-
  The whole kernel against the whole reference over the extended reals: the same four entries are chosen, and the mean of
  four projected entries is the projection of their mean when the table and the weights are finite.
-/
module

public import proofs.«01_k».proof.Proof.WholeValue
public import proofs.«01_k».proof.Proof.WholeRefValue
public import proofs.«01_k».proof.Proof.PreWhole
public import proofs.«01_k».proof.Proof.Bounds
public import Idealize.ShloMosaic.Lib.Pipeline.RegionArraysS

@[expose] public section

set_option maxRecDepth 16384

noncomputable section

namespace Cert.Proof.WholeValue

open Cert.KernelIdeal Cert.KernelIdeal.Gen Cert.Proof.WholeBase Cert.Proof.ProjRegion Cert.Proof.ProjArrays Cert.Proof.StepValue
open Cert.Proof.WholeTile (Va Vb V0 V1 V2 V3 ci cx cb co outVal rowOf meanOf InRange pre mid suf)
open Idealize.ShloMosaic hiding floor
open Idealize.ShloMosaic.TcCoe Idealize.SL.Sem

/-! ## The algebra -/

theorem quarter_val : Ideal.ofBits .f32 0x3E800000#32 = ((1 / 4 : ℝ) : EReal) := by simp [Ideal.ofBits, Ideal.ieee, -EReal.coe_mul]; norm_num
theorem four_val : Ideal.ofBits .f32 0x40800000#32 = ((4 : ℝ) : EReal) := by simp [Ideal.ofBits, Ideal.ieee, -EReal.coe_mul]; norm_num

/-- The mean of four projected rows is the projection of the rows' mean, when rows and weights are real. -/
theorem mean_of_projected (l : Fin 4 → Fin 768 → EReal) (w : Fin 768 → EReal) (hl : ∀ k c, ∃ r : ℝ, l k c = (r : EReal)) (hw : ∀ c, ∃ r : ℝ, w c = (r : EReal)) :
    ((∑ c, l 0 c * w c) + (∑ c, l 1 c * w c) + (∑ c, l 2 c * w c) + ∑ c, l 3 c * w c) * Ideal.ofBits .f32 0x3E800000#32
      = ∑ c, Ideal.div (∑ k : Fin 4, l k c) (Ideal.ofBits .f32 0x40800000#32) * w c := by
  choose L hL using hl
  choose v hv using hw
  have hrow (k : Fin 4) : ∑ c, l k c * w c = ((∑ c, L k c * v c : ℝ) : EReal) := by
    rw [Bounds.coe_sum]
    exact Finset.sum_congr rfl fun c _ => by rw [hL, hv, EReal.coe_mul]
  have hterm (c : Fin 768) : Ideal.div (∑ k : Fin 4, l k c) (Ideal.ofBits .f32 0x40800000#32) * w c
      = (((L 0 c + L 1 c + L 2 c + L 3 c) * (1 / 4) * v c : ℝ) : EReal) := by
    rw [four_val, Ideal.div_coe (by norm_num), Fin.sum_univ_four, hL, hL, hL, hL, hv]
    simp only [EReal.coe_mul, EReal.coe_add]
  rw [hrow, hrow, hrow, hrow, quarter_val, Finset.sum_congr rfl fun c _ => hterm c, ← Bounds.coe_sum,
    ← EReal.coe_add, ← EReal.coe_add, ← EReal.coe_add, ← EReal.coe_mul]
  refine congrArg _ ?_
  rw [← Finset.sum_add_distrib, ← Finset.sum_add_distrib, ← Finset.sum_add_distrib, Finset.sum_mul]
  exact Finset.sum_congr rfl fun c _ => by ring

/-! ## The kernel's values -/

variable (m : (ℓ : Loc nD τ sig) → Buf (Elt Ideal) ℓ) (d : Dev nD)

/-- What the precondition says of the arguments. -/
structure Good : Prop where
  x : ∀ (b : Fin 4) (j : Fin 256), ∃ k : Fin 768, xArg m d (ix3 b k j) ≠ 0
  lut : ∀ (b : Fin 4) (e : Fin 8192), ∃ k : Fin 768, lutArg m d (ix3 b k e) ≠ 0
  real : ∀ i, ∃ r : ℝ, lutArg m d i = (r : EReal)
  weights : ∀ i, ∃ r : ℝ, wOf m d i = (r : EReal)

theorem good_sim (h : Good m d) (b : Fin 4) (j : Fin 256) (e : Fin 8192) : Select.floor < simA m d b j e :=
  Bounds.floor_lt_simOf _ _ (h.x b j) (h.lut b e)

/-- The result is the reference's function of the arguments. -/
theorem result_eq (h : Good m d) :
    (V3 m d (rf main_v11) : S4x96x256.Idx → EReal)
      = WholeRef.rval (F := Ideal) (m ((d : Thread nD τ).loc main_arg0)) (m ((d : Thread nD τ).loc main_arg1)) (m ((d : Thread nD τ).loc main_arg2)) (m ((d : Thread nD τ).loc main_arg3)) := by
  have at3 (b : Fin 4) (o : Fin 96) (j : Fin 256) : V3 m d (rf main_v11) (ix3 b o j)
      = WholeRef.rval (F := Ideal) (m ((d : Thread nD τ).loc main_arg0)) (m ((d : Thread nD τ).loc main_arg1)) (m ((d : Thread nD τ).loc main_arg2)) (m ((d : Thread nD τ).loc main_arg3)) (ix3 b o j) := by
    have hs : (fun e : Fin 8192 => WholeRef.sims (F := Ideal) (m ((d : Thread nD τ).loc main_arg0)) (m ((d : Thread nD τ).loc main_arg1)) (ix3 b j e)) = simA m d b j :=
      funext fun e => WholeRef.sims_apply _ _ b j e
    have hr := WholeRef.mixed_apply (WholeRef.nums (WholeRef.sims (F := Ideal) (m ((d : Thread nD τ).loc main_arg0)) (m ((d : Thread nD τ).loc main_arg1))))
      (m ((d : Thread nD τ).loc main_arg1)) (m ((d : Thread nD τ).loc main_arg2)) (m ((d : Thread nD τ).loc main_arg3)) b o j (WholeRef.best (simA m d b j))
      fun k => (WholeRef.nums_apply _ b j k).trans (by rw [hs])
    refine (result_apply m d (good_sim m d h) b o j (WholeRef.best_least (simA m d b j))).trans (Eq.trans ?_ hr.symm)
    exact congrArg (fun x : EReal => x + bArg m d (ix1 o))
      (mean_of_projected (fun k c => lutArg m d (ix3 b c (WholeRef.best (simA m d b j) k))) (fun c => wOf m d (ix2 o c)) (fun _ _ => h.real _) fun _ => h.weights _)
  funext i
  exact (congrArg (V3 m d (rf main_v11)) (eq_ix3 i)).trans ((at3 (i 0) (i 1) (i 2)).trans (congrArg (WholeRef.rval (F := Ideal) _ _ _ _) (eq_ix3 i).symm))

/-- The arguments are as they were. -/
theorem V3_arg (r : Ref sig .tc) (h : r = main_arg0 ∨ r = main_arg1 ∨ r = main_arg2 ∨ r = main_arg3) : V3 m d (rf r) = m ((d : Thread nD τ).loc r) := by
  have h3 : V3 m d (rf r) = V2 m d (rf r) := by
    unfold V3 suf
    rcases h with rfl | rfl | rfl | rfl <;> after_results_simp
  have h2 : V2 m d (rf r) = V1 m d (rf r) := by
    refine Function.update_of_ne ?_ _ _
    rcases h with rfl | rfl | rfl | rfl <;> decide
  have h1 : V1 m d (rf r) = Vb m d (rf r) := by
    unfold V1 mid
    rcases h with rfl | rfl | rfl | rfl <;> after_results_simp
  have h0 : Vb m d (rf r) = Va m d (rf r) := by
    refine Pipeline.afterRegion_keeps (dats (Va m) 0 d) (Va m d) launch0.win.arr_inj (fun w => ?_) r ?_
    · fin_cases w <;> rfl
    · rcases h with rfl | rfl | rfl | rfl <;> decide
  rw [h3, h2, h1, h0]
  rcases h with rfl | rfl | rfl | rfl
  · exact Va_arg0 m d
  · exact Va_arg1 m d
  · exact Va_arg2 m d
  · exact Va_arg3 m d

theorem refs_mem : rf main_arg0 ∈ Pipeline.ucRefs τ sig ∧ rf main_arg1 ∈ Pipeline.ucRefs τ sig ∧ rf main_arg2 ∈ Pipeline.ucRefs τ sig
    ∧ rf main_arg3 ∈ Pipeline.ucRefs τ sig ∧ rf main_v11 ∈ Pipeline.ucRefs τ sig := by decide

/-- The whole kernel's run from arguments that the precondition admits: the reference's function of the arguments, the
    arguments unchanged, every semaphore at zero. -/
theorem run_values (ρ : Dev nD → PrngReg) (h : ∀ d, Good m d) :
    θ_run (Cert.KernelIdeal.defs (F := Ideal)) (Cert.KernelIdeal.threads (F := Ideal)) ⟨m, fun _ => 0, ρ⟩
      (fun r => (∀ c : Dev nD, r.2.mem ((c : Thread nD τ).loc main_v11)
            = WholeRef.rval (F := Ideal) (m ((c : Thread nD τ).loc main_arg0)) (m ((c : Thread nD τ).loc main_arg1)) (m ((c : Thread nD τ).loc main_arg2)) (m ((c : Thread nD τ).loc main_arg3))
          ∧ r.2.mem ((c : Thread nD τ).loc main_arg0) = m ((c : Thread nD τ).loc main_arg0)
          ∧ r.2.mem ((c : Thread nD τ).loc main_arg1) = m ((c : Thread nD τ).loc main_arg1)
          ∧ r.2.mem ((c : Thread nD τ).loc main_arg2) = m ((c : Thread nD τ).loc main_arg2)
          ∧ r.2.mem ((c : Thread nD τ).loc main_arg3) = m ((c : Thread nD τ).loc main_arg3))
        ∧ r.2.sem = fun _ => 0) :=
  (θ_run Cert.KernelIdeal.defs _ _).mono
    (fun _ q => ⟨fun c => ⟨(q.1 c _ refs_mem.2.2.2.2).trans (result_eq m c (h c)), (q.1 c _ refs_mem.1).trans (V3_arg m c _ (by simp)),
      (q.1 c _ refs_mem.2.1).trans (V3_arg m c _ (by simp)), (q.1 c _ refs_mem.2.2.1).trans (V3_arg m c _ (by simp)),
      (q.1 c _ refs_mem.2.2.2.1).trans (V3_arg m c _ (by simp))⟩, q.2⟩)
    (WholeTile.run_main m ρ fun d n => ci_lt m d (good_sim m d (h d)) n)

/-- The precondition gives that. -/
theorem good_of (h : Cert.Pre_finite_without_zero_columns.fn (F := Ideal) (m ((d : Thread nD τ).loc main_arg0)) (m ((d : Thread nD τ).loc main_arg1))
    (m ((d : Thread nD τ).loc main_arg2)) (m ((d : Thread nD τ).loc main_arg3)) = fun _ => 1#1) : Good m d :=
  have q := PreWhole.read _ _ _ _ h
  ⟨q.1, q.2.1, q.2.2.1, q.2.2.2⟩

end Cert.Proof.WholeValue

end
-- ==== Proof.lean ====
/-
  The whole kernel: over the extended reals, from every memory that the precondition admits, it runs to its end, leaves its
  arguments as they were and every semaphore at zero, and computes what the plain reference computes. Beside it the
  gather-and-average SparseCore call with its host code, the same for its own plain reference and also on machine words,
  from every memory whose row numbers name rows of the table; and the TensorCore call's run on machine words.
-/
module

public import proofs.«01_k».proof.Defs
public import proofs.«01_k».proof.Proof.Gen.Topk.Frame
public import proofs.«01_k».proof.Proof.Gen.TopkIdeal.Frame
public import proofs.«01_k».proof.Proof.Gen.Gather
public import proofs.«01_k».proof.Proof.Gen.Pre_rows_in_range
public import proofs.«01_k».proof.Proof.GatherValue
public import proofs.«01_k».proof.Proof.WholeFinal
public import Idealize.ShloMosaic.Adequacy
public import Idealize.ShloMosaic.Init

@[expose] public section

noncomputable section

namespace Cert.Proof

open Idealize.ShloMosaic Idealize.SL.Sem

/-! ## The precondition -/

/-- A word that is at least 0 and less than 32768 as a signed word is below 32768. -/
theorem word_in_range (v : BitVec 32) (e : IntOp.andi (IntOp.cmpi .sge v 0#32) (IntOp.cmpi .slt v 32768#32) = 1#1) : v.toNat < 32768 := by
  have both (p q : Bool) : IntOp.andi (BitVec.ofBool p) (BitVec.ofBool q) = 1#1 ↔ p = true ∧ q = true := by
    cases p <;> cases q <;> decide
  rw [IntOp.cmpi, IntOp.cmpi, both] at e
  simp only [BitVec.sle_eq_decide, BitVec.slt_eq_decide, decide_eq_true_eq, BitVec.toInt_eq_toNat_cond, BitVec.toNat_ofNat,
    Nat.reducePow, Nat.reduceMod] at e
  omega

/-- The precondition's function, all ones, bounds every row number. -/
theorem rows_ok {F : FTy → Type} [FloatOps F] (a0 : FVec F Cert.Pre_rows_in_range.S4x8192x128 .f32) (a1 : IVec Cert.Pre_rows_in_range.S4x4x256 32)
    (a2 : FVec F Cert.Pre_rows_in_range.S96 .f32) (h : Cert.Pre_rows_in_range.fn a0 a1 a2 = fun _ => 1#1) : GatherTile.RowsOK a1 := by
  intro j
  have e := congrFun h j
  simp only [Cert.Pre_rows_in_range.fn, andi, cmpi, broadcastInDim, constantI] at e
  exact word_in_range _ e

/-! ## The claims -/

theorem frame_gather : Cert.quiescent_Gather := fun m ρ hpre =>
  (θ_run Cert.GatherIdeal.defs _ _).mono (fun _ h => ⟨fun c => (h.1 c).2, h.2⟩)
    (GatherTile.run_values (F := Bits) m ρ (GatherTile.inRange_of m fun d => rows_ok _ _ _ (hpre d)))

theorem frame_gather_ideal : Cert.quiescent_GatherIdeal := fun m ρ hpre =>
  (θ_run Cert.GatherIdeal.defs _ _).mono (fun _ h => ⟨fun c => (h.1 c).2, h.2⟩)
    (GatherTile.run_values (F := Ideal) m ρ (GatherTile.inRange_of m fun d => rows_ok _ _ _ (hpre d)))

theorem frame_gather_reference : Cert.quiescent_GatherReferenceIdeal := fun m ρ _ =>
  (θ_run Cert.GatherReferenceIdeal.defs _ _).mono (fun r h => ⟨fun c => (h c).2, sem_eq_zero_of_no_sems (by decide) r.2⟩)
    (GatherRef.run_values (F := Ideal) m ρ)

theorem algebraic_gather : Cert.algebraic_GatherIdeal_GatherReferenceIdeal := fun m ρ m' ρ' hpre hagree =>
  ⟨fun c => GatherTile.kval (F := Ideal) (m (GatherTile.aT c Cert.GatherIdeal.main_arg0)) (m (GatherTile.aT c Cert.GatherIdeal.main_arg1)) (m (GatherTile.aT c Cert.GatherIdeal.main_arg2)),
    (θ_run Cert.GatherIdeal.defs _ _).mono (fun _ h c => h.1 c)
      (GatherTile.run_values (F := Ideal) m ρ (GatherTile.inRange_of m fun d => rows_ok _ _ _ (hpre d))),
    (θ_run Cert.GatherReferenceIdeal.defs _ _).mono
      (fun _ h c => ⟨(h c).1.trans (by
        rw [(hagree c).1, (hagree c).2.1, (hagree c).2.2]
        exact (GatherTile.values_eq _ _ _ (rows_ok _ _ _ (hpre c))).symm), (h c).2⟩)
      (GatherRef.run_values (F := Ideal) m' ρ')⟩

theorem frame_kernel_ideal : Cert.quiescent_KernelIdeal := fun m ρ hpre =>
  (θ_run Cert.KernelIdeal.defs _ _).mono (fun _ h => ⟨fun c => (h.1 c).2, h.2⟩)
    (WholeValue.run_values m ρ fun d => WholeValue.good_of m d (hpre d))

theorem frame_reference : Cert.quiescent_ReferenceIdeal := fun m ρ _ =>
  (θ_run Cert.ReferenceIdeal.defs _ _).mono (fun r h => ⟨fun c => (h c).2, sem_eq_zero_of_no_sems (by decide) r.2⟩)
    (WholeRef.run_values (F := Ideal) m ρ)

theorem algebraic_kernel : Cert.algebraic_KernelIdeal_ReferenceIdeal := fun m ρ m' ρ' hpre hagree =>
  ⟨fun c => WholeRef.rval (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run Cert.KernelIdeal.defs _ _).mono (fun _ h c => h.1 c)
      (WholeValue.run_values m ρ fun d => WholeValue.good_of m d (hpre d)),
    (θ_run Cert.ReferenceIdeal.defs _ _).mono
      (fun _ h c => ⟨(h c).1.trans (by rw [(hagree c).1, (hagree c).2.1, (hagree c).2.2.1, (hagree c).2.2.2]), (h c).2⟩)
      (WholeRef.run_values (F := Ideal) m' ρ')⟩

theorem claim : Cert.Claim :=
  ⟨Cert.Topk.Gen.facts, Cert.TopkIdeal.Gen.facts, Cert.Gather.Gen.facts, Cert.GatherIdeal.Gen.facts, Cert.GatherReferenceIdeal.Gen.facts,
    Cert.KernelIdeal.Gen.facts, Cert.ReferenceIdeal.Gen.facts, Cert.Pre_rows_in_range.Gen.facts, PreWhole.facts,
    fun m ρ _ => Cert.Topk.Gen.frame m ρ, fun m ρ _ => Cert.TopkIdeal.Gen.frame m ρ,
    frame_gather, frame_gather_ideal, frame_gather_reference, fun m ρ _ => frame_gather_reference m ρ trivial,
    frame_kernel_ideal, frame_reference, fun m ρ _ => frame_reference m ρ trivial,
    trivial, trivial, algebraic_gather, algebraic_kernel⟩

end Cert.Proof

end
